-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_OddSample (m : (ℓ : Loc Cert.OddSample.nD Cert.OddSample.τ Cert.OddSample.sig) → Buf (Elt Bits) ℓ) : Prop :=
  True

def Pre_OddSampleIdeal (m : (ℓ : Loc Cert.OddSampleIdeal.nD Cert.OddSampleIdeal.τ Cert.OddSampleIdeal.sig) → Buf (Elt Ideal) ℓ) : Prop :=
  True

def Pre_OddSampleRefIdeal (m : (ℓ : Loc Cert.OddSampleRefIdeal.nD Cert.OddSampleRefIdeal.τ Cert.OddSampleRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2))
      ∧ r.2.sem = fun _ => 0)

def quiescent_OddSample [hOddSample : Cert.OddSample.Facts] : Prop :=
  ∀ (m : (ℓ : Loc Cert.OddSample.nD Cert.OddSample.τ Cert.OddSample.sig) → Buf (Elt Bits) ℓ) (g : Dev Cert.OddSample.nD → PrngReg), Pre_OddSample m →
    θ_run (Cert.OddSample.defs (F := Bits)) (onTc (τ := Cert.OddSample.τ) (Cert.OddSample.main (F := Bits))) ⟨m, fun _ => 0, g⟩ (fun r => (∀ c : Dev Cert.OddSample.nD,
      r.2.mem ((c.tc : Thread Cert.OddSample.nD Cert.OddSample.τ).loc Cert.OddSample.main_arg0) = m ((c.tc : Thread Cert.OddSample.nD Cert.OddSample.τ).loc Cert.OddSample.main_arg0)
      ∧ r.2.mem ((c.tc : Thread Cert.OddSample.nD Cert.OddSample.τ).loc Cert.OddSample.main_arg1) = m ((c.tc : Thread Cert.OddSample.nD Cert.OddSample.τ).loc Cert.OddSample.main_arg1)
      ∧ r.2.mem ((c.tc : Thread Cert.OddSample.nD Cert.OddSample.τ).loc Cert.OddSample.main_arg2) = m ((c.tc : Thread Cert.OddSample.nD Cert.OddSample.τ).loc Cert.OddSample.main_arg2)
      ∧ r.2.mem ((c.tc : Thread Cert.OddSample.nD Cert.OddSample.τ).loc Cert.OddSample.main_arg3) = m ((c.tc : Thread Cert.OddSample.nD Cert.OddSample.τ).loc Cert.OddSample.main_arg3))
      ∧ r.2.sem = fun _ => 0)

def quiescent_OddSampleIdeal [hOddSampleIdeal : Cert.OddSampleIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg), Pre_OddSampleIdeal m →
    θ_run (Cert.OddSampleIdeal.defs (F := Ideal)) (onTc (τ := Cert.OddSampleIdeal.τ) (Cert.OddSampleIdeal.main (F := Ideal))) ⟨m, fun _ => 0, g⟩ (fun r => (∀ c : Dev Cert.OddSampleIdeal.nD,
      r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
      ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
      ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
      ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3))
      ∧ r.2.sem = fun _ => 0)

def quiescent_OddSampleRefIdeal [hOddSampleRefIdeal : Cert.OddSampleRefIdeal.Facts] : Prop :=
  ∀ (m : (ℓ : Loc Cert.OddSampleRefIdeal.nD Cert.OddSampleRefIdeal.τ Cert.OddSampleRefIdeal.sig) → Buf (Elt Ideal) ℓ) (g : Dev Cert.OddSampleRefIdeal.nD → PrngReg), Pre_OddSampleRefIdeal m →
    θ_run (Cert.OddSampleRefIdeal.defs (F := Ideal)) (onTc (τ := Cert.OddSampleRefIdeal.τ) (Cert.OddSampleRefIdeal.main (F := Ideal))) ⟨m, fun _ => 0, g⟩ (fun r => (∀ c : Dev Cert.OddSampleRefIdeal.nD,
      r.2.mem ((c.tc : Thread Cert.OddSampleRefIdeal.nD Cert.OddSampleRefIdeal.τ).loc Cert.OddSampleRefIdeal.main_arg0) = m ((c.tc : Thread Cert.OddSampleRefIdeal.nD Cert.OddSampleRefIdeal.τ).loc Cert.OddSampleRefIdeal.main_arg0)
      ∧ r.2.mem ((c.tc : Thread Cert.OddSampleRefIdeal.nD Cert.OddSampleRefIdeal.τ).loc Cert.OddSampleRefIdeal.main_arg1) = m ((c.tc : Thread Cert.OddSampleRefIdeal.nD Cert.OddSampleRefIdeal.τ).loc Cert.OddSampleRefIdeal.main_arg1)
      ∧ r.2.mem ((c.tc : Thread Cert.OddSampleRefIdeal.nD Cert.OddSampleRefIdeal.τ).loc Cert.OddSampleRefIdeal.main_arg2) = m ((c.tc : Thread Cert.OddSampleRefIdeal.nD Cert.OddSampleRefIdeal.τ).loc Cert.OddSampleRefIdeal.main_arg2)
      ∧ r.2.mem ((c.tc : Thread Cert.OddSampleRefIdeal.nD Cert.OddSampleRefIdeal.τ).loc Cert.OddSampleRefIdeal.main_arg3) = m ((c.tc : Thread Cert.OddSampleRefIdeal.nD Cert.OddSampleRefIdeal.τ).loc Cert.OddSampleRefIdeal.main_arg3))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4)
      ∧ r.2.mem ((c.tc : Thread Cert.LastSample.nD Cert.LastSample.τ).loc Cert.LastSample.main_arg5) = m ((c.tc : Thread Cert.LastSample.nD Cert.LastSample.τ).loc Cert.LastSample.main_arg5))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
      ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3)
      ∧ r.2.mem ((c.tc : Thread Cert.LastSampleRefIdeal.nD Cert.LastSampleRefIdeal.τ).loc Cert.LastSampleRefIdeal.main_arg4) = m ((c.tc : Thread Cert.LastSampleRefIdeal.nD Cert.LastSampleRefIdeal.τ).loc Cert.LastSampleRefIdeal.main_arg4)
      ∧ r.2.mem ((c.tc : Thread Cert.LastSampleRefIdeal.nD Cert.LastSampleRefIdeal.τ).loc Cert.LastSampleRefIdeal.main_arg5) = m ((c.tc : Thread Cert.LastSampleRefIdeal.nD Cert.LastSampleRefIdeal.τ).loc Cert.LastSampleRefIdeal.main_arg5))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v9)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v9) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v35) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v10)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v10) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v33) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v2_0)) (v1 : (c : Dev Cert.InIdeal.nD) → Buf (Elt Ideal) ((c.tc : Thread Cert.InIdeal.nD Cert.InIdeal.τ).loc Cert.InIdeal.main_v2_1)) (v2 : (c : Dev Cert.InIdeal.nD) → Buf (Elt Ideal) ((c.tc : Thread Cert.InIdeal.nD Cert.InIdeal.τ).loc Cert.InIdeal.main_v2_2)) (v3 : (c : Dev Cert.InIdeal.nD) → Buf (Elt Ideal) ((c.tc : Thread Cert.InIdeal.nD Cert.InIdeal.τ).loc Cert.InIdeal.main_v2_3)) (v4 : (c : Dev Cert.InIdeal.nD) → Buf (Elt Ideal) ((c.tc : Thread Cert.InIdeal.nD Cert.InIdeal.τ).loc Cert.InIdeal.main_v2_4)) (v5 : (c : Dev Cert.InIdeal.nD) → Buf (Elt Ideal) ((c.tc : Thread Cert.InIdeal.nD Cert.InIdeal.τ).loc Cert.InIdeal.main_v2_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2_0) = v0 c
          ∧ r.2.mem ((c.tc : Thread Cert.InIdeal.nD Cert.InIdeal.τ).loc Cert.InIdeal.main_v2_1) = v1 c
          ∧ r.2.mem ((c.tc : Thread Cert.InIdeal.nD Cert.InIdeal.τ).loc Cert.InIdeal.main_v2_2) = v2 c
          ∧ r.2.mem ((c.tc : Thread Cert.InIdeal.nD Cert.InIdeal.τ).loc Cert.InIdeal.main_v2_3) = v3 c
          ∧ r.2.mem ((c.tc : Thread Cert.InIdeal.nD Cert.InIdeal.τ).loc Cert.InIdeal.main_v2_4) = v4 c
          ∧ r.2.mem ((c.tc : Thread Cert.InIdeal.nD Cert.InIdeal.τ).loc Cert.InIdeal.main_v2_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v14) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_v16) = v2 c
          ∧ r.2.mem ((c.tc : Thread Cert.InRefIdeal.nD Cert.InRefIdeal.τ).loc Cert.InRefIdeal.main_v17) = v3 c
          ∧ r.2.mem ((c.tc : Thread Cert.InRefIdeal.nD Cert.InRefIdeal.τ).loc Cert.InRefIdeal.main_v21) = v4 c
          ∧ r.2.mem ((c.tc : Thread Cert.InRefIdeal.nD Cert.InRefIdeal.τ).loc Cert.InRefIdeal.main_v22) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v8_0)) (v1 : (c : Dev Cert.OddIdeal.nD) → Buf (Elt Ideal) ((c.tc : Thread Cert.OddIdeal.nD Cert.OddIdeal.τ).loc Cert.OddIdeal.main_v8_1)) (v2 : (c : Dev Cert.OddIdeal.nD) → Buf (Elt Ideal) ((c.tc : Thread Cert.OddIdeal.nD Cert.OddIdeal.τ).loc Cert.OddIdeal.main_v8_2)) (v3 : (c : Dev Cert.OddIdeal.nD) → Buf (Elt Ideal) ((c.tc : Thread Cert.OddIdeal.nD Cert.OddIdeal.τ).loc Cert.OddIdeal.main_v8_3)) (v4 : (c : Dev Cert.OddIdeal.nD) → Buf (Elt Ideal) ((c.tc : Thread Cert.OddIdeal.nD Cert.OddIdeal.τ).loc Cert.OddIdeal.main_v8_4)) (v5 : (c : Dev Cert.OddIdeal.nD) → Buf (Elt Ideal) ((c.tc : Thread Cert.OddIdeal.nD Cert.OddIdeal.τ).loc Cert.OddIdeal.main_v8_5)) (v6 : (c : Dev Cert.OddIdeal.nD) → Buf (Elt Ideal) ((c.tc : Thread Cert.OddIdeal.nD Cert.OddIdeal.τ).loc Cert.OddIdeal.main_v8_6)) (v7 : (c : Dev Cert.OddIdeal.nD) → Buf (Elt Ideal) ((c.tc : Thread Cert.OddIdeal.nD Cert.OddIdeal.τ).loc Cert.OddIdeal.main_v8_7)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v8_0) = v0 c
          ∧ r.2.mem ((c.tc : Thread Cert.OddIdeal.nD Cert.OddIdeal.τ).loc Cert.OddIdeal.main_v8_1) = v1 c
          ∧ r.2.mem ((c.tc : Thread Cert.OddIdeal.nD Cert.OddIdeal.τ).loc Cert.OddIdeal.main_v8_2) = v2 c
          ∧ r.2.mem ((c.tc : Thread Cert.OddIdeal.nD Cert.OddIdeal.τ).loc Cert.OddIdeal.main_v8_3) = v3 c
          ∧ r.2.mem ((c.tc : Thread Cert.OddIdeal.nD Cert.OddIdeal.τ).loc Cert.OddIdeal.main_v8_4) = v4 c
          ∧ r.2.mem ((c.tc : Thread Cert.OddIdeal.nD Cert.OddIdeal.τ).loc Cert.OddIdeal.main_v8_5) = v5 c
          ∧ r.2.mem ((c.tc : Thread Cert.OddIdeal.nD Cert.OddIdeal.τ).loc Cert.OddIdeal.main_v8_6) = v6 c
          ∧ r.2.mem ((c.tc : Thread Cert.OddIdeal.nD Cert.OddIdeal.τ).loc Cert.OddIdeal.main_v8_7) = v7 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v14) = v0 c
          ∧ r.2.mem ((c.tc : Thread Cert.OddRefIdeal.nD Cert.OddRefIdeal.τ).loc Cert.OddRefIdeal.main_v15) = v1 c
          ∧ r.2.mem ((c.tc : Thread Cert.OddRefIdeal.nD Cert.OddRefIdeal.τ).loc Cert.OddRefIdeal.main_v26) = v2 c
          ∧ r.2.mem ((c.tc : Thread Cert.OddRefIdeal.nD Cert.OddRefIdeal.τ).loc Cert.OddRefIdeal.main_v17) = v3 c
          ∧ r.2.mem ((c.tc : Thread Cert.OddRefIdeal.nD Cert.OddRefIdeal.τ).loc Cert.OddRefIdeal.main_v18) = v4 c
          ∧ r.2.mem ((c.tc : Thread Cert.OddRefIdeal.nD Cert.OddRefIdeal.τ).loc Cert.OddRefIdeal.main_v23) = v5 c
          ∧ r.2.mem ((c.tc : Thread Cert.OddRefIdeal.nD Cert.OddRefIdeal.τ).loc Cert.OddRefIdeal.main_v27) = v6 c
          ∧ r.2.mem ((c.tc : Thread Cert.OddRefIdeal.nD Cert.OddRefIdeal.τ).loc Cert.OddRefIdeal.main_v28) = v7 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)) →
    ∃ (v0 : (c : Dev Cert.InSampleIdeal.nD) → Buf (Elt Ideal) ((c.tc : Thread Cert.InSampleIdeal.nD Cert.InSampleIdeal.τ).loc Cert.InSampleIdeal.main_v2_0)) (v1 : (c : Dev Cert.InSampleIdeal.nD) → Buf (Elt Ideal) ((c.tc : Thread Cert.InSampleIdeal.nD Cert.InSampleIdeal.τ).loc Cert.InSampleIdeal.main_v2_1)) (v2 : (c : Dev Cert.InSampleIdeal.nD) → Buf (Elt Ideal) ((c.tc : Thread Cert.InSampleIdeal.nD Cert.InSampleIdeal.τ).loc Cert.InSampleIdeal.main_v2_2)) (v3 : (c : Dev Cert.InSampleIdeal.nD) → Buf (Elt Ideal) ((c.tc : Thread Cert.InSampleIdeal.nD Cert.InSampleIdeal.τ).loc Cert.InSampleIdeal.main_v2_3)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v2_0) = v0 c
          ∧ r.2.mem ((c.tc : Thread Cert.InSampleIdeal.nD Cert.InSampleIdeal.τ).loc Cert.InSampleIdeal.main_v2_1) = v1 c
          ∧ r.2.mem ((c.tc : Thread Cert.InSampleIdeal.nD Cert.InSampleIdeal.τ).loc Cert.InSampleIdeal.main_v2_2) = v2 c
          ∧ r.2.mem ((c.tc : Thread Cert.InSampleIdeal.nD Cert.InSampleIdeal.τ).loc Cert.InSampleIdeal.main_v2_3) = v3 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v14) = v0 c
          ∧ r.2.mem ((c.tc : Thread Cert.InSampleRefIdeal.nD Cert.InSampleRefIdeal.τ).loc Cert.InSampleRefIdeal.main_v19) = v1 c
          ∧ r.2.mem ((c.tc : Thread Cert.InSampleRefIdeal.nD Cert.InSampleRefIdeal.τ).loc Cert.InSampleRefIdeal.main_v16) = v2 c
          ∧ r.2.mem ((c.tc : Thread Cert.InSampleRefIdeal.nD Cert.InSampleRefIdeal.τ).loc Cert.InSampleRefIdeal.main_v17) = v3 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2))

def preserves_OddSample_OddSampleIdeal : Prop :=
  True

def algebraic_OddSampleIdeal_OddSampleRefIdeal [hOddSampleIdeal : Cert.OddSampleIdeal.Facts] [hOddSampleRefIdeal : Cert.OddSampleRefIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg)
    (m' : (ℓ : Loc Cert.OddSampleRefIdeal.nD Cert.OddSampleRefIdeal.τ Cert.OddSampleRefIdeal.sig) → Buf (Elt Ideal) ℓ) (g' : Dev Cert.OddSampleRefIdeal.nD → PrngReg), Pre_OddSampleIdeal m →
    (∀ c : Dev Cert.OddSampleIdeal.nD,
      m' ((c.tc : Thread Cert.OddSampleRefIdeal.nD Cert.OddSampleRefIdeal.τ).loc Cert.OddSampleRefIdeal.main_arg0) = m ((c.tc : Thread Cert.OddSampleIdeal.nD Cert.OddSampleIdeal.τ).loc Cert.OddSampleIdeal.main_arg0)
      ∧ m' ((c.tc : Thread Cert.OddSampleRefIdeal.nD Cert.OddSampleRefIdeal.τ).loc Cert.OddSampleRefIdeal.main_arg1) = m ((c.tc : Thread Cert.OddSampleIdeal.nD Cert.OddSampleIdeal.τ).loc Cert.OddSampleIdeal.main_arg1)
      ∧ m' ((c.tc : Thread Cert.OddSampleRefIdeal.nD Cert.OddSampleRefIdeal.τ).loc Cert.OddSampleRefIdeal.main_arg2) = m ((c.tc : Thread Cert.OddSampleIdeal.nD Cert.OddSampleIdeal.τ).loc Cert.OddSampleIdeal.main_arg2)
      ∧ m' ((c.tc : Thread Cert.OddSampleRefIdeal.nD Cert.OddSampleRefIdeal.τ).loc Cert.OddSampleRefIdeal.main_arg3) = m ((c.tc : Thread Cert.OddSampleIdeal.nD Cert.OddSampleIdeal.τ).loc Cert.OddSampleIdeal.main_arg3)) →
    ∃ (v0 : (c : Dev Cert.OddSampleIdeal.nD) → Buf (Elt Ideal) ((c.tc : Thread Cert.OddSampleIdeal.nD Cert.OddSampleIdeal.τ).loc Cert.OddSampleIdeal.main_v8_0)) (v1 : (c : Dev Cert.OddSampleIdeal.nD) → Buf (Elt Ideal) ((c.tc : Thread Cert.OddSampleIdeal.nD Cert.OddSampleIdeal.τ).loc Cert.OddSampleIdeal.main_v8_1)) (v2 : (c : Dev Cert.OddSampleIdeal.nD) → Buf (Elt Ideal) ((c.tc : Thread Cert.OddSampleIdeal.nD Cert.OddSampleIdeal.τ).loc Cert.OddSampleIdeal.main_v8_2)) (v3 : (c : Dev Cert.OddSampleIdeal.nD) → Buf (Elt Ideal) ((c.tc : Thread Cert.OddSampleIdeal.nD Cert.OddSampleIdeal.τ).loc Cert.OddSampleIdeal.main_v8_3)) (v4 : (c : Dev Cert.OddSampleIdeal.nD) → Buf (Elt Ideal) ((c.tc : Thread Cert.OddSampleIdeal.nD Cert.OddSampleIdeal.τ).loc Cert.OddSampleIdeal.main_v8_4)) (v5 : (c : Dev Cert.OddSampleIdeal.nD) → Buf (Elt Ideal) ((c.tc : Thread Cert.OddSampleIdeal.nD Cert.OddSampleIdeal.τ).loc Cert.OddSampleIdeal.main_v8_5)),
      θ_run (Cert.OddSampleIdeal.defs (F := Ideal)) (onTc (τ := Cert.OddSampleIdeal.τ) (Cert.OddSampleIdeal.main (F := Ideal))) ⟨m, fun _ => 0, g⟩ (fun r => ∀ c : Dev Cert.OddSampleIdeal.nD,
          r.2.mem ((c.tc : Thread Cert.OddSampleIdeal.nD Cert.OddSampleIdeal.τ).loc Cert.OddSampleIdeal.main_v8_0) = v0 c
          ∧ r.2.mem ((c.tc : Thread Cert.OddSampleIdeal.nD Cert.OddSampleIdeal.τ).loc Cert.OddSampleIdeal.main_v8_1) = v1 c
          ∧ r.2.mem ((c.tc : Thread Cert.OddSampleIdeal.nD Cert.OddSampleIdeal.τ).loc Cert.OddSampleIdeal.main_v8_2) = v2 c
          ∧ r.2.mem ((c.tc : Thread Cert.OddSampleIdeal.nD Cert.OddSampleIdeal.τ).loc Cert.OddSampleIdeal.main_v8_3) = v3 c
          ∧ r.2.mem ((c.tc : Thread Cert.OddSampleIdeal.nD Cert.OddSampleIdeal.τ).loc Cert.OddSampleIdeal.main_v8_4) = v4 c
          ∧ r.2.mem ((c.tc : Thread Cert.OddSampleIdeal.nD Cert.OddSampleIdeal.τ).loc Cert.OddSampleIdeal.main_v8_5) = v5 c
          ∧ r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
          ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
          ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
          ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3))
      ∧ θ_run (Cert.OddSampleRefIdeal.defs (F := Ideal)) (onTc (τ := Cert.OddSampleRefIdeal.τ) (Cert.OddSampleRefIdeal.main (F := Ideal))) ⟨m', fun _ => 0, g'⟩ (fun r => ∀ c : Dev Cert.OddSampleRefIdeal.nD,
          r.2.mem ((c.tc : Thread Cert.OddSampleRefIdeal.nD Cert.OddSampleRefIdeal.τ).loc Cert.OddSampleRefIdeal.main_v14) = v0 c
          ∧ r.2.mem ((c.tc : Thread Cert.OddSampleRefIdeal.nD Cert.OddSampleRefIdeal.τ).loc Cert.OddSampleRefIdeal.main_v15) = v1 c
          ∧ r.2.mem ((c.tc : Thread Cert.OddSampleRefIdeal.nD Cert.OddSampleRefIdeal.τ).loc Cert.OddSampleRefIdeal.main_v21) = v2 c
          ∧ r.2.mem ((c.tc : Thread Cert.OddSampleRefIdeal.nD Cert.OddSampleRefIdeal.τ).loc Cert.OddSampleRefIdeal.main_v17) = v3 c
          ∧ r.2.mem ((c.tc : Thread Cert.OddSampleRefIdeal.nD Cert.OddSampleRefIdeal.τ).loc Cert.OddSampleRefIdeal.main_v18) = v4 c
          ∧ r.2.mem ((c.tc : Thread Cert.OddSampleRefIdeal.nD Cert.OddSampleRefIdeal.τ).loc Cert.OddSampleRefIdeal.main_v25) = v5 c
          ∧ r.2.mem ((c.tc : Thread Cert.OddSampleRefIdeal.nD Cert.OddSampleRefIdeal.τ).loc Cert.OddSampleRefIdeal.main_arg0) = m' ((c.tc : Thread Cert.OddSampleRefIdeal.nD Cert.OddSampleRefIdeal.τ).loc Cert.OddSampleRefIdeal.main_arg0)
          ∧ r.2.mem ((c.tc : Thread Cert.OddSampleRefIdeal.nD Cert.OddSampleRefIdeal.τ).loc Cert.OddSampleRefIdeal.main_arg1) = m' ((c.tc : Thread Cert.OddSampleRefIdeal.nD Cert.OddSampleRefIdeal.τ).loc Cert.OddSampleRefIdeal.main_arg1)
          ∧ r.2.mem ((c.tc : Thread Cert.OddSampleRefIdeal.nD Cert.OddSampleRefIdeal.τ).loc Cert.OddSampleRefIdeal.main_arg2) = m' ((c.tc : Thread Cert.OddSampleRefIdeal.nD Cert.OddSampleRefIdeal.τ).loc Cert.OddSampleRefIdeal.main_arg2)
          ∧ r.2.mem ((c.tc : Thread Cert.OddSampleRefIdeal.nD Cert.OddSampleRefIdeal.τ).loc Cert.OddSampleRefIdeal.main_arg3) = m' ((c.tc : Thread Cert.OddSampleRefIdeal.nD Cert.OddSampleRefIdeal.τ).loc Cert.OddSampleRefIdeal.main_arg3))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)
      ∧ m' ((c.tc : Thread Cert.LastSampleRefIdeal.nD Cert.LastSampleRefIdeal.τ).loc Cert.LastSampleRefIdeal.main_arg4) = m ((c.tc : Thread Cert.LastSampleIdeal.nD Cert.LastSampleIdeal.τ).loc Cert.LastSampleIdeal.main_arg4)
      ∧ m' ((c.tc : Thread Cert.LastSampleRefIdeal.nD Cert.LastSampleRefIdeal.τ).loc Cert.LastSampleRefIdeal.main_arg5) = m ((c.tc : Thread Cert.LastSampleIdeal.nD Cert.LastSampleIdeal.τ).loc Cert.LastSampleIdeal.main_arg5)) →
    ∃ (v0 : (c : Dev Cert.LastSampleIdeal.nD) → Buf (Elt Ideal) ((c.tc : Thread Cert.LastSampleIdeal.nD Cert.LastSampleIdeal.τ).loc Cert.LastSampleIdeal.main_v10)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v10) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
          ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v33) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3)
          ∧ r.2.mem ((c.tc : Thread Cert.LastSampleRefIdeal.nD Cert.LastSampleRefIdeal.τ).loc Cert.LastSampleRefIdeal.main_arg4) = m' ((c.tc : Thread Cert.LastSampleRefIdeal.nD Cert.LastSampleRefIdeal.τ).loc Cert.LastSampleRefIdeal.main_arg4)
          ∧ r.2.mem ((c.tc : Thread Cert.LastSampleRefIdeal.nD Cert.LastSampleRefIdeal.τ).loc Cert.LastSampleRefIdeal.main_arg5) = m' ((c.tc : Thread Cert.LastSampleRefIdeal.nD Cert.LastSampleRefIdeal.τ).loc Cert.LastSampleRefIdeal.main_arg5))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hOdd : Cert.Odd.Facts) (hOddIdeal : Cert.OddIdeal.Facts) (hOddRefIdeal : Cert.OddRefIdeal.Facts) (hInSample : Cert.InSample.Facts) (hInSampleIdeal : Cert.InSampleIdeal.Facts) (hInSampleRefIdeal : Cert.InSampleRefIdeal.Facts) (hOddSample : Cert.OddSample.Facts) (hOddSampleIdeal : Cert.OddSampleIdeal.Facts) (hOddSampleRefIdeal : Cert.OddSampleRefIdeal.Facts) (hLastSample : Cert.LastSample.Facts) (hLastSampleIdeal : Cert.LastSampleIdeal.Facts) (hLastSampleRefIdeal : Cert.LastSampleRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Odd (hOdd := hOdd)
    ∧ quiescent_OddIdeal (hOddIdeal := hOddIdeal)
    ∧ quiescent_OddRefIdeal (hOddRefIdeal := hOddRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_OddSample (hOddSample := hOddSample)
    ∧ quiescent_OddSampleIdeal (hOddSampleIdeal := hOddSampleIdeal)
    ∧ quiescent_OddSampleRefIdeal (hOddSampleRefIdeal := hOddSampleRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Odd_OddIdeal
    ∧ algebraic_OddIdeal_OddRefIdeal (hOddIdeal := hOddIdeal) (hOddRefIdeal := hOddRefIdeal)
    ∧ preserves_InSample_InSampleIdeal
    ∧ algebraic_InSampleIdeal_InSampleRefIdeal (hInSampleIdeal := hInSampleIdeal) (hInSampleRefIdeal := hInSampleRefIdeal)
    ∧ preserves_OddSample_OddSampleIdeal
    ∧ algebraic_OddSampleIdeal_OddSampleRefIdeal (hOddSampleIdeal := hOddSampleIdeal) (hOddSampleRefIdeal := hOddSampleRefIdeal)
    ∧ preserves_LastSample_LastSampleIdeal
    ∧ algebraic_LastSampleIdeal_LastSampleRefIdeal (hLastSampleIdeal := hLastSampleIdeal) (hLastSampleRefIdeal := hLastSampleRefIdeal)
-- ==== Pre_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S16384x8 .f32) : IVec S_ 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_c_3 : IVec S_ 1 := constantI S_ 1 1#1
  let main_v12 : IVec S_ 1 := (fun x v => Host.reduce IntOp.andi x v reducesTo_S16384x8_S_d0_1 h_S_) main_v11 main_c_3
  let main_v13 : IVec S_ 1 := andi main_v8 main_v12
  main_v13
-- ==== Fox.lean ====
abbrev S16384x512 : Shape := ⟨2, ![16384, 512]⟩
abbrev S16384x8 : Shape := ⟨2, ![16384, 8]⟩
abbrev S8x2048x4x2 : Shape := ⟨4, ![8, 2048, 4, 2]⟩
abbrev S8x2048x512 : Shape := ⟨3, ![8, 2048, 512]⟩
abbrev S8x512x2048 : Shape := ⟨3, ![8, 512, 2048]⟩
abbrev S_ : Shape := ⟨0, ![]⟩
abbrev S1 : Shape := ⟨1, ![1]⟩
abbrev S8x4x2048x2 : Shape := ⟨4, ![8, 4, 2048, 2]⟩
abbrev S8x4x2x2048 : Shape := ⟨4, ![8, 4, 2, 2048]⟩
abbrev S1x128 : Shape := ⟨2, ![1, 128]⟩
abbrev S1x256x128 : Shape := ⟨3, ![1, 256, 128]⟩
abbrev S1x128x2048 : Shape := ⟨3, ![1, 128, 2048]⟩
abbrev S1x2048x128 : Shape := ⟨3, ![1, 2048, 128]⟩
abbrev S1x1x256x2 : Shape := ⟨4, ![1, 1, 256, 2]⟩
abbrev S1x1x2x2048 : Shape := ⟨4, ![1, 1, 2, 2048]⟩
abbrev S256x128 : Shape := ⟨2, ![256, 128]⟩
abbrev S256x2 : Shape := ⟨2, ![256, 2]⟩
abbrev S256x1 : Shape := ⟨2, ![256, 1]⟩
abbrev S256x256 : Shape := ⟨2, ![256, 256]⟩
abbrev S1x128x256 : Shape := ⟨3, ![1, 128, 256]⟩
abbrev S128x256 : Shape := ⟨2, ![128, 256]⟩
abbrev S1x1x2x256 : Shape := ⟨4, ![1, 1, 2, 256]⟩
abbrev S2x256 : Shape := ⟨2, ![2, 256]⟩
abbrev S1x256 : Shape := ⟨2, ![1, 256]⟩
abbrev S256 : Shape := ⟨1, ![256]⟩

abbrev nBuf : Space → Nat
  | .hbm => 16
  | .vmem => 13
  | .smem => 1
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8, .f32⟩
  | .hbm, ⟨4, _⟩ => ⟨S8x2048x4x2, .f32⟩
  | .hbm, ⟨5, _⟩ => ⟨S8x2048x512, .bf16⟩
  | .hbm, ⟨6, _⟩ => ⟨S8x2048x512, .bf16⟩
  | .hbm, ⟨7, _⟩ => ⟨S8x512x2048, .bf16⟩
  | .hbm, ⟨8, _⟩ => ⟨S8x2048x512, .bf16⟩
  | .hbm, ⟨9, _⟩ => ⟨S_, .f32⟩
  | .hbm, ⟨10, _⟩ => ⟨S1, .f32⟩
  | .hbm, ⟨11, _⟩ => ⟨S8x4x2048x2, .f32⟩
  | .hbm, ⟨12, _⟩ => ⟨S8x4x2x2048, .f32⟩
  | .hbm, ⟨13, _⟩ => ⟨S_, .f32⟩
  | .hbm, ⟨14, _⟩ => ⟨S1x128, .f32⟩
  | .hbm, ⟨15, _⟩ => ⟨S8x2048x512, .f32⟩
  | .local _ .vmem, ⟨0, _⟩ => ⟨S1x256x128, .bf16⟩
  | .local _ .vmem, ⟨1, _⟩ => ⟨S1x256x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x256x2, .f32⟩
  | .local _ .vmem, ⟨7, _⟩ => ⟨S1x1x256x2, .f32⟩
  | .local _ .vmem, ⟨8, _⟩ => ⟨S1x1x2x2048, .f32⟩
  | .local _ .vmem, ⟨9, _⟩ => ⟨S1x1x2x2048, .f32⟩
  | .local _ .vmem, ⟨10, _⟩ => ⟨S1x128, .f32⟩
  | .local _ .vmem, ⟨11, _⟩ => ⟨S1x256x128, .f32⟩
  | .local _ .vmem, ⟨12, _⟩ => ⟨S1x256x128, .f32⟩
  | .local _ .smem, ⟨0, _⟩ => ⟨S1, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_9 : BitVec 32 := 1#32
  ⟨c0_i32, v22, c1_i32_9⟩
def k0_mult1 (i : grid0.Coords) (k0_t1 : Fin (k0_t1_loop i).trips) : BitVec 32 :=
  let c0_i32 : BitVec 32 := 0#32
  let c1_i32_9 : BitVec 32 := 1#32
  let arg11 : BitVec 32 := Scf.iv c0_i32 c1_i32_9 k0_t1
  let c256_i32_31 : BitVec 32 := 256#32
  let v94 : BitVec 32 := Scalar.muli arg11 c256_i32_31
  v94
def k0_off1 (i : grid0.Coords) (k0_t1 : Fin (k0_t1_loop i).trips) : Fin 3 → Nat :=
  let c0_32 : Index := 0#32
  let c0_33 : Index := 0#32
  let c0_i32 : BitVec 32 := 0#32
  let c1_i32_9 : BitVec 32 := 1#32
  let arg11 : BitVec 32 := Scf.iv c0_i32 c1_i32_9 k0_t1
  let c256_i32_31 : BitVec 32 := 256#32
  let v94 : BitVec 32 := Scalar.muli arg11 c256_i32_31
  let v95 : BitVec 32 := v94
  let v96 : Index := Scalar.indexCast v95
  ![0, 0, v96.toNat]
def k0_off2 (i : grid0.Coords) (k0_t1 : Fin (k0_t1_loop i).trips) : Fin 3 → Nat :=
  let c0_34 : Index := 0#32
  let c0_i32 : BitVec 32 := 0#32
  let c1_i32_9 : BitVec 32 := 1#32
  let arg11 : BitVec 32 := Scf.iv c0_i32 c1_i32_9 k0_t1
  let c256_i32_31 : BitVec 32 := 256#32
  let v94 : BitVec 32 := Scalar.muli arg11 c256_i32_31
  let v95 : BitVec 32 := v94
  let v99 : Index := Scalar.indexCast v95
  let c0_35 : Index := 0#32
  ![0, v99.toNat, 0]
def k0_off3 (i : grid0.Coords) (k0_t1 : Fin (k0_t1_loop i).trips) : Fin 4 → Nat :=
  let c0_38 : Index := 0#32
  let c0_39 : Index := 0#32
  let c0_40 : Index := 0#32
  let c0_i32 : BitVec 32 := 0#32
  let c1_i32_9 : BitVec 32 := 1#32
  let arg11 : BitVec 32 := Scf.iv c0_i32 c1_i32_9 k0_t1
  let c256_i32_31 : BitVec 32 := 256#32
  let v94 : BitVec 32 := Scalar.muli arg11 c256_i32_31
  let v95 : BitVec 32 := v94
  let v104 : Index := Scalar.indexCast v95
  ![0, 0, 0, v104.toNat]
@[reducible] def k0_t2_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let v19 : BitVec 32 := Scalar.addi c0_i32 v18
  let c1_i32_10 : BitVec 32 := 1#32
  ⟨v22, v19, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_10 : BitVec 32 := 1#32
  let arg11 : BitVec 32 := Scf.iv v22 c1_i32_10 k0_t2
  let c256_i32_31 : BitVec 32 := 256#32
  let v94 : BitVec 32 := Scalar.muli arg11 c256_i32_31
  v94
def k0_off4 (i : grid0.Coords) (k0_t2 : Fin (k0_t2_loop i).trips) : Fin 3 → Nat :=
  let c0_32 : Index := 0#32
  let c0_33 : Index := 0#32
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_10 : BitVec 32 := 1#32
  let arg11 : BitVec 32 := Scf.iv v22 c1_i32_10 k0_t2
  let c256_i32_31 : BitVec 32 := 256#32
  let v94 : BitVec 32 := Scalar.muli arg11 c256_i32_31
  let v95 : BitVec 32 := v94
  let v96 : Index := Scalar.indexCast v95
  ![0, 0, v96.toNat]
def k0_off5 (i : grid0.Coords) (k0_t2 : Fin (k0_t2_loop i).trips) : Fin 3 → Nat :=
  let c0_34 : Index := 0#32
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_10 : BitVec 32 := 1#32
  let arg11 : BitVec 32 := Scf.iv v22 c1_i32_10 k0_t2
  let c256_i32_31 : BitVec 32 := 256#32
  let v94 : BitVec 32 := Scalar.muli arg11 c256_i32_31
  let v95 : BitVec 32 := v94
  let v99 : Index := Scalar.indexCast v95
  let c0_35 : Index := 0#32
  ![0, v99.toNat, 0]
def k0_off6 (i : grid0.Coords) (k0_t2 : Fin (k0_t2_loop i).trips) : Fin 4 → Nat :=
  let c0_38 : Index := 0#32
  let c0_39 : Index := 0#32
  let c0_40 : Index := 0#32
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_10 : BitVec 32 := 1#32
  let arg11 : BitVec 32 := Scf.iv v22 c1_i32_10 k0_t2
  let c256_i32_31 : BitVec 32 := 256#32
  let v94 : BitVec 32 := Scalar.muli arg11 c256_i32_31
  let v95 : BitVec 32 := v94
  let v104 : Index := Scalar.indexCast v95
  ![0, 0, 0, v104.toNat]
def k0_mult3 (i : grid0.Coords) : BitVec 32 :=
  let arg2 : BitVec 32 := BitVec.ofNat 32 (i 2).val
  let c256_i32 : BitVec 32 := 256#32
  let v25 : BitVec 32 := Scalar.muli arg2 c256_i32
  v25
def k0_off7 (i : grid0.Coords) : Fin 3 → Nat :=
  let c0_11 : Index := 0#32
  let c0_12 : Index := 0#32
  let arg2 : BitVec 32 := BitVec.ofNat 32 (i 2).val
  let c256_i32 : BitVec 32 := 256#32
  let v25 : BitVec 32 := Scalar.muli arg2 c256_i32
  let v26 : BitVec 32 := v25
  let v27 : Index := Scalar.indexCast v26
  ![0, 0, v27.toNat]
def k0_off8 (i : grid0.Coords) : Fin 3 → Nat :=
  let c0_13 : Index := 0#32
  let arg2 : BitVec 32 := BitVec.ofNat 32 (i 2).val
  let c256_i32 : BitVec 32 := 256#32
  let v25 : BitVec 32 := Scalar.muli arg2 c256_i32
  let v26 : BitVec 32 := v25
  let v30 : Index := Scalar.indexCast v26
  let c0_14 : Index := 0#32
  ![0, v30.toNat, 0]
def k0_off9 (i : grid0.Coords) : Fin 4 → Nat :=
  let c0_17 : Index := 0#32
  let c0_18 : Index := 0#32
  let c0_19 : Index := 0#32
  let arg2 : BitVec 32 := BitVec.ofNat 32 (i 2).val
  let c256_i32 : BitVec 32 := 256#32
  let v25 : BitVec 32 := Scalar.muli arg2 c256_i32
  let v26 : BitVec 32 := v25
  let v35 : Index := Scalar.indexCast v26
  ![0, 0, 0, v35.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16384x512 : Shape := ⟨2, ![16384, 512]⟩
abbrev S16384x8 : Shape := ⟨2, ![16384, 8]⟩
abbrev S8x2048x8x64 : Shape := ⟨4, ![8, 2048, 8, 64]⟩
abbrev S8x2048x8 : Shape := ⟨3, ![8, 2048, 8]⟩
abbrev S8x8x2048 : Shape := ⟨3, ![8, 8, 2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x64x2048 : Shape := ⟨4, ![8, 8, 64, 2048]⟩
abbrev S8x2048x512 : Shape := ⟨3, ![8, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8, .f32⟩
  | .hbm, ⟨4, _⟩ => ⟨S8x2048x8x64, .bf16⟩
  | .hbm, ⟨5, _⟩ => ⟨S8x2048x8x64, .f32⟩
  | .hbm, ⟨6, _⟩ => ⟨S8x2048x8x64, .bf16⟩
  | .hbm, ⟨7, _⟩ => ⟨S8x2048x8x64, .f32⟩
  | .hbm, ⟨8, _⟩ => ⟨S8x2048x8x64, .bf16⟩
  | .hbm, ⟨9, _⟩ => ⟨S8x2048x8x64, .f32⟩
  | .hbm, ⟨10, _⟩ => ⟨S8x2048x8, .f32⟩
  | .hbm, ⟨11, _⟩ => ⟨S8x8x2048, .f32⟩
  | .hbm, ⟨12, _⟩ => ⟨S8x8x2048x2048, .f32⟩
  | .hbm, ⟨13, _⟩ => ⟨S8x8x2048x1, .f32⟩
  | .hbm, ⟨14, _⟩ => ⟨S8x8x1x2048, .f32⟩
  | .hbm, ⟨15, _⟩ => ⟨S8x8x2048x2048, .f32⟩
  | .hbm, ⟨16, _⟩ => ⟨S8x8x2048x2048, .f32⟩
  | .hbm, ⟨17, _⟩ => ⟨S8x8x2048x2048, .f32⟩
  | .hbm, ⟨18, _⟩ => ⟨S8x8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x8x2048x2048, .i1⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S_, .f32⟩
  | .hbm, ⟨33, _⟩ => ⟨S8x8x2048, .f32⟩
  | .hbm, ⟨34, _⟩ => ⟨S8x8x2048, .f32⟩
  | .hbm, ⟨35, _⟩ => ⟨S8x8x2048x1, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S8x8x2048, .f32⟩
  | .hbm, ⟨41, _⟩ => ⟨S8x8x2048x1, .f32⟩
  | .hbm, ⟨42, _⟩ => ⟨S8x8x2048x2048, .f32⟩
  | .hbm, ⟨43, _⟩ => ⟨S8x8x2048x2048, .f32⟩
  | .hbm, ⟨44, _⟩ => ⟨S8x8x64x2048, .f32⟩
  | .hbm, ⟨45, _⟩ => ⟨S8x2048x8x64, .f32⟩
  | .hbm, ⟨46, _⟩ => ⟨S8x2048x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x11x256, .bf16⟩
  | .hbm, ⟨7, _⟩ => ⟨S11x1024x256, .bf16⟩
  | .hbm, ⟨8, _⟩ => ⟨S1024x2816, .bf16⟩
  | .hbm, ⟨9, _⟩ => ⟨S1024x11x256, .bf16⟩
  | .hbm, ⟨10, _⟩ => ⟨S11x1024x256, .bf16⟩
  | .hbm, ⟨11, _⟩ => ⟨S2816x1024, .bf16⟩
  | .hbm, ⟨12, _⟩ => ⟨S11x256x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c11_i32 : BitVec 32 := 11#32
  let v20 : BitVec 32 := Scalar.addi c0_i32 c11_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v22 : Index := Scalar.indexCast arg9
  let c0_12 : Index := 0#32
  let c0_13 : Index := 0#32
  ![v22.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v36 : Index := Scalar.indexCast arg9
  let c0_20 : Index := 0#32
  let c0_21 : Index := 0#32
  ![v36.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x11x256, .bf16⟩
  | .hbm, ⟨8, _⟩ => ⟨S11x1024x256, .bf16⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S2816x1024, .bf16⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c11_i32 : BitVec 32 := 11#32
  let v20 : BitVec 32 := Scalar.addi c0_i32 c11_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v39 : Index := Scalar.indexCast arg9
  let c0_21 : Index := 0#32
  let c0_22 : Index := 0#32
  ![v39.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v53 : Index := Scalar.indexCast arg9
  let c0_29 : Index := 0#32
  let c0_30 : Index := 0#32
  ![v53.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x11x256, .bf16⟩
  | .hbm, ⟨8, _⟩ => ⟨S11x1024x256, .bf16⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S2816x1024, .bf16⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c11_i32 : BitVec 32 := 11#32
  let v20 : BitVec 32 := Scalar.addi c0_i32 c11_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v39 : Index := Scalar.indexCast arg9
  let c0_21 : Index := 0#32
  let c0_22 : Index := 0#32
  ![v39.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v53 : Index := Scalar.indexCast arg9
  let c0_29 : Index := 0#32
  let c0_30 : Index := 0#32
  ![v53.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== In.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S16384x512, .f32⟩
  | .hbm, ⟨6, _⟩ => ⟨S16384x512, .bf16⟩
  | .hbm, ⟨7, _⟩ => ⟨S16384x512, .f32⟩
  | .hbm, ⟨8, _⟩ => ⟨S16384x512, .f32⟩
  | .hbm, ⟨9, _⟩ => ⟨S16384x512, .bf16⟩
  | .hbm, ⟨10, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .bf16⟩
  | .hbm, ⟨28, _⟩ => ⟨S16384x512, .bf16⟩
  | .hbm, ⟨29, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Out.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Odd.lean ====
abbrev S16384x1024 : Shape := ⟨2, ![16384, 1024]⟩
abbrev S1024 : Shape := ⟨1, ![1024]⟩
abbrev S1024x2568 : Shape := ⟨2, ![1024, 2568]⟩
abbrev S8 : Shape := ⟨1, ![8]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16384x512 : Shape := ⟨2, ![16384, 512]⟩
abbrev S16384x8 : Shape := ⟨2, ![16384, 8]⟩
abbrev S512x1024 : Shape := ⟨2, ![512, 1024]⟩
abbrev S512x512 : Shape := ⟨2, ![512, 512]⟩
abbrev S512x8 : Shape := ⟨2, ![512, 8]⟩
abbrev S8x128 : Shape := ⟨2, ![8, 128]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S256x256 : Shape := ⟨2, ![256, 256]⟩
abbrev S256x128 : Shape := ⟨2, ![256, 128]⟩
abbrev S256x8 : Shape := ⟨2, ![256, 8]⟩

abbrev nBuf : Space → Nat
  | .hbm => 25
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S1024x2560, .f32⟩
  | .hbm, ⟨5, _⟩ => ⟨S1024x2560, .bf16⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S16384x512, .f32⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .f32⟩
  | .hbm, ⟨21, _⟩ => ⟨S16384x8, .f32⟩
  | .hbm, ⟨22, _⟩ => ⟨S16384x512, .bf16⟩
  | .hbm, ⟨23, _⟩ => ⟨S16384x512, .bf16⟩
  | .hbm, ⟨24, _⟩ => ⟨S16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x8, .f32⟩
  | .local _ .vmem, ⟨17, _⟩ => ⟨S512x8, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x8, .f32⟩
  | .local _ .vmem, ⟨23, _⟩ => ⟨S512x8, .f32⟩
  | .local _ .vmem, ⟨24, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OddRefIdeal.lean ====
abbrev S16384x1024 : Shape := ⟨2, ![16384, 1024]⟩
abbrev S1024 : Shape := ⟨1, ![1024]⟩
abbrev S1024x2568 : Shape := ⟨2, ![1024, 2568]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2568 : Shape := ⟨2, ![16384, 2568]⟩
abbrev S16384x512 : Shape := ⟨2, ![16384, 512]⟩
abbrev S16384x8 : Shape := ⟨2, ![16384, 8]⟩
abbrev S1x8 : Shape := ⟨2, ![1, 8]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2568, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x8, .f32⟩
  | .hbm, ⟨27, _⟩ => ⟨S1x8, .f32⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S_, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S16384x8, .i1⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .bf16⟩
  | .hbm, ⟨50, _⟩ => ⟨S16384x512, .bf16⟩
  | .hbm, ⟨51, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== InSample.lean ====
abbrev S32x1024 : Shape := ⟨2, ![32, 1024]⟩
abbrev S1024 : Shape := ⟨1, ![1024]⟩
abbrev S1024x2048 : Shape := ⟨2, ![1024, 2048]⟩
abbrev S1x1024 : Shape := ⟨2, ![1, 1024]⟩
abbrev S32x512 : Shape := ⟨2, ![32, 512]⟩
abbrev S32 : Shape := ⟨1, ![32]⟩
abbrev S32x1 : Shape := ⟨2, ![32, 1]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2048, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== InSampleRefIdeal.lean ====
abbrev S32x1024 : Shape := ⟨2, ![32, 1024]⟩
abbrev S1024 : Shape := ⟨1, ![1024]⟩
abbrev S1024x2048 : Shape := ⟨2, ![1024, 2048]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2048 : Shape := ⟨2, ![32, 2048]⟩
abbrev S32x512 : Shape := ⟨2, ![32, 512]⟩

abbrev nBuf : Space → Nat
  | .hbm => 27
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2048, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x2048, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OddSample.lean ====
abbrev S32x1024 : Shape := ⟨2, ![32, 1024]⟩
abbrev S1024 : Shape := ⟨1, ![1024]⟩
abbrev S1024x2568 : Shape := ⟨2, ![1024, 2568]⟩
abbrev S8 : Shape := ⟨1, ![8]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32x512 : Shape := ⟨2, ![32, 512]⟩
abbrev S32x8 : Shape := ⟨2, ![32, 8]⟩
abbrev S32 : Shape := ⟨1, ![32]⟩
abbrev S32x1 : Shape := ⟨2, ![32, 1]⟩
abbrev S1024x512 : Shape := ⟨2, ![1024, 512]⟩
abbrev S32x128 : Shape := ⟨2, ![32, 128]⟩

abbrev nBuf : Space → Nat
  | .hbm => 22
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S1024x2560, .f32⟩
  | .hbm, ⟨5, _⟩ => ⟨S1024x2560, .bf16⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S32x512, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x8, .f32⟩
  | .local _ .vmem, ⟨0, _⟩ => ⟨S32x1024, .f32⟩
  | .local _ .vmem, ⟨1, _⟩ => ⟨S1x1024, .f32⟩
  | .local _ .vmem, ⟨2, _⟩ => ⟨S1024x2560, .bf16⟩
  | .local _ .vmem, ⟨3, _⟩ => ⟨S1024x128, .bf16⟩
  | .local _ .vmem, ⟨4, _⟩ => ⟨S1x128, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x8, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== OddSampleRefIdeal.lean ====
abbrev S32x1024 : Shape := ⟨2, ![32, 1024]⟩
abbrev S1024 : Shape := ⟨1, ![1024]⟩
abbrev S1024x2568 : Shape := ⟨2, ![1024, 2568]⟩
abbrev S8 : Shape := ⟨1, ![8]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2568 : Shape := ⟨2, ![32, 2568]⟩
abbrev S32x512 : Shape := ⟨2, ![32, 512]⟩
abbrev S32x8 : Shape := ⟨2, ![32, 8]⟩
abbrev S1x8 : Shape := ⟨2, ![1, 8]⟩

abbrev nBuf : Space → Nat
  | .hbm => 49
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x2568, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x8, .f32⟩
  | .hbm, ⟨27, _⟩ => ⟨S_, .f32⟩
  | .hbm, ⟨28, _⟩ => ⟨S32x512, .f32⟩
  | .hbm, ⟨29, _⟩ => ⟨S32x512, .f32⟩
  | .hbm, ⟨30, _⟩ => ⟨S1x8, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x8, .f32⟩
  | .hbm, ⟨36, _⟩ => ⟨S32x8, .f32⟩
  | .hbm, ⟨37, _⟩ => ⟨S32x8, .f32⟩
  | .hbm, ⟨38, _⟩ => ⟨S32x8, .f32⟩
  | .hbm, ⟨39, _⟩ => ⟨S32x8, .i1⟩
  | .hbm, ⟨40, _⟩ => ⟨S32x8, .f32⟩
  | .hbm, ⟨41, _⟩ => ⟨S32x8, .f32⟩
  | .hbm, ⟨42, _⟩ => ⟨S32x8, .f32⟩
  | .hbm, ⟨43, _⟩ => ⟨S32x8, .f32⟩
  | .hbm, ⟨44, _⟩ => ⟨S32x8, .f32⟩
  | .hbm, ⟨45, _⟩ => ⟨S32x8, .f32⟩
  | .hbm, ⟨46, _⟩ => ⟨S32x8, .f32⟩
  | .hbm, ⟨47, _⟩ => ⟨S32x8, .f32⟩
  | .hbm, ⟨48, _⟩ => ⟨S32x8, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== LastSample.lean ====
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S32 : Shape := ⟨1, ![32]⟩
abbrev S32x1 : Shape := ⟨2, ![32, 1]⟩
abbrev S1x1024x256 : Shape := ⟨3, ![1, 1024, 256]⟩
abbrev S1024x256 : Shape := ⟨2, ![1024, 256]⟩
abbrev S32x256 : Shape := ⟨2, ![32, 256]⟩
abbrev S1x256x1024 : Shape := ⟨3, ![1, 256, 1024]⟩
abbrev S256x1024 : Shape := ⟨2, ![256, 1024]⟩

abbrev nBuf : Space → Nat
  | .hbm => 17
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x11x256, .bf16⟩
  | .hbm, ⟨8, _⟩ => ⟨S11x1024x256, .bf16⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S2816x1024, .bf16⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S11x1024x256, .bf16⟩
  | .local _ .vmem, ⟨3, _⟩ => ⟨S11x1024x256, .bf16⟩
  | .local _ .vmem, ⟨4, _⟩ => ⟨S11x256x1024, .bf16⟩
  | .local _ .vmem, ⟨5, _⟩ => ⟨S1x1024, .f32⟩
  | .local _ .vmem, ⟨6, _⟩ => ⟨S32x1024, .f32⟩
  | .local _ .vmem, ⟨7, _⟩ => ⟨S32x1024, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v20 : BitVec 32 := Scalar.addi c0_i32 c11_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v39 : Index := Scalar.indexCast arg9
  let c0_21 : Index := 0#32
  let c0_22 : Index := 0#32
  ![v39.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v53 : Index := Scalar.indexCast arg9
  let c0_29 : Index := 0#32
  let c0_30 : Index := 0#32
  ![v53.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== LastSampleRefIdeal.lean ====
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2816 : Shape := ⟨2, ![32, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S32x2816, .f32⟩
  | .hbm, ⟨23, _⟩ => ⟨S32x2816, .f32⟩
  | .hbm, ⟨24, _⟩ => ⟨S32x2816, .f32⟩
  | .hbm, ⟨25, _⟩ => ⟨S_, .f32⟩
  | .hbm, ⟨26, _⟩ => ⟨S32x2816, .f32⟩
  | .hbm, ⟨27, _⟩ => ⟨S32x2816, .f32⟩
  | .hbm, ⟨28, _⟩ => ⟨S_, .f32⟩
  | .hbm, ⟨29, _⟩ => ⟨S32x2816, .f32⟩
  | .hbm, ⟨30, _⟩ => ⟨S32x2816, .f32⟩
  | .hbm, ⟨31, _⟩ => ⟨S32x2816, .f32⟩
  | .hbm, ⟨32, _⟩ => ⟨S32x2816, .f32⟩
  | .hbm, ⟨33, _⟩ => ⟨S32x2816, .f32⟩
  | .hbm, ⟨34, _⟩ => ⟨S32x1024, .f32⟩
  | .hbm, ⟨35, _⟩ => ⟨S_, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S32x1, .f32⟩
  | .hbm, ⟨50, _⟩ => ⟨S32x1024, .f32⟩
  | .hbm, ⟨51, _⟩ => ⟨S32x1024, .f32⟩
  | .hbm, ⟨52, _⟩ => ⟨S1x1024, .f32⟩
  | .hbm, ⟨53, _⟩ => ⟨S32x1024, .f32⟩
  | .hbm, ⟨54, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.FoxBlock.lean ====
module

public import proofs.«01_k».proof.Proof.Gen.FoxIdeal.Value
public import Idealize.ShloMosaic.Lib.Pipeline.Value
public import Idealize.ShloMosaic.Lib.Pipeline.ValueKit.Tiles
public import Idealize.ShloMosaic.Lib.Tactic

@[expose] public section

set_option maxRecDepth 16384

noncomputable section

/-! # The forgetting attention's kernel: what one grid point leaves in its output block -/

namespace Cert.FoxIdeal.Block

open Cert.FoxIdeal Cert.FoxIdeal.Gen Idealize.ShloMosaic Idealize.ShloMosaic.TcCoe Idealize.SL.Sem
open Idealize.ShloMosaic.Pipeline (Dat)

variable {F : FTy → Type} [FloatOps F] [Named F]

/-- The offsets of a load or a store of a whole three-axis buffer are zero. -/
theorem hz3 : (![0, 0, 0] : Fin 3 → Nat) = fun _ => 0 := funext fun a => by fin_cases a <;> rfl

/-- The offsets of a load of a whole four-axis buffer are zero. -/
theorem hz4 : (![0, 0, 0, 0] : Fin 4 → Nat) = fun _ => 0 := funext fun a => by fin_cases a <;> rfl

/-- What the loop carries: for each of the two heads the maximum, the sum and the weighted sum. -/
abbrev State (F : FTy → Type) :=
  FVec F S256x1 .f32 × FVec F S256x1 .f32 × FVec F S256x128 .f32 × FVec F S256x1 .f32 × FVec F S256x1 .f32 × FVec F S256x128 .f32

/-- The keys, the values and the keys' sums of log gates that trip `k` reads. -/
def kcol (i : grid0.Coords) (x : Vec F S1x128x2048 .bf16) (k : Fin (k0_t1_loop i).trips) : Vec F S1x128x256 .bf16 :=
  View.ld x (Rect.unit (s := S1x128x2048) (k0_off1 i k) S1x128x256.size (k0_off1_inb i k))

/-- See `kcol`. -/
def vrow (i : grid0.Coords) (x : Vec F S1x2048x128 .bf16) (k : Fin (k0_t1_loop i).trips) : Vec F S1x256x128 .bf16 :=
  View.ld x (Rect.unit (s := S1x2048x128) (k0_off2 i k) S1x256x128.size (k0_off2_inb i k))

/-- See `kcol`. -/
def ccol (i : grid0.Coords) (x : Vec F S1x1x2x2048 .f32) (k : Fin (k0_t1_loop i).trips) : Vec F S1x1x2x256 .f32 :=
  View.ld x (Rect.unit (s := S1x1x2x2048) (k0_off3 i k) S1x1x2x256.size (k0_off3_inb i k))

/-- One trip's update of both heads' maximum, sum and weighted sum. -/
def step (q : Vec F S1x256x128 .bf16) (cq : Vec F S1x1x256x2 .f32) (kT : Vec F S1x128x256 .bf16) (v : Vec F S1x256x128 .bf16)
    (ck : Vec F S1x1x2x256 .f32) (s : State F) : State F :=
  (k0_pay7 (k0_pay29 q) (k0_pay32 cq) s.1 kT ck,
   k0_pay10 (k0_pay29 q) (k0_pay32 cq) s.1 s.2.1 kT ck,
   k0_pay11 (k0_pay29 q) (k0_pay32 cq) s.1 s.2.2.1 kT v ck,
   k0_pay12 (k0_pay30 q) (k0_pay33 cq) s.2.2.2.1 kT ck,
   k0_pay39 s.2.2.2.2.1 (k0_pay6 (k0_pay30 q) (k0_pay33 cq) kT ck) (k0_pay12 (k0_pay30 q) (k0_pay33 cq) s.2.2.2.1 kT ck) (k0_pay13 (k0_pay30 q) (k0_pay33 cq) s.2.2.2.1 kT ck),
   k0_pay40 s.2.2.2.2.2 (k0_pay3 v) (k0_pay6 (k0_pay30 q) (k0_pay33 cq) kT ck) (k0_pay12 (k0_pay30 q) (k0_pay33 cq) s.2.2.2.1 kT ck) (k0_pay13 (k0_pay30 q) (k0_pay33 cq) s.2.2.2.1 kT ck))

/-- The state before any trip. -/
def init : State F := (k0_pay35, k0_pay36, k0_pay37, k0_pay35, k0_pay36, k0_pay37)

/-- The state before trip `k`. -/
def state (i : grid0.Coords) (q : Vec F S1x256x128 .bf16) (kT : Vec F S1x128x2048 .bf16) (v : Vec F S1x2048x128 .bf16)
    (cq : Vec F S1x1x256x2 .f32) (ck : Vec F S1x1x2x2048 .f32) : ℕ → State F
  | 0 => init
  | k + 1 => if h : k < (k0_t1_loop i).trips then
      step q cq (kcol i kT ⟨k, h⟩) (vrow i v ⟨k, h⟩) (ccol i ck ⟨k, h⟩) (state i q kT v cq ck k)
    else state i q kT v cq ck k

/-- One trip of the loop is `step` of the chunk it reads. -/
theorem trip_val (𝒱 : Variants) (c : Dev nD) (bd : Option 𝒱.V) (i : grid0.Coords) (arg3 : Memref sig .tc .smem S1 .f32) (harg3 : arg3.IsWhole) (arg4 : Memref sig .tc .vmem S1x256x128 .bf16) (harg4 : arg4.IsWhole) (arg5 : Memref sig .tc .vmem S1x128x2048 .bf16) (harg5 : arg5.IsWhole) (arg6 : Memref sig .tc .vmem S1x2048x128 .bf16) (harg6 : arg6.IsWhole) (arg7 : Memref sig .tc .vmem S1x1x256x2 .f32) (harg7 : arg7.IsWhole) (arg8 : Memref sig .tc .vmem S1x1x2x2048 .f32) (harg8 : arg8.IsWhole) (arg9 : Memref sig .tc .vmem S1x128 .f32) (harg9 : arg9.IsWhole) (arg10 : Memref sig .tc .vmem S1x256x128 .f32) (harg10 : arg10.IsWhole) (q : Vec F S1x256x128 .bf16) (cq : Vec F S1x1x256x2 .f32) (X_arg5 : BufTy.Contents (Elt F) arg5.view.ty) (X_arg6 : BufTy.Contents (Elt F) arg6.view.ty) (X_arg8 : BufTy.Contents (Elt F) arg8.view.ty) (k : Fin (k0_t1_loop i).trips) (s : State F) :
    tripR_k0_t1 (F := F) 𝒱 c bd i arg3 harg3 arg4 harg4 arg5 harg5 arg6 harg6 arg7 harg7 arg8 harg8 arg9 harg9 arg10 harg10 q cq X_arg5 X_arg6 X_arg8 k s
      = step q cq (kcol i (arg5.view.read (Elt F) X_arg5) k) (vrow i (arg6.view.read (Elt F) X_arg6) k) (ccol i (arg8.view.read (Elt F) X_arg8) k) s := by
  unfold tripR_k0_t1 trip_k0_t1
  dsimp only
  sl_unfold_words
  simp only [View.readAt_eq_ld]
  rfl

/-- The keys, the values and the keys' sums of log gates of the diagonal chunk. -/
def kdiag (i : grid0.Coords) (x : Vec F S1x128x2048 .bf16) : Vec F S1x128x256 .bf16 :=
  View.ld x (Rect.unit (s := S1x128x2048) (k0_off7 i) S1x128x256.size (k0_off7_inb i))

/-- See `kdiag`. -/
def vdiag (i : grid0.Coords) (x : Vec F S1x2048x128 .bf16) : Vec F S1x256x128 .bf16 :=
  View.ld x (Rect.unit (s := S1x2048x128) (k0_off8 i) S1x256x128.size (k0_off8_inb i))

/-- See `kdiag`. -/
def cdiag (i : grid0.Coords) (x : Vec F S1x1x2x2048 .f32) : Vec F S1x1x2x256 .f32 :=
  View.ld x (Rect.unit (s := S1x1x2x2048) (k0_off9 i) S1x1x2x256.size (k0_off9_inb i))

/-- The output block from the state before the diagonal chunk and that chunk. -/
def finish (q : Vec F S1x256x128 .bf16) (cq : Vec F S1x1x256x2 .f32) (kT : Vec F S1x128x256 .bf16) (v : Vec F S1x256x128 .bf16)
    (ck : Vec F S1x1x2x256 .f32) (s : State F) : FVec F S1x256x128 .f32 :=
  k0_pay1 k0_pay27 (k0_pay45 v)
    (k0_pay53 (k0_pay32 cq) k0_pay34 s.1 s.2.1 (k0_pay46 q kT) ck)
    (k0_pay54 (k0_pay32 cq) k0_pay34 s.1 s.2.2.1 (k0_pay45 v) (k0_pay46 q kT) ck)
    (k0_pay58 (k0_pay30 q) (k0_pay33 cq) k0_pay34 s.2.2.2.1 s.2.2.2.2.1 (k0_pay44 kT) (constant S256x256 .f32 0x00000000#32) ck)
    (k0_pay59 (k0_pay30 q) (k0_pay33 cq) k0_pay34 s.2.2.2.1 s.2.2.2.2.2 (k0_pay44 kT) (constant S256x256 .f32 0x00000000#32) ck)
    (k0_pay60 (k0_pay30 q) (k0_pay33 cq) k0_pay34 s.2.2.2.1 (k0_pay44 kT) (constant S256x256 .f32 0x00000000#32) ck)

/-- The loop's carried value before trip `k` is `state`. -/
theorem st_eq (𝒱 : Variants) (c : Dev nD) (bd : Option 𝒱.V) (i : grid0.Coords) (arg3 : Memref sig .tc .smem S1 .f32) (harg3 : arg3.IsWhole) (arg4 : Memref sig .tc .vmem S1x256x128 .bf16) (harg4 : arg4.IsWhole) (arg5 : Memref sig .tc .vmem S1x128x2048 .bf16) (harg5 : arg5.IsWhole) (arg6 : Memref sig .tc .vmem S1x2048x128 .bf16) (harg6 : arg6.IsWhole) (arg7 : Memref sig .tc .vmem S1x1x256x2 .f32) (harg7 : arg7.IsWhole) (arg8 : Memref sig .tc .vmem S1x1x2x2048 .f32) (harg8 : arg8.IsWhole) (arg9 : Memref sig .tc .vmem S1x128 .f32) (harg9 : arg9.IsWhole) (arg10 : Memref sig .tc .vmem S1x256x128 .f32) (harg10 : arg10.IsWhole) (q : Vec F S1x256x128 .bf16) (cq : Vec F S1x1x256x2 .f32) (X_arg5 : BufTy.Contents (Elt F) arg5.view.ty) (X_arg6 : BufTy.Contents (Elt F) arg6.view.ty) (X_arg8 : BufTy.Contents (Elt F) arg8.view.ty) :
    ∀ k : ℕ, k ≤ (k0_t1_loop i).trips →
    st_k0_t1 (F := F) 𝒱 c bd i arg3 harg3 arg4 harg4 arg5 harg5 arg6 harg6 arg7 harg7 arg8 harg8 arg9 harg9 arg10 harg10 q cq X_arg5 X_arg6 X_arg8 init k
      = state i q (arg5.view.read (Elt F) X_arg5) (arg6.view.read (Elt F) X_arg6) cq (arg8.view.read (Elt F) X_arg8) k
  | 0, _ => rfl
  | k + 1, hk => by
    have hk' : k < (k0_t1_loop i).trips := hk
    have e := st_k0_t1_succ (F := F) 𝒱 c bd i arg3 harg3 arg4 harg4 arg5 harg5 arg6 harg6 arg7 harg7 arg8 harg8 arg9 harg9 arg10 harg10 q cq X_arg5 X_arg6 X_arg8 init ⟨k, hk'⟩
    rw [trip_val] at e
    refine e.trans ?_
    rw [st_eq 𝒱 c bd i arg3 harg3 arg4 harg4 arg5 harg5 arg6 harg6 arg7 harg7 arg8 harg8 arg9 harg9 arg10 harg10 q cq X_arg5 X_arg6 X_arg8 k hk'.le, state, dif_pos hk']

/-- The second loop makes no trip: the first one's bound is already the last. -/
theorem trips2 (i : grid0.Coords) : (k0_t2_loop i).trips = 0 := Nat.le_zero.1 (k0_t2_abs i).2.1

/-- What one grid point leaves in its output block: the diagonal chunk's result on the state after the loop. -/
theorem out_A (c : Dev nD) (i : grid0.Coords) (arg3 : Memref sig .tc .smem S1 .f32) (harg3 : arg3.IsWhole) (arg4 : Memref sig .tc .vmem S1x256x128 .bf16) (harg4 : arg4.IsWhole) (arg5 : Memref sig .tc .vmem S1x128x2048 .bf16) (harg5 : arg5.IsWhole) (arg6 : Memref sig .tc .vmem S1x2048x128 .bf16) (harg6 : arg6.IsWhole) (arg7 : Memref sig .tc .vmem S1x1x256x2 .f32) (harg7 : arg7.IsWhole) (arg8 : Memref sig .tc .vmem S1x1x2x2048 .f32) (harg8 : arg8.IsWhole) (arg9 : Memref sig .tc .vmem S1x128 .f32) (harg9 : arg9.IsWhole) (arg10 : Memref sig .tc .vmem S1x256x128 .f32) (harg10 : arg10.IsWhole) (x0 : Vec F S1 .f32) (x1 : Vec F S1x256x128 .bf16) (x2 : Vec F S1x128x2048 .bf16) (x3 : Vec F S1x2048x128 .bf16) (x4 : Vec F S1x1x256x2 .f32) (x5 : Vec F S1x1x2x2048 .f32) (x6 : Vec F S1x128 .f32) :
    out0_A_7 (F := F) c i arg3 harg3 arg4 harg4 arg5 harg5 arg6 harg6 arg7 harg7 arg8 harg8 arg9 harg9 arg10 harg10 x0 x1 x2 x3 x4 x5 x6
      = finish x1 x4 (kdiag i x2) (vdiag i x3) (cdiag i x5) (state i x1 x2 x3 x4 x5 (k0_t1_loop i).trips) := by
  unfold out0_A_7
  unfold kernelRun0_A
  dsimp only
  sl_unfold_words
  simp only [View.readAt_eq_ld, View.ld_unit_zero (S := S1x256x128) hz3, View.ld_unit_zero (S := S1x1x256x2) hz4, harg4.read_unread, harg5.read_unread, harg6.read_unread, harg7.read_unread, harg8.read_unread]
  have e1 : st_k0_t1 (F := F) Variants.none c none i arg3 harg3 arg4 harg4 arg5 harg5 arg6 harg6 arg7 harg7 arg8 harg8 arg9 harg9 arg10 harg10 x1 x4 (harg5.unread x2) (harg6.unread x3) (harg8.unread x5)
      (k0_pay35, k0_pay36, k0_pay37, k0_pay35, k0_pay36, k0_pay37)
      (Scf.trips (0#32) (Scalar.addi (0#32) (Scalar.muli (Scalar.divsi (Scalar.subi (BitVec.ofNat 32 ↑(i 2)) 0#32) 1#32) 1#32)) 1#32)
      = state i x1 x2 x3 x4 x5 (k0_t1_loop i).trips := by
    have h := st_eq (F := F) Variants.none c none i arg3 harg3 arg4 harg4 arg5 harg5 arg6 harg6 arg7 harg7 arg8 harg8 arg9 harg9 arg10 harg10 x1 x4 (harg5.unread x2) (harg6.unread x3) (harg8.unread x5) (k0_t1_loop i).trips le_rfl
    rw [harg5.read_unread, harg6.read_unread, harg8.read_unread] at h
    exact h
  have e2 : ∀ s : State F, st_k0_t2 (F := F) Variants.none c none i arg3 harg3 arg4 harg4 arg5 harg5 arg6 harg6 arg7 harg7 arg8 harg8 arg9 harg9 arg10 harg10 x1 x4
      (Scalar.addi (0#32) (Scalar.muli (Scalar.divsi (Scalar.subi (BitVec.ofNat 32 ↑(i 2)) 0#32) 1#32) 1#32))
      (harg5.unread x2) (harg6.unread x3) (harg8.unread x5) s
      (Scf.trips (Scalar.addi (0#32) (Scalar.muli (Scalar.divsi (Scalar.subi (BitVec.ofNat 32 ↑(i 2)) 0#32) 1#32) 1#32))
        (Scalar.addi (0#32) (Scalar.subi (BitVec.ofNat 32 ↑(i 2)) 0#32)) 1#32) = s := by
    intro s
    have h : Scf.trips (Scalar.addi (0#32) (Scalar.muli (Scalar.divsi (Scalar.subi (BitVec.ofNat 32 ↑(i 2)) 0#32) 1#32) 1#32))
        (Scalar.addi (0#32) (Scalar.subi (BitVec.ofNat 32 ↑(i 2)) 0#32)) 1#32 = 0 := trips2 i
    rw [h]
    exact st_k0_t2_zero ..
  simp only [e2, e1]
  rw [View.read_writes_eq_canon, View.canon_unit_zero hz3]
  · rfl
  intro y
  refine ⟨_, List.mem_singleton_self _, ?_⟩
  rw [Rect.mem_set_unit]
  intro a
  match a with
  | ⟨0, _⟩ => exact ⟨Nat.zero_le _, by have := (y 0).isLt; show (y 0).val < 0 + 1; exact (Nat.zero_add _).symm ▸ this⟩
  | ⟨1, _⟩ => exact ⟨Nat.zero_le _, by have := (y 1).isLt; show (y 1).val < 0 + 256; exact (Nat.zero_add _).symm ▸ this⟩
  | ⟨2, _⟩ => exact ⟨Nat.zero_le _, by have := (y 2).isLt; show (y 2).val < 0 + 128; exact (Nat.zero_add _).symm ▸ this⟩

end Cert.FoxIdeal.Block

end
-- ==== Proof.OnlineSoftmax.lean ====
module

public import Idealize.ShloMosaic.Lib.IdealHost
public import Idealize.ShloMosaic.Lib.Tactic
public import Mathlib.Analysis.SpecialFunctions.Exp

@[expose] public section

noncomputable section

/-! # A softmax average taken chunk by chunk equals the softmax average taken at once

The scores of one row are extended reals other than +∞; a masked score is −∞. The chunked computation keeps a running
maximum `m`, a running sum `l` of exponentials relative to `m`, and a running weighted sum `a`; each chunk rescales what
was kept by `exp (m − m')`. Neither side's result depends on the number subtracted, as long as it is a real number, so no
property of the maximum is needed beyond that. -/

namespace Cert.OnlineSoftmax

open Idealize.ShloMosaic

/-- The weight of a score: its exponential, 0 for a masked score. -/
def weight (s : EReal) : ℝ := if s = ⊥ then 0 else Real.exp s.toReal

/-- A weight is not negative. -/
theorem weight_nonneg (s : EReal) : 0 ≤ weight s := by
  unfold weight
  split
  · exact le_refl _
  · exact (Real.exp_pos _).le

/-- The weight of a masked score is 0. -/
theorem weight_bot : weight ⊥ = 0 := if_pos rfl

/-- The weight of a real score is positive. -/
theorem weight_pos {s : EReal} (h : s ≠ ⊥) : 0 < weight s := by
  unfold weight
  rw [if_neg h]
  exact Real.exp_pos _

/-- The exponential of a score relative to a real number is the weight times one factor. -/
theorem exp_sub_coe {s : EReal} (h : s ≠ ⊤) (μ : ℝ) :
    Ideal.exp (s - (μ : EReal)) = ((weight s * Real.exp (-μ) : ℝ) : EReal) := by
  induction s using EReal.rec with
  | bot => rw [weight_bot, zero_mul, EReal.bot_sub, EReal.coe_zero]; rfl
  | top => exact absurd rfl h
  | coe t =>
    rw [← EReal.coe_sub]
    show ((Real.exp (t - μ) : ℝ) : EReal) = _
    unfold weight
    rw [if_neg (EReal.coe_ne_bot t), EReal.toReal_coe, ← Real.exp_add, sub_eq_add_neg]

/-- A real sum read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor distributes over a sum of extended reals. -/
theorem coe_mul_sum {ι : Type*} {e : ℝ} (he : 0 ≤ e) (s : Finset ι) (f : ι → EReal) :
    (e : EReal) * ∑ k ∈ s, f k = ∑ k ∈ s, (e : EReal) * f k := by
  classical
  induction s using Finset.induction_on with
  | empty => simp
  | insert a s ha ih =>
    rw [Finset.sum_insert ha, Finset.sum_insert ha,
      EReal.left_distrib_of_nonneg_of_ne_top (EReal.coe_nonneg.2 he) (EReal.coe_ne_top e), ih]

/-- The maximum of finitely many scores, none of them +∞, is not +∞. -/
theorem fold_max_ne_top {ι : Type*} (s : Finset ι) (b : EReal) (hb : b ≠ ⊤) (f : ι → EReal) (h : ∀ k, f k ≠ ⊤) :
    s.fold max b f ≠ ⊤ := by
  classical
  induction s using Finset.induction_on with
  | empty => simpa using hb
  | insert a s ha ih =>
    rw [Finset.fold_insert ha]
    rcases max_choice (f a) (s.fold max b f) with e | e
    · rw [e]; exact h a
    · rw [e]; exact ih

/-- Each score is at most the maximum. -/
theorem le_fold_max {ι : Type*} (s : Finset ι) (b : EReal) (f : ι → EReal) (k : ι) (hk : k ∈ s) : f k ≤ s.fold max b f :=
  (Finset.le_fold_max (f k)).2 (.inr ⟨k, hk, le_refl _⟩)

/-- What the chunked computation holds of one row and one output column: `L` is the sum of the weights so far and `A` the
    weighted sum so far; either nothing has been seen, or `l` and `a` are `L` and `A` relative to the real number `m`. -/
def Held (m l a : EReal) (L : ℝ) (A : EReal) : Prop :=
  (m = ⊥ ∧ l = 0 ∧ a = 0 ∧ L = 0 ∧ A = 0)
  ∨ ∃ μ : ℝ, m = (μ : EReal) ∧ l = ((Real.exp (-μ) * L : ℝ) : EReal) ∧ a = ((Real.exp (-μ) : ℝ) : EReal) * A

/-- At the start nothing has been seen. -/
theorem held_init : Held ⊥ 0 0 0 0 := .inl ⟨rfl, rfl, rfl, rfl, rfl⟩

/-- One chunk of scores `s` and values `v`, at least one score unmasked: the updated maximum, sum and weighted sum hold the
    chunk's weights too. -/
theorem held_step {ι : Type*} [Fintype ι] {m l a : EReal} {L : ℝ} {A : EReal} (h : Held m l a L A)
    (s v : ι → EReal) (htop : ∀ j, s j ≠ ⊤) (j0 : ι) (hbot : s j0 ≠ ⊥) :
    Held (max m (Finset.univ.fold max ⊥ s))
      (Ideal.exp (m - max m (Finset.univ.fold max ⊥ s)) * l + ∑ j, Ideal.exp (s j - max m (Finset.univ.fold max ⊥ s)))
      (Ideal.exp (m - max m (Finset.univ.fold max ⊥ s)) * a + ∑ j, Ideal.exp (s j - max m (Finset.univ.fold max ⊥ s)) * v j)
      (L + ∑ j, weight (s j)) (A + ∑ j, (weight (s j) : EReal) * v j) := by
  have hm : m ≠ ⊤ := by
    rcases h with ⟨e, -⟩ | ⟨μ, e, -⟩
    · rw [e]; exact bot_ne_top
    · rw [e]; exact EReal.coe_ne_top μ
  obtain ⟨ν, hν⟩ : ∃ ν : ℝ, max m (Finset.univ.fold max ⊥ s) = (ν : EReal) := by
    have h1 : max m (Finset.univ.fold max ⊥ s) ≠ ⊤ := by
      rcases max_choice m (Finset.univ.fold max ⊥ s) with e | e
      · rw [e]; exact hm
      · rw [e]; exact fold_max_ne_top _ _ bot_ne_top _ htop
    have h2 : max m (Finset.univ.fold max ⊥ s) ≠ ⊥ := fun e =>
      hbot (le_bot_iff.1 (((le_fold_max _ ⊥ s j0 (Finset.mem_univ _)).trans (le_max_right m _)).trans e.le))
    exact ⟨_, (EReal.coe_toReal h1 h2).symm⟩
  rw [hν]
  have es : ∀ j, Ideal.exp (s j - (ν : EReal)) = ((weight (s j) * Real.exp (-ν) : ℝ) : EReal) := fun j => exp_sub_coe (htop j) ν
  have hl : Ideal.exp (m - (ν : EReal)) * l = ((Real.exp (-ν) * L : ℝ) : EReal) := by
    rcases h with ⟨e, e1, -, e3, -⟩ | ⟨μ, e, e1, -⟩
    · rw [e1, e3, mul_zero, mul_zero, EReal.coe_zero]
    · rw [e, e1, exp_sub_coe (EReal.coe_ne_top μ) ν, ← EReal.coe_mul]
      unfold weight
      rw [if_neg (EReal.coe_ne_bot μ), EReal.toReal_coe]
      have : Real.exp μ * Real.exp (-μ) = 1 := by rw [← Real.exp_add, add_neg_cancel, Real.exp_zero]
      congr 1
      linear_combination (Real.exp (-ν) * L) * this
  have ha : Ideal.exp (m - (ν : EReal)) * a = ((Real.exp (-ν) : ℝ) : EReal) * A := by
    rcases h with ⟨e, -, e2, -, e4⟩ | ⟨μ, e, -, e2⟩
    · rw [e2, e4, mul_zero, mul_zero]
    · rw [e, e2, exp_sub_coe (EReal.coe_ne_top μ) ν, ← mul_assoc, ← EReal.coe_mul]
      unfold weight
      rw [if_neg (EReal.coe_ne_bot μ), EReal.toReal_coe]
      have : Real.exp μ * Real.exp (-μ) = 1 := by rw [← Real.exp_add, add_neg_cancel, Real.exp_zero]
      congr 2
      linear_combination (Real.exp (-ν)) * this
  refine .inr ⟨ν, rfl, ?_, ?_⟩
  · rw [hl, mul_add, EReal.coe_add, Finset.mul_sum, coe_sum]
    congr 1
    exact Finset.sum_congr rfl fun j _ => by rw [es, mul_comm]
  · rw [ha, EReal.left_distrib_of_nonneg_of_ne_top (EReal.coe_nonneg.2 (Real.exp_pos _).le) (EReal.coe_ne_top _),
      coe_mul_sum (Real.exp_pos _).le]
    congr 1
    exact Finset.sum_congr rfl fun j _ => by rw [es, ← mul_assoc, ← EReal.coe_mul, mul_comm (weight (s j))]

/-- A quotient by a positive real number is a product with its inverse. -/
theorem div_coe_pos {x : EReal} {y : ℝ} (hy : 0 < y) : Ideal.div x (y : EReal) = ((y⁻¹ : ℝ) : EReal) * x := by
  have h0 : (y : EReal) ≠ 0 := fun e => hy.ne' (EReal.coe_eq_zero.1 e)
  unfold Ideal.div
  rw [if_neg h0, mul_comm, EReal.coe_inv]

/-- At the end: the weighted sum over the sum of weights, with the real number subtracted no longer in it. -/
theorem held_div {m l a : EReal} {L : ℝ} {A : EReal} (h : Held m l a L A) (hL : 0 < L) :
    Ideal.div a l = ((L⁻¹ : ℝ) : EReal) * A := by
  rcases h with ⟨-, -, -, e3, -⟩ | ⟨μ, -, e1, e2⟩
  · exact absurd e3 hL.ne'
  · have hp := Real.exp_pos (-μ)
    rw [e1, e2, div_coe_pos (mul_pos hp hL), ← mul_assoc, ← EReal.coe_mul]
    congr 2
    field_simp

/-- The softmax average taken at once, relative to any real number `M`: the same quotient. -/
theorem softmax_avg {ι : Type*} [Fintype ι] (s v : ι → EReal) (htop : ∀ k, s k ≠ ⊤) (k0 : ι) (hbot : s k0 ≠ ⊥) (M : ℝ) :
    ∑ k, Ideal.div (Ideal.exp (s k - (M : EReal))) (∑ k', Ideal.exp (s k' - (M : EReal))) * v k
      = (((∑ k, weight (s k))⁻¹ : ℝ) : EReal) * ∑ k, (weight (s k) : EReal) * v k := by
  have hL : 0 < ∑ k, weight (s k) :=
    Finset.sum_pos' (fun k _ => weight_nonneg _) ⟨k0, Finset.mem_univ _, weight_pos hbot⟩
  have hp := Real.exp_pos (-M)
  have e : ∑ k', Ideal.exp (s k' - (M : EReal)) = (((∑ k, weight (s k)) * Real.exp (-M) : ℝ) : EReal) := by
    rw [Finset.sum_mul, coe_sum]
    exact Finset.sum_congr rfl fun k _ => exp_sub_coe (htop k) M
  rw [e, coe_mul_sum (inv_nonneg.2 hL.le)]
  refine Finset.sum_congr rfl fun k _ => ?_
  rw [exp_sub_coe (htop k) M, div_coe_pos (mul_pos hL hp), ← EReal.coe_mul,
    ← mul_assoc (((∑ k, weight (s k))⁻¹ : ℝ) : EReal) (weight (s k) : EReal) (v k), ← EReal.coe_mul]
  congr 2
  field_simp

/-- The maximum of a row with an unmasked score, none of them +∞, is a real number. -/
theorem fold_max_real {ι : Type*} [Fintype ι] (s : ι → EReal) (htop : ∀ k, s k ≠ ⊤) (k0 : ι) (hbot : s k0 ≠ ⊥) :
    ∃ M : ℝ, Finset.univ.fold max ⊥ s = (M : EReal) := by
  have h1 := fold_max_ne_top Finset.univ ⊥ bot_ne_top s htop
  have h2 : Finset.univ.fold max ⊥ s ≠ ⊥ := fun e =>
    hbot (le_bot_iff.1 ((le_fold_max _ ⊥ s k0 (Finset.mem_univ _)).trans e.le))
  exact ⟨_, (EReal.coe_toReal h1 h2).symm⟩

/-- Key `j` of chunk `c`: chunks of 256 keys out of 2048. -/
def key (c : ℕ) (j : Fin 256) : Fin 2048 := ⟨(256 * c + j.val) % 2048, Nat.mod_lt _ (by norm_num)⟩

/-- Below eight chunks the key's position is the plain sum. -/
theorem key_val {c : ℕ} (hc : c < 8) (j : Fin 256) : (key c j).val = 256 * c + j.val :=
  Nat.mod_eq_of_lt (by omega)

/-- A sum over all keys is the sum over the chunks of the sums over each chunk. -/
theorem sum_chunks {M : Type*} [AddCommMonoid M] (f : Fin 2048 → M) :
    ∑ k, f k = ∑ c ∈ Finset.range 8, ∑ j, f (key c j) := by
  rw [Finset.sum_range, ← Fintype.sum_prod_type']
  refine (Fintype.sum_equiv (finProdFinEquiv (m := 8) (n := 256)) _ _ fun p => ?_).symm
  refine congrArg f (Fin.ext ?_)
  rw [key_val p.1.isLt]
  show _ = p.2.val + 256 * p.1.val
  omega

/-- Where every key of the later chunks weighs nothing, the sum over the first `n` chunks is the sum over all keys. -/
theorem sum_first_chunks {M : Type*} [AddCommMonoid M] (f : Fin 2048 → M) {n : ℕ} (hn : n ≤ 8)
    (h : ∀ c, n ≤ c → c < 8 → ∀ j, f (key c j) = 0) : ∑ k, f k = ∑ c ∈ Finset.range n, ∑ j, f (key c j) := by
  rw [sum_chunks]
  refine (Finset.sum_subset (Finset.range_mono hn) fun c hc hn' => ?_).symm
  exact Finset.sum_eq_zero fun j _ => h c (by simpa using hn') (by simpa using hc) j

end Cert.OnlineSoftmax

end
-- ==== Proof.FoxRow.lean ====
module

public import proofs.«01_k».proof.Proof.FoxBlock
public import proofs.«01_k».proof.Proof.OnlineSoftmax
public import Idealize.ShloMosaic.Lib.Pointwise

@[expose] public section

set_option maxRecDepth 16384

noncomputable section

/-! # The forgetting attention's kernel, row by row

One row of a block of 256 queries, for the two heads that share the block's 128 lanes: head 0 has the lanes below 64, head 1
the rest. -/

namespace Cert.FoxIdeal.Block

open Cert.FoxIdeal Cert.FoxIdeal.Gen Idealize.ShloMosaic Idealize.ShloMosaic.TcCoe Idealize.SL.Sem Cert.OnlineSoftmax

/-- Lane `x` of head `h`. -/
def lane (h : Fin 2) (x : Fin 64) : Fin 128 := ⟨64 * h.val + x.val, by omega⟩

/-- The score of query row `r` against key `j`, unmasked: the head's lanes of the product, plus the difference of the sums of
    log gates. The number of keys is 256 for a chunk and 2048 for the whole window. -/
def score (n : ℕ) (h : Fin 2) (q : Fin 128 → EReal) (cq : Fin 2 → EReal) (kT : Fin 128 → Fin n → EReal) (ck : Fin 2 → Fin n → EReal)
    (j : Fin n) : EReal :=
  (∑ x : Fin 64, q (lane h x) * kT (lane h x) j) + (cq h - ck h j)

/-- A sum over 128 lanes of which only the first half counts. -/
theorem sum_lo (f : Fin 128 → EReal) :
    ∑ x : Fin 128, Scalar.select (IntOp.cmpi .slt (BitVec.ofNat 32 x.val) 64#32) (f x) 0 = ∑ x : Fin 64, f (lane 0 x) := by
  have e : ∀ x : Fin 128, Scalar.select (IntOp.cmpi .slt (BitVec.ofNat 32 x.val) 64#32) (f x) 0 = if x.val < 64 then f x else 0 := by
    intro x
    rw [show (64#32 : BitVec 32) = BitVec.ofNat 32 64 from rfl, WordCmp.cmpi_slt_ofNat (by have := x.isLt; omega) (by omega)]
    by_cases h : x.val < 64 <;> simp [h, Scalar.select]
  rw [Finset.sum_congr rfl fun x _ => e x, Fin.sum_univ_add (a := 64) (b := 64)]
  have e0 : ∑ i : Fin 64, (if (Fin.castAdd 64 i).val < 64 then f (Fin.castAdd 64 i) else 0) = ∑ x : Fin 64, f (lane 0 x) :=
    Finset.sum_congr rfl fun x _ => by
      rw [if_pos (show (Fin.castAdd 64 x).val < 64 from x.isLt)]
      exact congrArg f (Fin.ext (by simp [lane, Nat.add_comm]))
  have e1 : ∑ i : Fin 64, (if (Fin.natAdd 64 i).val < 64 then f (Fin.natAdd 64 i) else 0) = 0 :=
    Finset.sum_eq_zero fun x _ => if_neg (by simp)
  rw [e0, e1, add_zero]

/-- A sum over 128 lanes of which only the second half counts. -/
theorem sum_hi (f : Fin 128 → EReal) :
    ∑ x : Fin 128, Scalar.select (IntOp.cmpi .slt (BitVec.ofNat 32 x.val) 64#32) 0 (f x) = ∑ x : Fin 64, f (lane 1 x) := by
  have e : ∀ x : Fin 128, Scalar.select (IntOp.cmpi .slt (BitVec.ofNat 32 x.val) 64#32) 0 (f x) = if x.val < 64 then 0 else f x := by
    intro x
    rw [show (64#32 : BitVec 32) = BitVec.ofNat 32 64 from rfl, WordCmp.cmpi_slt_ofNat (by have := x.isLt; omega) (by omega)]
    by_cases h : x.val < 64 <;> simp [h, Scalar.select]
  rw [Finset.sum_congr rfl fun x _ => e x, Fin.sum_univ_add (a := 64) (b := 64)]
  have e0 : ∑ i : Fin 64, (if (Fin.castAdd 64 i).val < 64 then 0 else f (Fin.castAdd 64 i)) = 0 :=
    Finset.sum_eq_zero fun x _ => if_pos (show (Fin.castAdd 64 x).val < 64 from x.isLt)
  have e1 : ∑ i : Fin 64, (if (Fin.natAdd 64 i).val < 64 then 0 else f (Fin.natAdd 64 i)) = ∑ x : Fin 64, f (lane 1 x) :=
    Finset.sum_congr rfl fun x _ => by
      rw [if_neg (by simp)]
      exact congrArg f (Fin.ext (by simp [lane, Nat.add_comm]))
  rw [e0, e1, zero_add]

/-- The word of minus infinity. -/
theorem ninf_eq : Ideal.ofBits FTy.f32 4286578688#32 = ⊥ := by
  simp [Ideal.ofBits, Ideal.ieee]

/-- The named mask is minus infinity. -/
theorem mask_eq : (Named.named (F := Ideal) (φ := .f32) κ "mask" 4048155338#32 : EReal) = ⊥ := by
  rfl

variable (q : Vec Ideal S1x256x128 .bf16) (cq : Vec Ideal S1x1x256x2 .f32)

/-- Row `r` of the block of queries. -/
def qrow (r : Fin 256) : Fin 128 → EReal := fun x => q (ix3 0 r x)

/-- Row `r` of the queries' sums of log gates. -/
def cqrow (r : Fin 256) : Fin 2 → EReal := fun h => cq (ix4 0 0 r h)

/-- A chunk's scores of row `r`. -/
def cscore (h : Fin 2) (kT : Vec Ideal S1x128x256 .bf16) (ck : Vec Ideal S1x1x2x256 .f32) (r : Fin 256) : Fin 256 → EReal :=
  score 256 h (qrow q r) (cqrow cq r) (fun x j => kT (ix3 0 x j)) (fun h j => ck (ix4 0 0 h j))

/-- The first head's chunk of scores. -/
theorem score0 (kT : Vec Ideal S1x128x256 .bf16) (ck : Vec Ideal S1x1x2x256 .f32) (r j : Fin 256) :
    k0_pay5 (k0_pay29 q) (k0_pay32 cq) kT ck (ix2 r j) = cscore q cq 0 kT ck r j := by
  pointwise [k0_pay5, k0_pay29, k0_pay32, k0_pay2, k0_pay4, k0_pay26, k0_pay27, k0_pay28, k0_pay31]
  rw [sum_lo fun x => q (ix3 0 r x) * kT (ix3 0 x j)]
  rfl

/-- The second head's chunk of scores. -/
theorem score1 (kT : Vec Ideal S1x128x256 .bf16) (ck : Vec Ideal S1x1x2x256 .f32) (r j : Fin 256) :
    k0_pay6 (k0_pay30 q) (k0_pay33 cq) kT ck (ix2 r j) = cscore q cq 1 kT ck r j := by
  pointwise [k0_pay6, k0_pay30, k0_pay33, k0_pay2, k0_pay4, k0_pay26, k0_pay27, k0_pay28, k0_pay31]
  rw [sum_hi fun x => q (ix3 0 r x) * kT (ix3 0 x j)]
  rfl

/-- The causal mask: keys after the query are masked. -/
def masked (s : Fin 256 → EReal) (r : Fin 256) : Fin 256 → EReal := fun j => if j.val ≤ r.val then s j else ⊥

/-- The selection by the causal comparison is the causal mask. -/
theorem select_causal (r j : Fin 256) (x : EReal) :
    Scalar.select (IntOp.cmpi .sle (BitVec.ofNat 32 j.val) (BitVec.ofNat 32 r.val)) x ⊥ = if j.val ≤ r.val then x else ⊥ := by
  rw [WordCmp.cmpi_sle_ofNat (by have := j.isLt; omega) (by have := r.isLt; omega)]
  by_cases h : j.val ≤ r.val <;> simp [h, Scalar.select]

/-- The first head's diagonal chunk of scores. -/
theorem dscore0 (kT : Vec Ideal S1x128x256 .bf16) (ck : Vec Ideal S1x1x2x256 .f32) (r j : Fin 256) :
    k0_pay48 (k0_pay32 cq) k0_pay34 (k0_pay46 q kT) ck (ix2 r j) = masked (cscore q cq 0 kT ck r) r j := by
  pointwise [k0_pay48, k0_pay34, k0_pay46, k0_pay29, k0_pay32, k0_pay44, k0_pay47, k0_pay26, k0_pay27, k0_pay28, k0_pay31]
  rw [sum_lo fun x => q (ix3 0 r x) * kT (ix3 0 x j), mask_eq, select_causal]
  rfl

/-- The second head's diagonal chunk of scores. -/
theorem dscore1 (kT : Vec Ideal S1x128x256 .bf16) (ck : Vec Ideal S1x1x2x256 .f32) (r j : Fin 256) :
    k0_pay49 (k0_pay30 q) (k0_pay33 cq) k0_pay34 (k0_pay44 kT) (constant S256x256 .f32 0x00000000#32) ck (ix2 r j) = masked (cscore q cq 1 kT ck r) r j := by
  pointwise [k0_pay49, k0_pay34, k0_pay30, k0_pay33, k0_pay44, k0_pay47, k0_pay26, k0_pay27, k0_pay28, k0_pay31]
  rw [sum_hi fun x => q (ix3 0 r x) * kT (ix3 0 x j), mask_eq, select_causal]
  rfl

/-- The first head's maximum after a chunk. -/
theorem max0 (m : FVec Ideal S256x1 .f32) (kT : Vec Ideal S1x128x256 .bf16) (ck : Vec Ideal S1x1x2x256 .f32) (r : Fin 256) :
    k0_pay7 (k0_pay29 q) (k0_pay32 cq) m kT ck (ix2 r 0) = max (m (ix2 r 0)) (Finset.univ.fold max ⊥ (cscore q cq 0 kT ck r)) := by
  pointwise [k0_pay7]
  rw [ninf_eq, funext fun x => score0 q cq kT ck r x]

/-- The second head's maximum after a chunk. -/
theorem max1 (m : FVec Ideal S256x1 .f32) (kT : Vec Ideal S1x128x256 .bf16) (ck : Vec Ideal S1x1x2x256 .f32) (r : Fin 256) :
    k0_pay12 (k0_pay30 q) (k0_pay33 cq) m kT ck (ix2 r 0) = max (m (ix2 r 0)) (Finset.univ.fold max ⊥ (cscore q cq 1 kT ck r)) := by
  pointwise [k0_pay12]
  rw [ninf_eq, funext fun x => score1 q cq kT ck r x]

/-- What a state holds of head 0's row `r` and lane `d`. -/
def Held0 (s : State Ideal) (r : Fin 256) (d : Fin 128) (L : ℝ) (A : EReal) : Prop :=
  Held (s.1 (ix2 r 0)) (s.2.1 (ix2 r 0)) (s.2.2.1 (ix2 r d)) L A

/-- What a state holds of head 1's row `r` and lane `d`. -/
def Held1 (s : State Ideal) (r : Fin 256) (d : Fin 128) (L : ℝ) (A : EReal) : Prop :=
  Held (s.2.2.2.1 (ix2 r 0)) (s.2.2.2.2.1 (ix2 r 0)) (s.2.2.2.2.2 (ix2 r d)) L A

/-- The state before the loop holds nothing of head 0. -/
theorem init0 (r : Fin 256) (d : Fin 128) : Held0 init r d 0 0 := by
  have e1 : k0_pay35 (F := Ideal) (ix2 r 0) = ⊥ := by
    pointwise [k0_pay35]
    exact mask_eq
  have e2 : k0_pay36 (F := Ideal) (ix2 r 0) = 0 := by
    pointwise [k0_pay36]
  have e3 : k0_pay37 (F := Ideal) (ix2 r d) = 0 := by
    pointwise [k0_pay37]
  unfold Held0 init
  dsimp only
  rw [e1, e2, e3]
  exact held_init

/-- The state before the loop holds nothing of head 1. -/
theorem init1 (r : Fin 256) (d : Fin 128) : Held1 init r d 0 0 := init0 r d

/-- A chunk's step at head 0's row `r` and lane `d`. -/
theorem step0 (kT : Vec Ideal S1x128x256 .bf16) (v : Vec Ideal S1x256x128 .bf16) (ck : Vec Ideal S1x1x2x256 .f32) (s : State Ideal)
    (r : Fin 256) (d : Fin 128) {L : ℝ} {A : EReal} (h : Held0 s r d L A)
    (htop : ∀ j, cscore q cq 0 kT ck r j ≠ ⊤) (hbot : ∀ j, cscore q cq 0 kT ck r j ≠ ⊥) :
    Held0 (step q cq kT v ck s) r d (L + ∑ j, weight (cscore q cq 0 kT ck r j))
      (A + ∑ j, (weight (cscore q cq 0 kT ck r j) : EReal) * v (ix3 0 j d)) := by
  have e := held_step h (cscore q cq 0 kT ck r) (fun j => v (ix3 0 j d)) htop 0 (hbot 0)
  rw [← max0] at e
  have e2 : k0_pay10 (k0_pay29 q) (k0_pay32 cq) s.1 s.2.1 kT ck (ix2 r 0)
      = Ideal.exp (s.1 (ix2 r 0) - k0_pay7 (k0_pay29 q) (k0_pay32 cq) s.1 kT ck (ix2 r 0)) * s.2.1 (ix2 r 0)
        + ∑ j, Ideal.exp (cscore q cq 0 kT ck r j - k0_pay7 (k0_pay29 q) (k0_pay32 cq) s.1 kT ck (ix2 r 0)) := by
    simp only [← score0]
    pointwise [k0_pay10, k0_pay9, k0_pay8]
  have e3 : k0_pay11 (k0_pay29 q) (k0_pay32 cq) s.1 s.2.2.1 kT v ck (ix2 r d)
      = Ideal.exp (s.1 (ix2 r 0) - k0_pay7 (k0_pay29 q) (k0_pay32 cq) s.1 kT ck (ix2 r 0)) * s.2.2.1 (ix2 r d)
        + ∑ j, Ideal.exp (cscore q cq 0 kT ck r j - k0_pay7 (k0_pay29 q) (k0_pay32 cq) s.1 kT ck (ix2 r 0)) * v (ix3 0 j d) := by
    simp only [← score0]
    pointwise [k0_pay11, k0_pay9, k0_pay8, k0_pay3]
  rw [← e2, ← e3] at e
  exact e

/-- A chunk's step at head 1's row `r` and lane `d`. -/
theorem step1 (kT : Vec Ideal S1x128x256 .bf16) (v : Vec Ideal S1x256x128 .bf16) (ck : Vec Ideal S1x1x2x256 .f32) (s : State Ideal)
    (r : Fin 256) (d : Fin 128) {L : ℝ} {A : EReal} (h : Held1 s r d L A)
    (htop : ∀ j, cscore q cq 1 kT ck r j ≠ ⊤) (hbot : ∀ j, cscore q cq 1 kT ck r j ≠ ⊥) :
    Held1 (step q cq kT v ck s) r d (L + ∑ j, weight (cscore q cq 1 kT ck r j))
      (A + ∑ j, (weight (cscore q cq 1 kT ck r j) : EReal) * v (ix3 0 j d)) := by
  have e := held_step h (cscore q cq 1 kT ck r) (fun j => v (ix3 0 j d)) htop 0 (hbot 0)
  rw [← max1] at e
  have e2 : k0_pay39 s.2.2.2.2.1 (k0_pay6 (k0_pay30 q) (k0_pay33 cq) kT ck) (k0_pay12 (k0_pay30 q) (k0_pay33 cq) s.2.2.2.1 kT ck) (k0_pay13 (k0_pay30 q) (k0_pay33 cq) s.2.2.2.1 kT ck) (ix2 r 0)
      = Ideal.exp (s.2.2.2.1 (ix2 r 0) - k0_pay12 (k0_pay30 q) (k0_pay33 cq) s.2.2.2.1 kT ck (ix2 r 0)) * s.2.2.2.2.1 (ix2 r 0)
        + ∑ j, Ideal.exp (cscore q cq 1 kT ck r j - k0_pay12 (k0_pay30 q) (k0_pay33 cq) s.2.2.2.1 kT ck (ix2 r 0)) := by
    simp only [← score1]
    pointwise [k0_pay39, k0_pay38, k0_pay13]
  have e3 : k0_pay40 s.2.2.2.2.2 (k0_pay3 v) (k0_pay6 (k0_pay30 q) (k0_pay33 cq) kT ck) (k0_pay12 (k0_pay30 q) (k0_pay33 cq) s.2.2.2.1 kT ck) (k0_pay13 (k0_pay30 q) (k0_pay33 cq) s.2.2.2.1 kT ck) (ix2 r d)
      = Ideal.exp (s.2.2.2.1 (ix2 r 0) - k0_pay12 (k0_pay30 q) (k0_pay33 cq) s.2.2.2.1 kT ck (ix2 r 0)) * s.2.2.2.2.2 (ix2 r d)
        + ∑ j, Ideal.exp (cscore q cq 1 kT ck r j - k0_pay12 (k0_pay30 q) (k0_pay33 cq) s.2.2.2.1 kT ck (ix2 r 0)) * v (ix3 0 j d) := by
    simp only [← score1]
    pointwise [k0_pay40, k0_pay38, k0_pay13, k0_pay3]
  rw [← e2, ← e3] at e
  exact e

/-- The selection by the lane's half, at a lane of the first half. -/
theorem select_lo (d : Fin 128) (hd : d.val < 64) (x y : EReal) :
    Scalar.select (IntOp.cmpi .slt (BitVec.ofNat 32 d.val) 64#32) x y = x := by
  rw [show (64#32 : BitVec 32) = BitVec.ofNat 32 64 from rfl, WordCmp.cmpi_slt_ofNat (by have := d.isLt; omega) (by omega)]
  simp [hd, Scalar.select]

/-- The selection by the lane's half, at a lane of the second half. -/
theorem select_hi (d : Fin 128) (hd : ¬ d.val < 64) (x y : EReal) :
    Scalar.select (IntOp.cmpi .slt (BitVec.ofNat 32 d.val) 64#32) x y = y := by
  rw [show (64#32 : BitVec 32) = BitVec.ofNat 32 64 from rfl, WordCmp.cmpi_slt_ofNat (by have := d.isLt; omega) (by omega)]
  simp [hd, Scalar.select]

/-- The output at a lane of the first head: its weighted sum over its sum, after the diagonal chunk. -/
theorem finish0 (kT : Vec Ideal S1x128x256 .bf16) (v : Vec Ideal S1x256x128 .bf16) (ck : Vec Ideal S1x1x2x256 .f32) (s : State Ideal)
    (r : Fin 256) (d : Fin 128) (hd : d.val < 64) {L : ℝ} {A : EReal} (h : Held0 s r d L A) (hL : 0 ≤ L)
    (htop : ∀ j, cscore q cq 0 kT ck r j ≠ ⊤) (hbot : ∀ j, cscore q cq 0 kT ck r j ≠ ⊥) :
    finish q cq kT v ck s (ix3 0 r d)
      = (((L + ∑ j, weight (masked (cscore q cq 0 kT ck r) r j))⁻¹ : ℝ) : EReal)
        * (A + ∑ j, (weight (masked (cscore q cq 0 kT ck r) r j) : EReal) * v (ix3 0 j d)) := by
  have htop' : ∀ j, masked (cscore q cq 0 kT ck r) r j ≠ ⊤ := fun j => by
    unfold masked; split
    · exact htop j
    · exact bot_ne_top
  have hbot' : masked (cscore q cq 0 kT ck r) r r ≠ ⊥ := by
    unfold masked; rw [if_pos le_rfl]; exact hbot r
  have e := held_step h _ (fun j => v (ix3 0 j d)) htop' r hbot'
  refine Eq.trans ?_ (held_div e ?_)
  · have em : k0_pay50 (k0_pay32 cq) k0_pay34 s.1 (k0_pay46 q kT) ck (ix2 r 0)
        = max (s.1 (ix2 r 0)) (Finset.univ.fold max ⊥ (masked (cscore q cq 0 kT ck r) r)) := by
      pointwise [k0_pay50]
      rw [ninf_eq, funext fun x => dscore0 q cq kT ck r x]
    rw [← em]
    simp only [← dscore0]
    unfold finish
    pointwise [k0_pay1, k0_pay27, k0_pay54, k0_pay53, k0_pay52, k0_pay51, k0_pay45]
    exact select_lo d hd _ _
  · exact add_pos_of_nonneg_of_pos hL (Finset.sum_pos' (fun j _ => weight_nonneg _) ⟨r, Finset.mem_univ _, weight_pos hbot'⟩)

/-- The output at a lane of the second head: its weighted sum over its sum, after the diagonal chunk. -/
theorem finish1 (kT : Vec Ideal S1x128x256 .bf16) (v : Vec Ideal S1x256x128 .bf16) (ck : Vec Ideal S1x1x2x256 .f32) (s : State Ideal)
    (r : Fin 256) (d : Fin 128) (hd : ¬ d.val < 64) {L : ℝ} {A : EReal} (h : Held1 s r d L A) (hL : 0 ≤ L)
    (htop : ∀ j, cscore q cq 1 kT ck r j ≠ ⊤) (hbot : ∀ j, cscore q cq 1 kT ck r j ≠ ⊥) :
    finish q cq kT v ck s (ix3 0 r d)
      = (((L + ∑ j, weight (masked (cscore q cq 1 kT ck r) r j))⁻¹ : ℝ) : EReal)
        * (A + ∑ j, (weight (masked (cscore q cq 1 kT ck r) r j) : EReal) * v (ix3 0 j d)) := by
  have htop' : ∀ j, masked (cscore q cq 1 kT ck r) r j ≠ ⊤ := fun j => by
    unfold masked; split
    · exact htop j
    · exact bot_ne_top
  have hbot' : masked (cscore q cq 1 kT ck r) r r ≠ ⊥ := by
    unfold masked; rw [if_pos le_rfl]; exact hbot r
  have e := held_step h _ (fun j => v (ix3 0 j d)) htop' r hbot'
  refine Eq.trans ?_ (held_div e ?_)
  · have em : k0_pay55 (k0_pay30 q) (k0_pay33 cq) k0_pay34 s.2.2.2.1 (k0_pay44 kT) (constant S256x256 .f32 0x00000000#32) ck (ix2 r 0)
        = max (s.2.2.2.1 (ix2 r 0)) (Finset.univ.fold max ⊥ (masked (cscore q cq 1 kT ck r) r)) := by
      pointwise [k0_pay55]
      rw [ninf_eq, funext fun x => dscore1 q cq kT ck r x]
    rw [← em]
    simp only [← dscore1]
    unfold finish
    pointwise [k0_pay1, k0_pay27, k0_pay60, k0_pay59, k0_pay58, k0_pay57, k0_pay56, k0_pay45]
    exact select_hi d hd _ _
  · exact add_pos_of_nonneg_of_pos hL (Finset.sum_pos' (fun j _ => weight_nonneg _) ⟨r, Finset.mem_univ _, weight_pos hbot'⟩)

end Cert.FoxIdeal.Block

end
-- ==== Proof.FoxValue.lean ====
module

public import proofs.«01_k».proof.Proof.FoxRow
public import Idealize.ShloMosaic.Lib.Pointwise

@[expose] public section

set_option maxRecDepth 16384

noncomputable section

/-! # The forgetting attention's kernel: the result array -/

namespace Cert.FoxIdeal.Block

open Cert.FoxIdeal Cert.FoxIdeal.Gen Idealize.ShloMosaic Idealize.ShloMosaic.TcCoe Idealize.SL.Sem Cert.OnlineSoftmax
open Idealize.ShloMosaic.Pipeline (Dat)

/-! ## The chunks as parts of the windows -/

/-- The loop makes as many trips as there are chunks before the diagonal one. -/
theorem trips_eq (i : grid0.Coords) : (k0_t1_loop i).trips = (i 2).val := by
  have h : ∀ n : Fin 8, Scf.trips (0#32) (Scalar.addi (0#32) (Scalar.muli (Scalar.divsi (Scalar.subi (BitVec.ofNat 32 n.val) 0#32) 1#32) 1#32)) 1#32 = n.val := by
    decide +kernel
  exact h (i 2)

/-- A chunk of keys read at an index. -/
theorem kcol_apply (i : grid0.Coords) (x : Vec Ideal S1x128x2048 .bf16) (k : Fin (k0_t1_loop i).trips) (a : Fin 128) (j : Fin 256) :
    kcol i x k (ix3 0 a j) = x (ix3 0 a (key k.val j)) := by
  have hk : k.val < 8 := lt_of_lt_of_le k.isLt ((k0_t1_abs i).2.1.trans (by norm_num))
  refine View.ld_unit_apply_of _ _ _ _ _ _ fun b => ?_
  have h := congrFun (k0_off1_eq i k) b
  rw [h]
  match b with
  | ⟨0, _⟩ => rfl
  | ⟨1, _⟩ => exact (Nat.zero_add _).symm
  | ⟨2, _⟩ => exact key_val hk j

/-- A chunk of values read at an index. -/
theorem vrow_apply (i : grid0.Coords) (x : Vec Ideal S1x2048x128 .bf16) (k : Fin (k0_t1_loop i).trips) (j : Fin 256) (a : Fin 128) :
    vrow i x k (ix3 0 j a) = x (ix3 0 (key k.val j) a) := by
  have hk : k.val < 8 := lt_of_lt_of_le k.isLt ((k0_t1_abs i).2.1.trans (by norm_num))
  refine View.ld_unit_apply_of _ _ _ _ _ _ fun b => ?_
  have h := congrFun (k0_off2_eq i k) b
  rw [h]
  match b with
  | ⟨0, _⟩ => rfl
  | ⟨1, _⟩ => exact key_val hk j
  | ⟨2, _⟩ => exact (Nat.zero_add _).symm

/-- A chunk of the keys' sums of log gates read at an index. -/
theorem ccol_apply (i : grid0.Coords) (x : Vec Ideal S1x1x2x2048 .f32) (k : Fin (k0_t1_loop i).trips) (a : Fin 2) (j : Fin 256) :
    ccol i x k (ix4 0 0 a j) = x (ix4 0 0 a (key k.val j)) := by
  have hk : k.val < 8 := lt_of_lt_of_le k.isLt ((k0_t1_abs i).2.1.trans (by norm_num))
  refine View.ld_unit_apply_of _ _ _ _ _ _ fun b => ?_
  have h := congrFun (k0_off3_eq i k) b
  rw [h]
  match b with
  | ⟨0, _⟩ => rfl
  | ⟨1, _⟩ => rfl
  | ⟨2, _⟩ => exact (Nat.zero_add _).symm
  | ⟨3, _⟩ => exact key_val hk j

/-- The diagonal chunk of keys read at an index. -/
theorem kdiag_apply (i : grid0.Coords) (x : Vec Ideal S1x128x2048 .bf16) (a : Fin 128) (j : Fin 256) :
    kdiag i x (ix3 0 a j) = x (ix3 0 a (key (i 2).val j)) := by
  refine View.ld_unit_apply_of _ _ _ _ _ _ fun b => ?_
  have h := congrFun (k0_off7_eq i) b
  rw [h]
  match b with
  | ⟨0, _⟩ => rfl
  | ⟨1, _⟩ => exact (Nat.zero_add _).symm
  | ⟨2, _⟩ => exact key_val (i 2).isLt j

/-- The diagonal chunk of values read at an index. -/
theorem vdiag_apply (i : grid0.Coords) (x : Vec Ideal S1x2048x128 .bf16) (j : Fin 256) (a : Fin 128) :
    vdiag i x (ix3 0 j a) = x (ix3 0 (key (i 2).val j) a) := by
  refine View.ld_unit_apply_of _ _ _ _ _ _ fun b => ?_
  have h := congrFun (k0_off8_eq i) b
  rw [h]
  match b with
  | ⟨0, _⟩ => rfl
  | ⟨1, _⟩ => exact key_val (i 2).isLt j
  | ⟨2, _⟩ => exact (Nat.zero_add _).symm

/-- The diagonal chunk of the keys' sums of log gates read at an index. -/
theorem cdiag_apply (i : grid0.Coords) (x : Vec Ideal S1x1x2x2048 .f32) (a : Fin 2) (j : Fin 256) :
    cdiag i x (ix4 0 0 a j) = x (ix4 0 0 a (key (i 2).val j)) := by
  refine View.ld_unit_apply_of _ _ _ _ _ _ fun b => ?_
  have h := congrFun (k0_off9_eq i) b
  rw [h]
  match b with
  | ⟨0, _⟩ => rfl
  | ⟨1, _⟩ => rfl
  | ⟨2, _⟩ => exact (Nat.zero_add _).symm
  | ⟨3, _⟩ => exact key_val (i 2).isLt j

/-! ## One row of the output block -/

variable (q : Vec Ideal S1x256x128 .bf16) (kT : Vec Ideal S1x128x2048 .bf16) (v : Vec Ideal S1x2048x128 .bf16)
  (cq : Vec Ideal S1x1x256x2 .f32) (ck : Vec Ideal S1x1x2x2048 .f32)

/-- Row `r`'s scores against all 2048 keys of the windows, unmasked. -/
def wscore (h : Fin 2) (r : Fin 256) : Fin 2048 → EReal :=
  score 2048 h (qrow q r) (cqrow cq r) (fun x j => kT (ix3 0 x j)) (fun h j => ck (ix4 0 0 h j))

/-- Row `r`'s masked scores: row `r` of chunk `n` sees the keys up to its own position. -/
def mscore (n : ℕ) (h : Fin 2) (r : Fin 256) : Fin 2048 → EReal :=
  fun k => if k.val ≤ 256 * n + r.val then wscore q kT cq ck h r k else ⊥

/-- A loop chunk's scores are the window's at the chunk's keys. -/
theorem cscore_col (i : grid0.Coords) (k : Fin (k0_t1_loop i).trips) (h : Fin 2) (r j : Fin 256) :
    cscore q cq h (kcol i kT k) (ccol i ck k) r j = wscore q kT cq ck h r (key k.val j) := by
  unfold cscore wscore score
  simp only [kcol_apply, ccol_apply]

/-- The diagonal chunk's scores are the window's at the chunk's keys. -/
theorem cscore_diag (i : grid0.Coords) (h : Fin 2) (r j : Fin 256) :
    cscore q cq h (kdiag i kT) (cdiag i ck) r j = wscore q kT cq ck h r (key (i 2).val j) := by
  unfold cscore wscore score
  simp only [kdiag_apply, cdiag_apply]

/-- Before the diagonal chunk every key is seen. -/
theorem mscore_lt {n c : ℕ} (hn : n < 8) (hc : c < n) (h : Fin 2) (r j : Fin 256) :
    mscore q kT cq ck n h r (key c j) = wscore q kT cq ck h r (key c j) := by
  unfold mscore
  rw [key_val (hc.trans hn), if_pos (by have := j.isLt; omega)]

/-- In the diagonal chunk the mask is the block's. -/
theorem mscore_diag (i : grid0.Coords) (h : Fin 2) (r j : Fin 256) :
    mscore q kT cq ck (i 2).val h r (key (i 2).val j) = masked (cscore q cq h (kdiag i kT) (cdiag i ck) r) r j := by
  unfold mscore masked
  rw [key_val (i 2).isLt, cscore_diag]
  by_cases hj : j.val ≤ r.val
  · rw [if_pos (by omega), if_pos hj]
  · rw [if_neg (by omega), if_neg hj]

/-- After the diagonal chunk every key is masked. -/
theorem mscore_gt {n c : ℕ} (hc : n < c) (hc8 : c < 8) (h : Fin 2) (r j : Fin 256) :
    mscore q kT cq ck n h r (key c j) = ⊥ := by
  unfold mscore
  rw [key_val hc8, if_neg (by have := r.isLt; omega)]

variable (hfin : ∀ h r k, wscore q kT cq ck h r k ≠ ⊤ ∧ wscore q kT cq ck h r k ≠ ⊥)

include hfin in
/-- What the state before trip `n` holds of head 0: the first `n` chunks' weights. -/
theorem held0 (i : grid0.Coords) (r : Fin 256) (d : Fin 128) : ∀ n : ℕ, n ≤ (k0_t1_loop i).trips →
    Held0 (state i q kT v cq ck n) r d (∑ c ∈ Finset.range n, ∑ j, weight (mscore q kT cq ck (i 2).val 0 r (key c j)))
      (∑ c ∈ Finset.range n, ∑ j, (weight (mscore q kT cq ck (i 2).val 0 r (key c j)) : EReal) * v (ix3 0 (key c j) d))
  | 0, _ => init0 r d
  | n + 1, hn => by
    have hn' : n < (k0_t1_loop i).trips := hn
    have h2 : n < (i 2).val := trips_eq i ▸ hn'
    have e := step0 q cq (kcol i kT ⟨n, hn'⟩) (vrow i v ⟨n, hn'⟩) (ccol i ck ⟨n, hn'⟩) _ r d (held0 i r d n hn'.le)
      (fun j => by rw [cscore_col]; exact (hfin _ _ _).1) (fun j => by rw [cscore_col]; exact (hfin _ _ _).2)
    rw [Finset.sum_range_succ, Finset.sum_range_succ, state, dif_pos hn']
    simp only [cscore_col, vrow_apply] at e
    simp only [mscore_lt q kT cq ck (i 2).isLt h2]
    exact e

include hfin in
/-- What the state before trip `n` holds of head 1: the first `n` chunks' weights. -/
theorem held1 (i : grid0.Coords) (r : Fin 256) (d : Fin 128) : ∀ n : ℕ, n ≤ (k0_t1_loop i).trips →
    Held1 (state i q kT v cq ck n) r d (∑ c ∈ Finset.range n, ∑ j, weight (mscore q kT cq ck (i 2).val 1 r (key c j)))
      (∑ c ∈ Finset.range n, ∑ j, (weight (mscore q kT cq ck (i 2).val 1 r (key c j)) : EReal) * v (ix3 0 (key c j) d))
  | 0, _ => init1 r d
  | n + 1, hn => by
    have hn' : n < (k0_t1_loop i).trips := hn
    have h2 : n < (i 2).val := trips_eq i ▸ hn'
    have e := step1 q cq (kcol i kT ⟨n, hn'⟩) (vrow i v ⟨n, hn'⟩) (ccol i ck ⟨n, hn'⟩) _ r d (held1 i r d n hn'.le)
      (fun j => by rw [cscore_col]; exact (hfin _ _ _).1) (fun j => by rw [cscore_col]; exact (hfin _ _ _).2)
    rw [Finset.sum_range_succ, Finset.sum_range_succ, state, dif_pos hn']
    simp only [cscore_col, vrow_apply] at e
    simp only [mscore_lt q kT cq ck (i 2).isLt h2]
    exact e

/-- The masked softmax average of values with the weights of scores. -/
def average (s v : Fin 2048 → EReal) : EReal :=
  (((∑ k, weight (s k))⁻¹ : ℝ) : EReal) * ∑ k, (weight (s k) : EReal) * v k

/-- The head of a lane. -/
def headOf (d : Fin 128) : Fin 2 := ⟨d.val / 64, by omega⟩

include hfin in
/-- The output block at row `r` and lane `d`: the masked softmax average of the values' lane. -/
theorem finish_apply (i : grid0.Coords) (r : Fin 256) (d : Fin 128) :
    finish q cq (kdiag i kT) (vdiag i v) (cdiag i ck) (state i q kT v cq ck (k0_t1_loop i).trips) (ix3 0 r d)
      = average (mscore q kT cq ck (i 2).val (headOf d) r) (fun k => v (ix3 0 k d)) := by
  have h8 : (i 2).val + 1 ≤ 8 := (i 2).isLt
  have key1 : ∀ h : Fin 2, ∑ k, weight (mscore q kT cq ck (i 2).val h r k)
      = (∑ c ∈ Finset.range (i 2).val, ∑ j, weight (mscore q kT cq ck (i 2).val h r (key c j)))
        + ∑ j, weight (masked (cscore q cq h (kdiag i kT) (cdiag i ck) r) r j) := by
    intro h
    rw [sum_first_chunks _ h8 fun c hc hc8 j => by rw [mscore_gt q kT cq ck hc hc8, weight_bot], Finset.sum_range_succ]
    simp only [mscore_diag]
  have key2 : ∀ h : Fin 2, ∑ k, (weight (mscore q kT cq ck (i 2).val h r k) : EReal) * v (ix3 0 k d)
      = (∑ c ∈ Finset.range (i 2).val, ∑ j, (weight (mscore q kT cq ck (i 2).val h r (key c j)) : EReal) * v (ix3 0 (key c j) d))
        + ∑ j, (weight (masked (cscore q cq h (kdiag i kT) (cdiag i ck) r) r j) : EReal) * vdiag i v (ix3 0 j d) := by
    intro h
    rw [sum_first_chunks _ h8 fun c hc hc8 j => by rw [mscore_gt q kT cq ck hc hc8, weight_bot, EReal.coe_zero, zero_mul], Finset.sum_range_succ]
    simp only [mscore_diag, vdiag_apply]
  have hnn : ∀ h : Fin 2, 0 ≤ ∑ c ∈ Finset.range (i 2).val, ∑ j, weight (mscore q kT cq ck (i 2).val h r (key c j)) :=
    fun h => Finset.sum_nonneg fun c _ => Finset.sum_nonneg fun j _ => weight_nonneg _
  unfold average
  rw [key1, key2]
  by_cases hd : d.val < 64
  · have e0 : headOf d = 0 := Fin.ext (Nat.div_eq_of_lt hd)
    rw [e0]
    have e := held0 q kT v cq ck hfin i r d _ le_rfl
    have ht := trips_eq i
    refine finish0 q cq _ _ _ _ r d hd (ht ▸ e) (hnn 0) (fun j => ?_) (fun j => ?_)
    · rw [cscore_diag]; exact (hfin _ _ _).1
    · rw [cscore_diag]; exact (hfin _ _ _).2
  · have e0 : headOf d = 1 := Fin.ext (by show d.val / 64 = 1; have := d.isLt; omega)
    rw [e0]
    have e := held1 q kT v cq ck hfin i r d _ le_rfl
    have ht := trips_eq i
    refine finish1 q cq _ _ _ _ r d hd (ht ▸ e) (hnn 1) (fun j => ?_) (fun j => ?_)
    · rw [cscore_diag]; exact (hfin _ _ _).1
    · rw [cscore_diag]; exact (hfin _ _ _).2

end Cert.FoxIdeal.Block

end
-- ==== Proof.FoxWindows.lean ====
module

public import proofs.«01_k».proof.Proof.FoxValue

@[expose] public section

set_option maxRecDepth 16384

noncomputable section

/-! # The forgetting attention's kernel: the windows as parts of the arguments -/

namespace Cert.FoxIdeal.Block

open Cert.FoxIdeal Cert.FoxIdeal.Gen Idealize.ShloMosaic Idealize.ShloMosaic.TcCoe Idealize.SL.Sem Cert.OnlineSoftmax
open Idealize.ShloMosaic.Pipeline (Dat)

variable (m : (ℓ : Loc nD τ sig) → Buf (Elt Ideal) ℓ)

/-- Position `t` of sequence `b` among the 16384 rows. -/
def pos (b : Fin 8) (t : Fin 2048) : Fin 16384 := ⟨2048 * b.val + t.val, by omega⟩

/-- The queries. -/
def argQ (c : Dev nD) (p : Fin 16384) (e : Fin 512) : EReal := (m ((c : Thread nD τ).loc main_arg0) : Vec Ideal S16384x512 .bf16) (ix2 p e)

/-- The keys. -/
def argK (c : Dev nD) (p : Fin 16384) (e : Fin 512) : EReal := (m ((c : Thread nD τ).loc main_arg1) : Vec Ideal S16384x512 .bf16) (ix2 p e)

/-- The values. -/
def argV (c : Dev nD) (p : Fin 16384) (e : Fin 512) : EReal := (m ((c : Thread nD τ).loc main_arg2) : Vec Ideal S16384x512 .bf16) (ix2 p e)

/-- The sums of log gates. -/
def argC (c : Dev nD) (p : Fin 16384) (h : Fin 8) : EReal := (m ((c : Thread nD τ).loc main_arg3) : Vec Ideal S16384x8 .f32) (ix2 p h)

/-- The host's rearranged queries. -/
theorem V_v1 (c : Dev nD) : V m c main_v1 = shapeCast S8x2048x512 (m ((c : Thread nD τ).loc main_arg0)) shapeCasts_S16384x512_S8x2048x512 := by
  unfold V hostOps0
  after_results
  rfl

/-- The host's transposed keys. -/
theorem V_v3 (c : Dev nD) : V m c main_v3 = transpose S8x512x2048 [0, 2, 1] (shapeCast S8x2048x512 (m ((c : Thread nD τ).loc main_arg1)) shapeCasts_S16384x512_S8x2048x512) transposes_S8x2048x512_S8x512x2048_0_2_1 := by
  unfold V hostOps0
  after_results
  rfl

/-- The host's rearranged values. -/
theorem V_v4 (c : Dev nD) : V m c main_v4 = shapeCast S8x2048x512 (m ((c : Thread nD τ).loc main_arg2)) shapeCasts_S16384x512_S8x2048x512 := by
  unfold V hostOps0
  after_results
  rfl

/-- The host's sums of log gates, laid out for the queries. -/
theorem V_v6 (c : Dev nD) : V m c main_v6 = transpose S8x4x2048x2 [0, 2, 1, 3] (shapeCast S8x2048x4x2 (m ((c : Thread nD τ).loc main_arg3)) shapeCasts_S16384x8_S8x2048x4x2) transposes_S8x2048x4x2_S8x4x2048x2_0_2_1_3 := by
  unfold V hostOps0
  after_results
  rfl

/-- The host's sums of log gates, laid out for the keys. -/
theorem V_v7 (c : Dev nD) : V m c main_v7 = transpose S8x4x2x2048 [0, 2, 3, 1] (shapeCast S8x2048x4x2 (m ((c : Thread nD τ).loc main_arg3)) shapeCasts_S16384x8_S8x2048x4x2) transposes_S8x2048x4x2_S8x4x2x2048_0_2_3_1 := by
  unfold V hostOps0
  after_results
  rfl

/-- The sequence of grid point `t`. -/
def seqOf (t : Fin cfg0.N) : Fin 8 := ⟨t.val / 32, by have := t.isLt; have hN : cfg0.N = 256 := N_0; omega⟩

/-- The pair of heads of grid point `t`. -/
def pairOf (t : Fin cfg0.N) : Fin 4 := ⟨t.val / 8 % 4, by omega⟩

/-- The chunk of queries of grid point `t`. -/
def chunkOf (t : Fin cfg0.N) : Fin 8 := ⟨t.val % 8, by omega⟩

/-- Row `r` of chunk `n`. -/
def rowOf (n : Fin 8) (r : Fin 256) : Fin 2048 := ⟨256 * n.val + r.val, by omega⟩

/-- Lane `x` of pair `j`. -/
def colOf (j : Fin 4) (x : Fin 128) : Fin 512 := ⟨128 * j.val + x.val, by omega⟩

/-- Head `h` of pair `j`. -/
def headIn (j : Fin 4) (h : Fin 2) : Fin 8 := ⟨2 * j.val + h.val, by omega⟩

/-- The third grid coordinate is the chunk. -/
theorem coord2 (t : Fin cfg0.N) : (grid0.coords t 2).val = t.val % 8 := by
  have h : ∀ t : Fin grid0.N, (grid0.coords t 2).val = t.val % 8 := by decide +kernel
  exact h t

/-- Rows of sequences, read at a sequence and a position. -/
theorem rows_apply (x : Vec Ideal S16384x512 .bf16) (b : Fin 8) (t : Fin 2048) (e : Fin 512) :
    shapeCast S8x2048x512 x shapeCasts_S16384x512_S8x2048x512 (ix3 b t e) = x (ix2 (pos b t) e) := by
  pointwise
  congr 2
  exact Fin.ext (by show b.val * 2048 + t.val = 2048 * b.val + t.val; omega)

/-- Rows of sums of log gates, read at a sequence, a position, a pair of heads and a head. -/
theorem gates_apply (x : Vec Ideal S16384x8 .f32) (b : Fin 8) (t : Fin 2048) (j : Fin 4) (h : Fin 2) :
    shapeCast S8x2048x4x2 x shapeCasts_S16384x8_S8x2048x4x2 (ix4 b t j h) = x (ix2 (pos b t) (headIn j h)) := by
  pointwise
  congr 2
  · exact Fin.ext (by show b.val * 2048 + t.val = 2048 * b.val + t.val; omega)
  · exact Fin.ext (by show j.val * 2 + h.val = 2 * j.val + h.val; omega)

/-- The transposed keys, element by element. -/
theorem keysT_apply (x : Vec Ideal S8x2048x512 .bf16) (b : Fin 8) (t : Fin 2048) (e : Fin 512) :
    transpose S8x512x2048 [0, 2, 1] x transposes_S8x2048x512_S8x512x2048_0_2_1 (ix3 b e t) = x (ix3 b t e) := by
  pointwise

/-- The sums of log gates laid out for the queries, element by element. -/
theorem gatesQ_apply (x : Vec Ideal S8x2048x4x2 .f32) (b : Fin 8) (t : Fin 2048) (j : Fin 4) (h : Fin 2) :
    transpose S8x4x2048x2 [0, 2, 1, 3] x transposes_S8x2048x4x2_S8x4x2048x2_0_2_1_3 (ix4 b j t h) = x (ix4 b t j h) := by
  pointwise

/-- The sums of log gates laid out for the keys, element by element. -/
theorem gatesK_apply (x : Vec Ideal S8x2048x4x2 .f32) (b : Fin 8) (t : Fin 2048) (j : Fin 4) (h : Fin 2) :
    transpose S8x4x2x2048 [0, 2, 3, 1] x transposes_S8x2048x4x2_S8x4x2x2048_0_2_3_1 (ix4 b j h t) = x (ix4 b t j h) := by
  pointwise

/-- Where the block of the queries lies at each grid point. -/
theorem index1 (t : Fin cfg0.N) : win0_1.index t 0 = t.val / 32 ∧ win0_1.index t 1 = t.val % 8 ∧ win0_1.index t 2 = t.val / 8 % 4 := by
  have h : ∀ t : Fin grid0.N, win0_1.index t 0 = t.val / 32 ∧ win0_1.index t 1 = t.val % 8 ∧ win0_1.index t 2 = t.val / 8 % 4 := by decide +kernel
  exact h t

/-- Where the block of the keys lies at each grid point. -/
theorem index2 (t : Fin cfg0.N) : win0_2.index t 0 = t.val / 32 ∧ win0_2.index t 1 = t.val / 8 % 4 ∧ win0_2.index t 2 = 0 := by
  have h : ∀ t : Fin grid0.N, win0_2.index t 0 = t.val / 32 ∧ win0_2.index t 1 = t.val / 8 % 4 ∧ win0_2.index t 2 = 0 := by decide +kernel
  exact h t

/-- Where the block of the values lies at each grid point. -/
theorem index3 (t : Fin cfg0.N) : win0_3.index t 0 = t.val / 32 ∧ win0_3.index t 1 = 0 ∧ win0_3.index t 2 = t.val / 8 % 4 := by
  have h : ∀ t : Fin grid0.N, win0_3.index t 0 = t.val / 32 ∧ win0_3.index t 1 = 0 ∧ win0_3.index t 2 = t.val / 8 % 4 := by decide +kernel
  exact h t

/-- Where the block of the queries' sums of log gates lies at each grid point. -/
theorem index4 (t : Fin cfg0.N) : win0_4.index t 0 = t.val / 32 ∧ win0_4.index t 1 = t.val / 8 % 4 ∧ win0_4.index t 2 = t.val % 8 ∧ win0_4.index t 3 = 0 := by
  have h : ∀ t : Fin grid0.N, win0_4.index t 0 = t.val / 32 ∧ win0_4.index t 1 = t.val / 8 % 4 ∧ win0_4.index t 2 = t.val % 8 ∧ win0_4.index t 3 = 0 := by decide +kernel
  exact h t

/-- Where the block of the keys' sums of log gates lies at each grid point. -/
theorem index5 (t : Fin cfg0.N) : win0_5.index t 0 = t.val / 32 ∧ win0_5.index t 1 = t.val / 8 % 4 ∧ win0_5.index t 2 = 0 ∧ win0_5.index t 3 = 0 := by
  have h : ∀ t : Fin grid0.N, win0_5.index t 0 = t.val / 32 ∧ win0_5.index t 1 = t.val / 8 % 4 ∧ win0_5.index t 2 = 0 ∧ win0_5.index t 3 = 0 := by decide +kernel
  exact h t

/-- Where the block of the result lies at each grid point. -/
theorem index7 (t : Fin cfg0.N) : win0_7.index t 0 = t.val / 32 ∧ win0_7.index t 1 = t.val % 8 ∧ win0_7.index t 2 = t.val / 8 % 4 := by
  have h : ∀ t : Fin grid0.N, win0_7.index t 0 = t.val / 32 ∧ win0_7.index t 1 = t.val % 8 ∧ win0_7.index t 2 = t.val / 8 % 4 := by decide +kernel
  exact h t

/-- The queries' block. -/
theorem iblk1_apply (c : Dev nD) (t : Fin cfg0.N) (r : Fin 256) (x : Fin 128) :
    (iblk m c 1 t : Vec Ideal S1x256x128 .bf16) (ix3 0 r x) = argQ m c (pos (seqOf t) (rowOf (chunkOf t) r)) (colOf (pairOf t) x) := by
  have hi := index1 t
  unfold iblk
  rw [View.read_apply]
  show V m c main_v1 _ = _
  have e : (((cfg0.win 1).blk t).view.emb (ix3 0 r x : S1x256x128.Idx)) = (ix3 (seqOf t) (rowOf (chunkOf t) r) (colOf (pairOf t) x) : S8x2048x512.Idx) := by
    funext a
    apply Fin.ext
    match a with
    | ⟨0, _⟩ => show win0_1.index t 0 * 1 + 1 * 0 = t.val / 32; omega
    | ⟨1, _⟩ => show win0_1.index t 1 * 256 + 1 * r.val = 256 * (t.val % 8) + r.val; omega
    | ⟨2, _⟩ => show win0_1.index t 2 * 128 + 1 * x.val = 128 * (t.val / 8 % 4) + x.val; omega
  refine (congrArg (V m c main_v1) e).trans ?_
  rw [V_v1]
  exact rows_apply _ _ _ _

/-- The keys' block. -/
theorem iblk2_apply (c : Dev nD) (t : Fin cfg0.N) (x : Fin 128) (k : Fin 2048) :
    (iblk m c 2 t : Vec Ideal S1x128x2048 .bf16) (ix3 0 x k) = argK m c (pos (seqOf t) k) (colOf (pairOf t) x) := by
  have hi := index2 t
  unfold iblk
  rw [View.read_apply]
  show V m c main_v3 _ = _
  have e : (((cfg0.win 2).blk t).view.emb (ix3 0 x k : S1x128x2048.Idx)) = (ix3 (seqOf t) (colOf (pairOf t) x) k : S8x512x2048.Idx) := by
    funext a
    apply Fin.ext
    match a with
    | ⟨0, _⟩ => show win0_2.index t 0 * 1 + 1 * 0 = t.val / 32; omega
    | ⟨1, _⟩ => show win0_2.index t 1 * 128 + 1 * x.val = 128 * (t.val / 8 % 4) + x.val; omega
    | ⟨2, _⟩ => show win0_2.index t 2 * 2048 + 1 * k.val = k.val; omega
  refine (congrArg (V m c main_v3) e).trans ?_
  rw [V_v3]
  exact (keysT_apply _ _ _ _).trans (rows_apply _ _ _ _)

/-- The queries' sums of log gates. -/
theorem iblk4_apply (c : Dev nD) (t : Fin cfg0.N) (r : Fin 256) (h : Fin 2) :
    (iblk m c 4 t : Vec Ideal S1x1x256x2 .f32) (ix4 0 0 r h) = argC m c (pos (seqOf t) (rowOf (chunkOf t) r)) (headIn (pairOf t) h) := by
  have hi := index4 t
  unfold iblk
  rw [View.read_apply]
  show V m c main_v6 _ = _
  have e : (((cfg0.win 4).blk t).view.emb (ix4 0 0 r h : S1x1x256x2.Idx)) = (ix4 (seqOf t) (pairOf t) (rowOf (chunkOf t) r) h : S8x4x2048x2.Idx) := by
    funext a
    apply Fin.ext
    match a with
    | ⟨0, _⟩ => show win0_4.index t 0 * 1 + 1 * 0 = t.val / 32; omega
    | ⟨1, _⟩ => show win0_4.index t 1 * 1 + 1 * 0 = t.val / 8 % 4; omega
    | ⟨2, _⟩ => show win0_4.index t 2 * 256 + 1 * r.val = 256 * (t.val % 8) + r.val; omega
    | ⟨3, _⟩ => show win0_4.index t 3 * 2 + 1 * h.val = h.val; omega
  refine (congrArg (V m c main_v6) e).trans ?_
  rw [V_v6]
  exact (gatesQ_apply _ _ _ _ _).trans (gates_apply _ _ _ _ _)

/-- The values' block. -/
theorem iblk3_apply (c : Dev nD) (t : Fin cfg0.N) (k : Fin 2048) (x : Fin 128) :
    (iblk m c 3 t : Vec Ideal S1x2048x128 .bf16) (ix3 0 k x) = argV m c (pos (seqOf t) k) (colOf (pairOf t) x) := by
  have hi := index3 t
  unfold iblk
  rw [View.read_apply]
  show V m c main_v4 _ = _
  have e : (((cfg0.win 3).blk t).view.emb (ix3 0 k x : S1x2048x128.Idx)) = (ix3 (seqOf t) k (colOf (pairOf t) x) : S8x2048x512.Idx) := by
    funext a
    apply Fin.ext
    match a with
    | ⟨0, _⟩ => show win0_3.index t 0 * 1 + 1 * 0 = t.val / 32; omega
    | ⟨1, _⟩ => show win0_3.index t 1 * 2048 + 1 * k.val = k.val; omega
    | ⟨2, _⟩ => show win0_3.index t 2 * 128 + 1 * x.val = 128 * (t.val / 8 % 4) + x.val; omega
  refine (congrArg (V m c main_v4) e).trans ?_
  rw [V_v4]
  exact rows_apply _ _ _ _

/-- The keys' sums of log gates. -/
theorem iblk5_apply (c : Dev nD) (t : Fin cfg0.N) (h : Fin 2) (k : Fin 2048) :
    (iblk m c 5 t : Vec Ideal S1x1x2x2048 .f32) (ix4 0 0 h k) = argC m c (pos (seqOf t) k) (headIn (pairOf t) h) := by
  have hi := index5 t
  unfold iblk
  rw [View.read_apply]
  show V m c main_v7 _ = _
  have e : (((cfg0.win 5).blk t).view.emb (ix4 0 0 h k : S1x1x2x2048.Idx)) = (ix4 (seqOf t) (pairOf t) h k : S8x4x2x2048.Idx) := by
    funext a
    apply Fin.ext
    match a with
    | ⟨0, _⟩ => show win0_5.index t 0 * 1 + 1 * 0 = t.val / 32; omega
    | ⟨1, _⟩ => show win0_5.index t 1 * 1 + 1 * 0 = t.val / 8 % 4; omega
    | ⟨2, _⟩ => show win0_5.index t 2 * 2 + 1 * h.val = h.val; omega
    | ⟨3, _⟩ => show win0_5.index t 3 * 2048 + 1 * k.val = k.val; omega
  refine (congrArg (V m c main_v7) e).trans ?_
  rw [V_v7]
  exact (gatesK_apply _ _ _ _ _).trans (gates_apply _ _ _ _ _)

end Cert.FoxIdeal.Block

end
-- ==== Proof.FoxArray.lean ====
module

public import proofs.«01_k».proof.Proof.FoxWindows

@[expose] public section

set_option maxRecDepth 16384

noncomputable section

/-! # The forgetting attention's kernel: the result array -/

namespace Cert.FoxIdeal.Block

open Cert.FoxIdeal Cert.FoxIdeal.Gen Idealize.ShloMosaic Idealize.ShloMosaic.TcCoe Idealize.SL.Sem Cert.OnlineSoftmax
open Idealize.ShloMosaic.Pipeline (Dat)

/-! ## The layer, of any arrays -/

/-- Lane `x` of head `h` among the 512. -/
def laneOf (h : Fin 8) (x : Fin 64) : Fin 512 := ⟨64 * h.val + x.val, by omega⟩

/-- The head of a column. -/
def headCol (e : Fin 512) : Fin 8 := ⟨e.val / 64, by omega⟩

/-- The score of position `t` against position `s` of sequence `b` in head `h`: the product of query and key, plus the difference of
    the sums of log gates. -/
def rscore (q k : Fin 16384 → Fin 512 → EReal) (u : Fin 16384 → Fin 8 → EReal) (b h : Fin 8) (t s : Fin 2048) : EReal :=
  (∑ x : Fin 64, q (pos b t) (laneOf h x) * k (pos b s) (laneOf h x)) + (u (pos b t) h - u (pos b s) h)

/-- Position `t`'s causally masked scores. -/
def rowAt (q k : Fin 16384 → Fin 512 → EReal) (u : Fin 16384 → Fin 8 → EReal) (b h : Fin 8) (t : Fin 2048) : Fin 2048 → EReal :=
  fun s => if s.val ≤ t.val then rscore q k u b h t s else ⊥

/-- The layer at position `t` of sequence `b`, column `e`: the masked softmax average of the values' column. -/
def layerAt (q k v : Fin 16384 → Fin 512 → EReal) (u : Fin 16384 → Fin 8 → EReal) (b : Fin 8) (t : Fin 2048) (e : Fin 512) : EReal :=
  average (rowAt q k u b (headCol e) t) (fun s => v (pos b s) e)

/-! ## Finite scores -/

/-- A number that is neither infinity. -/
def IsReal (x : EReal) : Prop := x ≠ ⊤ ∧ x ≠ ⊥

/-- An extended real that is neither infinity is a real number. -/
theorem IsReal.real {x : EReal} (h : IsReal x) : ∃ a : ℝ, x = (a : EReal) := ⟨_, (EReal.coe_toReal h.1 h.2).symm⟩

/-- A real number is neither infinity. -/
theorem fin_coe (a : ℝ) : IsReal (a : EReal) := ⟨EReal.coe_ne_top a, EReal.coe_ne_bot a⟩

/-- Scores of finite queries, keys and sums of log gates are finite. -/
theorem rscore_fin (q k : Fin 16384 → Fin 512 → EReal) (u : Fin 16384 → Fin 8 → EReal) (hq : ∀ p e, IsReal (q p e)) (hk : ∀ p e, IsReal (k p e))
    (hu : ∀ p h, IsReal (u p h)) (b h : Fin 8) (t s : Fin 2048) : IsReal (rscore q k u b h t s) := by
  unfold rscore
  obtain ⟨a1, e1⟩ := (hu (pos b t) h).real
  obtain ⟨a2, e2⟩ := (hu (pos b s) h).real
  choose fq hfq using fun x => (hq (pos b t) (laneOf h x)).real
  choose fk hfk using fun x => (hk (pos b s) (laneOf h x)).real
  simp only [hfq, hfk, e1, e2, ← EReal.coe_mul, ← coe_sum, ← EReal.coe_sub, ← EReal.coe_add]
  exact fin_coe _

/-! ## The kernel's blocks are blocks of the layer -/

variable (m : (ℓ : Loc nD τ sig) → Buf (Elt Ideal) ℓ)

/-- The layer as an array of device `c`'s arguments. -/
def layer (c : Dev nD) : Vec Ideal S8x2048x512 .f32 :=
  fun i => layerAt (argQ m c) (argK m c) (argV m c) (argC m c) (i 0) (i 1) (i 2)

/-- The windows' scores are the layer's. -/
theorem wscore_eq (c : Dev nD) (t : Fin cfg0.N) (h : Fin 2) (r : Fin 256) (s : Fin 2048) :
    wscore (iblk m c 1 t : Vec Ideal S1x256x128 .bf16) (iblk m c 2 t : Vec Ideal S1x128x2048 .bf16)
        (iblk m c 4 t : Vec Ideal S1x1x256x2 .f32) (iblk m c 5 t : Vec Ideal S1x1x2x2048 .f32) h r s
      = rscore (argQ m c) (argK m c) (argC m c) (seqOf t) (headIn (pairOf t) h) (rowOf (chunkOf t) r) s := by
  have e : ∀ x : Fin 64, colOf (pairOf t) (lane h x) = laneOf (headIn (pairOf t) h) x := fun x =>
    Fin.ext (by show 128 * (t.val / 8 % 4) + (64 * h.val + x.val) = 64 * (2 * (t.val / 8 % 4) + h.val) + x.val; omega)
  unfold wscore score qrow cqrow rscore
  simp only [iblk1_apply, iblk2_apply, iblk4_apply, iblk5_apply, e]

/-- The windows' masked scores are the layer's. -/
theorem mscore_eq (c : Dev nD) (t : Fin cfg0.N) (h : Fin 2) (r : Fin 256) :
    mscore (iblk m c 1 t : Vec Ideal S1x256x128 .bf16) (iblk m c 2 t : Vec Ideal S1x128x2048 .bf16)
        (iblk m c 4 t : Vec Ideal S1x1x256x2 .f32) (iblk m c 5 t : Vec Ideal S1x1x2x2048 .f32) (grid0.coords t 2).val h r
      = rowAt (argQ m c) (argK m c) (argC m c) (seqOf t) (headIn (pairOf t) h) (rowOf (chunkOf t) r) := by
  funext s
  unfold mscore rowAt
  rw [wscore_eq, coord2]
  rfl

variable (hq : ∀ c p e, IsReal (argQ m c p e)) (hk : ∀ c p e, IsReal (argK m c p e)) (hu : ∀ c p h, IsReal (argC m c p h))

include hq hk hu in
/-- What point `t` writes back is its block of the layer. -/
theorem flushed_eq (c : Dev nD) (t : Fin cfg0.N) :
    (dats m 0 c).flushed 7 t = ((cfg0.win 7).blk t).view.read (Elt Ideal) (layer m c) := by
  have hi := index7 t
  rw [Value.flushed7_A, out_A]
  funext j
  rw [View.read_apply]
  obtain ⟨r, d, rfl⟩ : ∃ (r : Fin 256) (d : Fin 128), j = (ix3 0 r d : S1x256x128.Idx) := by
    refine ⟨j 1, j 2, ?_⟩
    funext a
    match a with
    | ⟨0, _⟩ => exact Fin.ext (by have : (j 0 : Nat) < 1 := (j 0).isLt; show (j 0 : Nat) = 0; omega)
    | ⟨1, _⟩ => rfl
    | ⟨2, _⟩ => rfl
  refine (finish_apply _ _ _ _ _ (fun h r k => ?_) (grid0.coords t) r d).trans ?_
  · rw [wscore_eq]
    exact rscore_fin _ _ _ (hq c) (hk c) (hu c) _ _ _ _
  · have e : (((cfg0.win 7).blk t).view.emb (ix3 0 r d : S1x256x128.Idx)) = (ix3 (seqOf t) (rowOf (chunkOf t) r) (colOf (pairOf t) d) : S8x2048x512.Idx) := by
      funext a
      apply Fin.ext
      match a with
      | ⟨0, _⟩ => show win0_7.index t 0 * 1 + 1 * 0 = t.val / 32; omega
      | ⟨1, _⟩ => show win0_7.index t 1 * 256 + 1 * r.val = 256 * (t.val % 8) + r.val; omega
      | ⟨2, _⟩ => show win0_7.index t 2 * 128 + 1 * d.val = 128 * (t.val / 8 % 4) + d.val; omega
    refine Eq.trans ?_ (congrArg (layer m c) e).symm
    show _ = layerAt (argQ m c) (argK m c) (argV m c) (argC m c) (seqOf t) (rowOf (chunkOf t) r) (colOf (pairOf t) d)
    have hh : headCol (colOf (pairOf t) d) = headIn (pairOf t) (headOf d) :=
      Fin.ext (by show (128 * (t.val / 8 % 4) + d.val) / 64 = 2 * (t.val / 8 % 4) + d.val / 64; omega)
    unfold layerAt
    rw [mscore_eq, hh]
    simp only [iblk3_apply]

/-- The blocks cover the result. -/
theorem cover (i : S8x2048x512.Idx) : ∃ t : Fin cfg0.N, (cfg0.win 7).flush t = true ∧ i ∈ ((cfg0.win 7).blk t).view.set := by
  have h0 : (i 0 : Nat) < 8 := (i 0).isLt
  have h1 : (i 1 : Nat) < 2048 := (i 1).isLt
  have h2 : (i 2 : Nat) < 512 := (i 2).isLt
  have hN : cfg0.N = 256 := N_0
  obtain ⟨n, hn⟩ : ∃ n : ℕ, n = 32 * (i 0 : Nat) + 8 * ((i 2 : Nat) / 128) + (i 1 : Nat) / 256 := ⟨_, rfl⟩
  have ht : n < cfg0.N := by omega
  refine ⟨⟨n, ht⟩, flush0_7 _, ?_⟩
  have hi := index7 ⟨n, ht⟩
  have hx : ∀ t : Fin grid0.N, win0_7.xsize (grid0.coords t) 0 = 1 ∧ win0_7.xsize (grid0.coords t) 1 = 256 ∧ win0_7.xsize (grid0.coords t) 2 = 128 := by decide +kernel
  have hx := hx ⟨n, ht⟩
  show i ∈ ((View.whole main_v9).slice (win0_7.rect ⟨n, ht⟩)).set
  rw [View.set_slice_whole, Rect.mem_set_unit]
  intro a
  match a with
  | ⟨0, _⟩ =>
    show win0_7.index ⟨n, ht⟩ 0 * 1 ≤ (i 0 : Nat) ∧ (i 0 : Nat) < win0_7.index ⟨n, ht⟩ 0 * 1 + win0_7.xsize (grid0.coords ⟨n, ht⟩) 0
    rw [hi.1, hx.1]
    dsimp only
    omega
  | ⟨1, _⟩ =>
    show win0_7.index ⟨n, ht⟩ 1 * 256 ≤ (i 1 : Nat) ∧ (i 1 : Nat) < win0_7.index ⟨n, ht⟩ 1 * 256 + win0_7.xsize (grid0.coords ⟨n, ht⟩) 1
    rw [hi.2.1, hx.2.1]
    dsimp only
    omega
  | ⟨2, _⟩ =>
    show win0_7.index ⟨n, ht⟩ 2 * 128 ≤ (i 2 : Nat) ∧ (i 2 : Nat) < win0_7.index ⟨n, ht⟩ 2 * 128 + win0_7.xsize (grid0.coords ⟨n, ht⟩) 2
    rw [hi.2.2, hx.2.2]
    dsimp only
    omega

include hq hk hu in
/-- After the run the result array holds the layer. -/
theorem final (c : Dev nD) : (dats m 0 c).arrAt 7 cfg0.N = layer m c :=
  (dats m 0 c).arrAt_eq_of_cover 7 (layer m c) (fun t _ => flushed_eq m hq hk hu c t) cover

end Cert.FoxIdeal.Block

end
-- ==== Proof.FoxPre.lean ====
module

public import proofs.«01_k».proof.Pre_finite
public import proofs.«01_k».proof.Proof.FoxArray
public import Idealize.ShloMosaic.Lib.ReduceAll

@[expose] public section

noncomputable section

/-! # The precondition read: queries, keys and sums of log gates are finite -/

namespace Cert.Pre_finite.Decode

open Cert.Pre_finite Idealize.ShloMosaic
open Cert.FoxIdeal.Block (IsReal)

/-- The shape relations of the precondition's operations. -/
instance facts : Cert.Pre_finite.Facts where
  bcast_S_S16384x512 := by decide
  reducesTo_S16384x512_S_d0_1 := by decide
  h_S_ := by decide
  bcast_S_S16384x8 := by decide
  reducesTo_S16384x8_S_d0_1 := by decide

/-- A number below plus infinity in absolute value is neither infinity. -/
theorem isReal_of_abs {x : EReal} (h : max x (-x) < ⊤) : IsReal x := by
  constructor
  · rintro rfl
    simp at h
  · rintro rfl
    simp at h

/-- A comparison that holds is a true inequality. -/
theorem lt_of_cmpf {φ : FTy} {a b : Ideal φ} (h : FloatOps.cmpf .olt a b = 1#1) : (a : EReal) < b := by
  have h' : BitVec.ofBool (decide ((a : EReal) < b)) = 1#1 := h
  by_contra hn
  rw [decide_eq_false hn] at h'
  exact absurd h' (by decide)

/-- An array all of whose elements are below plus infinity in absolute value has no infinity in it. -/
theorem all_real {s t u : Shape} {φ : FTy} {axes : List (Fin s.rank)} [Subsingleton t.Idx] (x y : FVec Ideal s φ) (init : IVec u 1) (h : s.ReducesTo axes t)
    (hu : 0 < u.numel) (j : t.Idx) (hy : ∀ i, (y i : EReal) = ⊤) (e : Host.reduce IntOp.andi (cmpf .olt (Host.absf x) y) init h hu j = 1#1) (i : s.Idx) :
    IsReal (x i) := by
  have h1 := Host.reduce_andi_all (cmpf .olt (Host.absf x) y) init h hu j e i
  have h2 : (max (x i : EReal) (-(x i : EReal))) < (y i : EReal) := lt_of_cmpf h1
  rw [hy i] at h2
  exact isReal_of_abs h2

/-- Two bits whose conjunction is one are both one. -/
theorem and_one : ∀ a b : BitVec 1, IntOp.andi a b = 1#1 → a = 1#1 ∧ b = 1#1 := by decide

/-- The bf16 word of plus infinity. -/
theorem inf_bf16 : Ideal.ofBits FTy.bf16 0x7F80#16 = ⊤ := by
  simp [Ideal.ofBits, Ideal.ieee]

/-- The f32 word of plus infinity. -/
theorem inf_f32 : Ideal.ofBits FTy.f32 0x7F800000#32 = ⊤ := by
  simp [Ideal.ofBits, Ideal.ieee]

instance : Subsingleton S_.Idx := ⟨fun a b => funext fun i => i.elim0⟩

/-- What the precondition says. -/
theorem decode (q k v : FVec Ideal S16384x512 .bf16) (u : FVec Ideal S16384x8 .f32) (h : fn (F := Ideal) q k v u = fun _ => 1#1) :
    (∀ i, IsReal (q i)) ∧ (∀ i, IsReal (k i)) ∧ (∀ i, IsReal (u i)) := by
  have h0 := congrFun h ix0
  dsimp only [fn] at h0
  obtain ⟨h1, h4⟩ := and_one _ _ h0
  obtain ⟨h2, h3⟩ := and_one _ _ h1
  exact ⟨all_real q _ _ _ _ ix0 (fun _ => inf_bf16) h2, all_real k _ _ _ _ ix0 (fun _ => inf_bf16) h3, all_real u _ _ _ _ ix0 (fun _ => inf_f32) h4⟩

end Cert.Pre_finite.Decode

end
-- ==== Proof.FoxRef.lean ====
module

public import proofs.«01_k».proof.Proof.FoxArray
public import proofs.«01_k».proof.Proof.Gen.FoxRefIdeal.Run

@[expose] public section

set_option maxRecDepth 16384

noncomputable section

/-! # The forgetting attention's reference: the same layer -/

namespace Cert.FoxRefIdeal.Layer

open Cert.FoxRefIdeal Cert.FoxRefIdeal.Gen Idealize.ShloMosaic Idealize.ShloMosaic.TcCoe Idealize.SL.Sem Cert.OnlineSoftmax
open Cert.FoxIdeal.Block (pos laneOf headCol rscore rowAt layerAt IsReal rscore_fin average ninf_eq)

/-! ## The reference's stages, of any arrays -/

/-- The heads of rows, in f32. -/
def heads (x : FVec Ideal S16384x512 .bf16) : FVec Ideal S8x2048x8x64 .f32 :=
  extf .f32 (shapeCast _ x shapeCasts_S16384x512_S8x2048x8x64) bitsLt_bf16_f32

/-- The sums of log gates, per sequence and head. -/
def gates (u : FVec Ideal S16384x8 .f32) : FVec Ideal S8x8x2048 .f32 :=
  transpose S8x8x2048 [0, 2, 1] (shapeCast _ u shapeCasts_S16384x8_S8x2048x8) transposes_S8x2048x8_S8x8x2048_0_2_1

/-- Which keys a query sees. -/
def causal : IVec S8x8x2048x2048 1 :=
  broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The scores before the mask. -/
def logits (q k : FVec Ideal S16384x512 .bf16) (u : FVec Ideal S16384x8 .f32) : FVec Ideal S8x8x2048x2048 .f32 :=
  addf (Host.dotGeneral dot_S8x2048x8x64_S8x2048x8x64_S8x8x2048x2048_3_3_1_1_02_02 none (heads q) (heads k))
    (subf (broadcastInDim S8x8x2048x2048 ![0, 1, 2, 3] bcast_S8x8x2048x1_S8x8x2048x2048_0_1_2_3 (broadcastInDim S8x8x2048x1 ![0, 1, 2] bcast_S8x8x2048_S8x8x2048x1_0_1_2 (gates u)))
      (broadcastInDim S8x8x2048x2048 ![0, 1, 2, 3] bcast_S8x8x1x2048_S8x8x2048x2048_0_1_2_3 (broadcastInDim S8x8x1x2048 ![0, 1, 3] bcast_S8x8x2048_S8x8x1x2048_0_1_3 (gates u))))

/-- The masked scores. -/
def scores (q k : FVec Ideal S16384x512 .bf16) (u : FVec Ideal S16384x8 .f32) : FVec Ideal S8x8x2048x2048 .f32 :=
  select causal (logits q k u) (broadcastInDim S8x8x2048x2048 ![] bcast_S_S8x8x2048x2048 (id (constant S_ .f32 0xFF800000#32)))

/-- The largest score of each row. -/
def largest (s : FVec Ideal S8x8x2048x2048 .f32) : FVec Ideal S8x8x2048 .f32 :=
  maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_)

/-- The exponentials relative to each row's largest score. -/
def exps (s : FVec Ideal S8x8x2048x2048 .f32) (M : FVec Ideal S8x8x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 M)))

/-- Each row of exponentials divided by its sum. -/
def probs (e : FVec Ideal S8x8x2048x2048 .f32) : FVec Ideal S8x8x2048x2048 .f32 :=
  Host.divf e (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant S_ .f32 0x00000000#32) reducesTo_S8x8x2048x2048_S8x8x2048_d3 h_S_)))

/-- The values averaged. -/
def averaged (p : FVec Ideal S8x8x2048x2048 .f32) (v : FVec Ideal S16384x512 .bf16) : FVec Ideal S8x2048x512 .f32 :=
  shapeCast _ (transpose S8x2048x8x64 [0, 3, 1, 2] (Host.dotGeneral dot_S8x2048x8x64_S8x8x2048x2048_S8x8x64x2048_1_3_3_2_02_01 none (heads v) p) transposes_S8x8x64x2048_S8x2048x8x64_0_3_1_2) shapeCasts_S8x2048x8x64_S8x2048x512

/-- The reference's result is its stages, one after the other. -/
theorem res_eq (m : (ℓ : Loc nD τ sig) → Buf (Elt Ideal) ℓ) (c : Dev nD) :
    Value.res_main_v35 (F := Ideal) m c
      = averaged (probs (exps (scores (m ((c.tc : Thread nD τ).loc main_arg0)) (m ((c.tc : Thread nD τ).loc main_arg1)) (m ((c.tc : Thread nD τ).loc main_arg3)))
          (largest (scores (m ((c.tc : Thread nD τ).loc main_arg0)) (m ((c.tc : Thread nD τ).loc main_arg1)) (m ((c.tc : Thread nD τ).loc main_arg3))))))
          (m ((c.tc : Thread nD τ).loc main_arg2)) := by
  unfold Value.res_main_v35
  rfl

/-! ## The stages, element by element -/

/-- Rows of heads, read at an index. -/
theorem heads_apply (x : FVec Ideal S16384x512 .bf16) (b : Fin 8) (t : Fin 2048) (h : Fin 8) (z : Fin 64) :
    heads x (ix4 b t h z) = x (ix2 (pos b t) (laneOf h z)) := by
  pointwise [heads]
  congr 2
  · exact Fin.ext (by show b.val * 2048 + t.val = 2048 * b.val + t.val; omega)
  · exact Fin.ext (by show h.val * 64 + z.val = 64 * h.val + z.val; omega)

/-- The sums of log gates, read at an index. -/
theorem gates_apply (u : FVec Ideal S16384x8 .f32) (b h : Fin 8) (t : Fin 2048) : gates u (ix3 b h t) = u (ix2 (pos b t) h) := by
  pointwise [gates]
  congr 2
  exact Fin.ext (by show b.val * 2048 + t.val = 2048 * b.val + t.val; omega)

/-- The scores before the mask, element by element. -/
theorem logits_apply (q k : FVec Ideal S16384x512 .bf16) (u : FVec Ideal S16384x8 .f32) (b h : Fin 8) (t s : Fin 2048) :
    logits q k u (ix4 b h t s) = rscore (fun p e => q (ix2 p e)) (fun p e => k (ix2 p e)) (fun p e => u (ix2 p e)) b h t s := by
  pointwise [logits]
  simp only [heads_apply, gates_apply]
  rfl

/-- The masked scores, element by element. -/
theorem scores_apply (q k : FVec Ideal S16384x512 .bf16) (u : FVec Ideal S16384x8 .f32) (b h : Fin 8) (t s : Fin 2048) :
    scores q k u (ix4 b h t s) = rowAt (fun p e => q (ix2 p e)) (fun p e => k (ix2 p e)) (fun p e => u (ix2 p e)) b h t s := by
  pointwise [scores, causal]
  rw [WordCmp.cmpi_sle_ofNat (by omega) (by omega), logits_apply]
  have e : (id (constant (F := Ideal) S_ .f32 0xFF800000#32) ix0 : EReal) = ⊥ := ninf_eq
  rw [e]
  unfold rowAt
  by_cases h1 : s.val ≤ t.val
  · simp [h1, Scalar.select]
  · simp [h1, Scalar.select]

/-- A maximum over some of the elements, from minus infinity, is a real number when one of them is real and none is plus infinity. -/
theorem reduce_real {s t u : Shape} {axes : List (Fin s.rank)} (x : FVec Ideal s .f32) (init : FVec Ideal u .f32) (h : s.ReducesTo axes t) (hu : 0 < u.numel)
    (j : t.Idx) (htop : ∀ i, (x i : EReal) ≠ ⊤) (hinit : (init (Shape.Idx.first hu) : EReal) = ⊥) (i : s.Idx) (hi : h.drop i = j) (hbot : (x i : EReal) ≠ ⊥) :
    ∃ M : ℝ, Host.reduce (FloatOps.maximumf (F := Ideal) (φ := .f32)) x init h hu j = (M : EReal) := by
  have e2 := Host.reduce_eq_fold (FloatOps.maximumf (F := Ideal) (φ := .f32)) x init h hu j
  rw [hinit] at e2
  rw [e2]
  have h1 := fold_max_ne_top (Finset.univ.filter fun i => h.drop i = j) ⊥ bot_ne_top x htop
  have h2 := le_fold_max (Finset.univ.filter fun i => h.drop i = j) ⊥ x i (Finset.mem_filter.2 ⟨Finset.mem_univ _, hi⟩)
  exact ⟨_, (EReal.coe_toReal h1 fun e0 => hbot (le_bot_iff.1 (h2.trans e0.le))).symm⟩

/-- The larger of minus infinity and a number is the number. -/
theorem maximumf_bot {s : Shape} (x y : FVec Ideal s .f32) (j : s.Idx) (M : ℝ) (hx : (x j : EReal) = ⊥) (hy : (y j : EReal) = (M : EReal)) :
    (maximumf x y j : EReal) = (M : EReal) := by
  show max (x j : EReal) (y j) = (M : EReal)
  rw [hx, hy, max_eq_right bot_le]

/-- A score's row is its first three coordinates. -/
theorem drop_eq (b h : Fin 8) (t k : Fin 2048) :
    reducesTo_S8x8x2048x2048_S8x8x2048_d3.drop (ix4 b h t k : S8x8x2048x2048.Idx) = (ix3 b h t : S8x8x2048.Idx) := by
  funext a
  match a with
  | ⟨0, _⟩ => rfl
  | ⟨1, _⟩ => rfl
  | ⟨2, _⟩ => rfl

/-- The largest score of a row that has a real score and nowhere plus infinity is a real number. -/
theorem largest_real (s : FVec Ideal S8x8x2048x2048 .f32) (htop : ∀ i, (s i : EReal) ≠ ⊤) (b h : Fin 8) (t k : Fin 2048) (hbot : (s (ix4 b h t k) : EReal) ≠ ⊥) :
    ∃ M : ℝ, (largest s (ix3 b h t) : EReal) = (M : EReal) := by
  obtain ⟨M, hM⟩ := reduce_real s (constant S_ .f32 0xFF800000#32) reducesTo_S8x8x2048x2048_S8x8x2048_d3 h_S_ (ix3 b h t) htop ninf_eq _ (drop_eq b h t k) hbot
  exact ⟨M, maximumf_bot _ _ (ix3 b h t) M ninf_eq hM⟩

/-- The exponentials, element by element. -/
theorem exps_apply (s : FVec Ideal S8x8x2048x2048 .f32) (M : FVec Ideal S8x8x2048 .f32) (b h : Fin 8) (t k : Fin 2048) :
    exps s M (ix4 b h t k) = Ideal.exp (s (ix4 b h t k) - M (ix3 b h t)) := by
  pointwise [exps]

/-- The softmax's rows, element by element. -/
theorem probs_apply (e : FVec Ideal S8x8x2048x2048 .f32) (b h : Fin 8) (t k : Fin 2048) :
    probs e (ix4 b h t k) = Ideal.div (e (ix4 b h t k)) (∑ k' : Fin 2048, e (ix4 b h t k')) := by
  pointwise [probs]

/-- The averaged values, element by element. -/
theorem averaged_apply (p : FVec Ideal S8x8x2048x2048 .f32) (v : FVec Ideal S16384x512 .bf16) (b : Fin 8) (t : Fin 2048) (e : Fin 512) :
    averaged p v (ix3 b t e) = ∑ k : Fin 2048, p (ix4 b (headCol e) t k) * v (ix2 (pos b k) e) := by
  pointwise [averaged]
  refine Finset.sum_congr rfl fun k _ => ?_
  rw [heads_apply, mul_comm]
  have e1 : laneOf ⟨e.val / 64, by omega⟩ ⟨e.val % 64, by omega⟩ = e := Fin.ext (by show 64 * (e.val / 64) + e.val % 64 = e.val; omega)
  rw [e1]
  rfl

/-- The reference's result, element by element: the layer. -/
theorem ref_apply (q k v : FVec Ideal S16384x512 .bf16) (u : FVec Ideal S16384x8 .f32) (hq : ∀ p e, IsReal (q (ix2 p e))) (hk : ∀ p e, IsReal (k (ix2 p e)))
    (hu : ∀ p h, IsReal (u (ix2 p h))) (b : Fin 8) (t : Fin 2048) (e : Fin 512) :
    averaged (probs (exps (scores q k u) (largest (scores q k u)))) v (ix3 b t e)
      = layerAt (fun p e => q (ix2 p e)) (fun p e => k (ix2 p e)) (fun p e => v (ix2 p e)) (fun p h => u (ix2 p h)) b t e := by
  have hfin := rscore_fin (fun p e => q (ix2 p e)) (fun p e => k (ix2 p e)) (fun p h => u (ix2 p h)) hq hk hu
  have htop : ∀ b h t s, rowAt (fun p e => q (ix2 p e)) (fun p e => k (ix2 p e)) (fun p h => u (ix2 p h)) b h t s ≠ ⊤ := by
    intro b h t s
    unfold rowAt
    split
    · exact (hfin b h t s).1
    · exact bot_ne_top
  have hbot : ∀ b h t, rowAt (fun p e => q (ix2 p e)) (fun p e => k (ix2 p e)) (fun p h => u (ix2 p h)) b h t t ≠ ⊥ := by
    intro b h t
    unfold rowAt
    rw [if_pos le_rfl]
    exact (hfin b h t t).2
  obtain ⟨M, hM⟩ := largest_real (scores q k u) (fun i => by
    obtain ⟨b, h, t, s, rfl⟩ : ∃ (b h : Fin 8) (t s : Fin 2048), i = (ix4 b h t s : S8x8x2048x2048.Idx) := ⟨i 0, i 1, i 2, i 3, eq_ix4 (n0 := 8) (n1 := 8) (n2 := 2048) (n3 := 2048) i⟩
    rw [scores_apply]
    exact htop _ _ _ _) b (headCol e) t t (by rw [scores_apply]; exact hbot _ _ _)
  rw [averaged_apply]
  simp only [probs_apply, exps_apply, scores_apply, hM]
  exact softmax_avg _ _ (htop _ _ _) t (hbot _ _ _) M

end Cert.FoxRefIdeal.Layer

end
-- ==== Proof.FoxClaims.lean ====
module

public import proofs.«01_k».proof.Defs
public import proofs.«01_k».proof.Proof.Gen.Fox.Frame
public import proofs.«01_k».proof.Proof.Gen.FoxIdeal.Value
public import proofs.«01_k».proof.Proof.Gen.FoxRefIdeal.Run
public import proofs.«01_k».proof.Proof.FoxPre
public import proofs.«01_k».proof.Proof.FoxRef
public import Idealize.ShloMosaic.Lib.Quiescent

@[expose] public section

set_option maxRecDepth 16384

noncomputable section

/-! # The claims about the forgetting attention -/

namespace Cert.Proof.FoxClaims

open Idealize.ShloMosaic Idealize.ShloMosaic.TcCoe Idealize.SL.Sem

/-- The kernel, at words, leaves its arguments and its semaphores as it found them. -/
theorem frame_kernel : Cert.quiescent_Fox := fun m ρ _ => Cert.Fox.Gen.frame m ρ

/-- The kernel over the extended reals leaves its arguments and its semaphores as it found them. -/
theorem frame_ideal : Cert.quiescent_FoxIdeal := fun m ρ _ => Cert.FoxIdeal.Gen.frame m ρ

/-- The reference leaves its arguments as it found them; it has no semaphore. -/
theorem frame_ref : Cert.quiescent_FoxRefIdeal := fun m ρ _ =>
  (θ_run Cert.FoxRefIdeal.defs _ _).mono (fun r h => ⟨fun c => (h c).2, Idealize.ShloMosaic.sem_eq_zero_of_no_sems (by decide) r.2⟩)
    (Cert.FoxRefIdeal.Value.run (F := Ideal) m ρ)

/-- The idealized kernel is the kernel's own text, the mask's constant named. -/
theorem preserves : Cert.preserves_Fox_FoxIdeal := IdealRules.named_const.statement Cert.FoxIdeal.κ "mask" .f32 0xF149F2CA#32 ⊥ rfl

/-- The same of the kernel on finite arguments. -/
theorem frame_ideal_finite : Cert.quiescent_FoxIdeal_pre_finite := fun m ρ _ => Cert.FoxIdeal.Gen.frame m ρ

/-- The same of the reference on finite arguments. -/
theorem frame_ref_finite : Cert.quiescent_FoxRefIdeal_pre_finite := fun m ρ _ => frame_ref m ρ trivial

/-- Over the extended reals, on finite queries, keys and sums of log gates, the kernel's result array is the reference's. -/
theorem algebraic : Cert.algebraic_FoxIdeal_FoxRefIdeal_pre_finite := by
  intro m ρ m' ρ' hpre hagree
  have hq : ∀ c p e, Cert.FoxIdeal.Block.IsReal (Cert.FoxIdeal.Block.argQ m c p e) := fun c p e => (Cert.Pre_finite.Decode.decode _ _ _ _ (hpre c)).1 (ix2 p e)
  have hk : ∀ c p e, Cert.FoxIdeal.Block.IsReal (Cert.FoxIdeal.Block.argK m c p e) := fun c p e => (Cert.Pre_finite.Decode.decode _ _ _ _ (hpre c)).2.1 (ix2 p e)
  have hu : ∀ c p h, Cert.FoxIdeal.Block.IsReal (Cert.FoxIdeal.Block.argC m c p h) := fun c p h => (Cert.Pre_finite.Decode.decode _ _ _ _ (hpre c)).2.2 (ix2 p h)
  refine ⟨fun c => (Cert.FoxIdeal.Gen.dats m 0 c).arrAt 7 Cert.FoxIdeal.cfg0.N, Cert.FoxIdeal.Value.run_blocks m ρ, ?_⟩
  refine (θ_run Cert.FoxRefIdeal.defs _ _).mono (fun _ h c => ?_) (Cert.FoxRefIdeal.Value.run (F := Ideal) m' ρ')
  refine ⟨(h c).1.trans ?_, (h c).2⟩
  obtain ⟨h0, h1, h2, h3⟩ := hagree c
  rw [Cert.FoxRefIdeal.Layer.res_eq, h0, h1, h2, h3]
  refine Eq.trans ?_ (Cert.FoxIdeal.Block.final m hq hk hu c).symm
  funext i
  obtain ⟨b, t, e, rfl⟩ : ∃ (b : Fin 8) (t : Fin 2048) (e : Fin 512), i = (ix3 b t e : Cert.FoxIdeal.S8x2048x512.Idx) := ⟨i 0, i 1, i 2, eq_ix3 (n0 := 8) (n1 := 2048) (n2 := 512) i⟩
  exact Cert.FoxRefIdeal.Layer.ref_apply _ _ _ _ (hq c) (hk c) (hu c) b t e

end Cert.Proof.FoxClaims

end
-- ==== Proof.FfnBlock.lean ====
module

public import proofs.«01_k».proof.Proof.Gen.FfnIdeal.Value
public import Idealize.ShloMosaic.Lib.Pipeline.Value
public import Idealize.ShloMosaic.Lib.Tactic

@[expose] public section

set_option maxRecDepth 16384

noncomputable section

/-! # The feed-forward kernel: what one grid point leaves in its output block -/

namespace Cert.FfnIdeal.Block

open Cert.FfnIdeal Cert.FfnIdeal.Gen Idealize.ShloMosaic Idealize.ShloMosaic.TcCoe Idealize.SL.Sem
open Idealize.ShloMosaic.Pipeline (Dat)

variable {F : FTy → Type} [FloatOps F]

/-- The offsets of a load or a store of a whole two-axis buffer are zero. -/
theorem hz2 : (![0, 0] : Fin 2 → Nat) = fun _ => 0 := funext fun a => by fin_cases a <;> rfl

/-- The loop makes eleven trips. -/
theorem trips_eq : k0_t1_loop.trips = 11 := by decide +kernel

/-- Chunk `k` of the gate or up weights (eleven chunks of 256 columns). -/
def wcol (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weights (eleven chunks of 256 rows). -/
def wrow (w : Vec F S11x256x1024 .bf16) (k : Fin k0_t1_loop.trips) : Vec F S1x256x1024 .bf16 :=
  View.ld w (Rect.unit (s := S11x256x1024) (k0_off2 k) S1x256x1024.size (k0_off2_inb k))

/-- The output block before trip `k`: the input block, then what each earlier trip adds to it. -/
def acc (x0 : Vec F S1024x1024 .f32) (hn : Vec F S1024x1024 .bf16) (x2 x3 : Vec F S11x1024x256 .bf16)
    (x4 : Vec F S11x256x1024 .bf16) : ℕ → Vec F S1024x1024 .f32
  | 0 => x0
  | k + 1 => if h : k < k0_t1_loop.trips then
      k0_pay2 hn (wcol x2 ⟨k, h⟩) (wcol x3 ⟨k, h⟩) (acc x0 hn x2 x3 x4 k) (wrow x4 ⟨k, h⟩)
    else acc x0 hn x2 x3 x4 k

/-- One trip stores one piece: the whole output block, at what was there plus the chunk's share. -/
theorem trip_val (𝒱 : Variants) (c : Dev nD) (bd : Option 𝒱.V) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) (f : BufTy.Contents (Elt F) arg7.view.ty) :
    (trip_k0_t1 (F := F) 𝒱 c bd i arg1 harg1 arg2 harg2 arg3 harg3 arg4 harg4 arg5 harg5 arg6 harg6 arg7 harg7 arg8 harg8 X_arg3 X_arg4 X_arg5 X_arg8 k).1 f
      = [⟨Rect.unit (s := S1024x1024) ![0, 0] S1024x1024.size inb_S1024x1024_S1024x1024_0_0,
          k0_pay2 (arg8.view.read (Elt F) X_arg8) (wcol (arg3.view.read (Elt F) X_arg3) k)
            (wcol (arg4.view.read (Elt F) X_arg4) k) (arg7.view.read (Elt F) f) (wrow (arg5.view.read (Elt F) X_arg5) k)⟩] := by
  unfold trip_k0_t1
  dsimp only
  sl_unfold_words
  simp only [View.readAt_eq_ld, View.ld_unit_zero (S := S1024x1024) hz2]
  rfl

/-- A store of the whole block covers every index. -/
theorem cover_whole (w : Vec F S1024x1024 .f32) (L : List (View.Piece (Elt F) S1024x1024 .f32)) (y : S1024x1024.Idx) :
    ∃ pc ∈ (⟨Rect.unit (s := S1024x1024) ![0, 0] S1024x1024.size inb_S1024x1024_S1024x1024_0_0, w⟩ : View.Piece (Elt F) S1024x1024 .f32) :: L, y ∈ pc.1.set :=
  ⟨_, List.mem_cons_self, by
    rw [Rect.mem_set_unit]
    intro a
    match a with
    | ⟨0, _⟩ => exact ⟨Nat.zero_le _, by have := (y 0).isLt; show (y 0).val < 0 + 1024; exact (Nat.zero_add _).symm ▸ this⟩
    | ⟨1, _⟩ => exact ⟨Nat.zero_le _, by have := (y 1).isLt; show (y 1).val < 0 + 1024; exact (Nat.zero_add _).symm ▸ this⟩⟩

/-- The pieces stored before trip `k` leave `acc k`, whatever view they are written through. -/
theorem read_pieces (𝒱 : Variants) (c : Dev nD) (bd : Option 𝒱.V) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (x0 : Vec F S1024x1024 .f32) :
    ∀ (k : ℕ), k ≤ k0_t1_loop.trips → ∀ {sg : RefSig} {κ : Kind} {sp : Space} (v : View sg κ sp S1024x1024 .f32) (g : v.ty.Contents (Elt F)),
    v.read (Elt F) (v.writes (Elt F) g
      (pb_k0_t1 (F := F) 𝒱 c bd i arg1 harg1 arg2 harg2 arg3 harg3 arg4 harg4 arg5 harg5 arg6 harg6 arg7 harg7 arg8 harg8 X_arg3 X_arg4 X_arg5 X_arg8
          (arg7.view.writes (Elt F) arg7.view.junk [⟨Rect.unit (s := S1024x1024) ![0, 0] S1024x1024.size inb_S1024x1024_S1024x1024_0_0, x0⟩]) k
        ++ [⟨Rect.unit (s := S1024x1024) ![0, 0] S1024x1024.size inb_S1024x1024_S1024x1024_0_0, x0⟩]))
      = acc x0 (arg8.view.read (Elt F) X_arg8) (arg3.view.read (Elt F) X_arg3) (arg4.view.read (Elt F) X_arg4) (arg5.view.read (Elt F) X_arg5) k
  | 0, _, sg, κ, sp, v, g => by
    rw [pb_k0_t1.eq_1, List.nil_append, View.read_writes_eq_canon _ _ _ (cover_whole x0 []), View.canon_unit_zero hz2]
    rfl
  | k + 1, hk, sg, κ, sp, v, g => by
    have hk' : k < k0_t1_loop.trips := hk
    have e := pb_k0_t1_succ (F := F) 𝒱 c bd i arg1 harg1 arg2 harg2 arg3 harg3 arg4 harg4 arg5 harg5 arg6 harg6 arg7 harg7 arg8 harg8 X_arg3 X_arg4 X_arg5 X_arg8
      (arg7.view.writes (Elt F) arg7.view.junk [⟨Rect.unit (s := S1024x1024) ![0, 0] S1024x1024.size inb_S1024x1024_S1024x1024_0_0, x0⟩]) ⟨k, hk'⟩
    unfold tripL_k0_t1 at e
    rw [trip_val, ← View.writes_append] at e
    dsimp only at e
    rw [e, List.append_assoc, List.singleton_append, View.read_writes_eq_canon _ _ _ (cover_whole _ _), View.canon_cons_unit_zero hz2,
      read_pieces 𝒱 c bd i arg1 harg1 arg2 harg2 arg3 harg3 arg4 harg4 arg5 harg5 arg6 harg6 arg7 harg7 arg8 harg8 X_arg3 X_arg4 X_arg5 X_arg8 x0 k hk'.le, acc, dif_pos hk']

/-- What one grid point leaves in its output block: the block after all eleven trips. -/
theorem out_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole)
    (x0 : Vec F S1024x1024 .f32) (x1 : Vec F S1x1024 .f32) (x2 : Vec F S11x1024x256 .bf16) (x3 : Vec F S11x1024x256 .bf16) (x4 : Vec F S11x256x1024 .bf16) (x5 : Vec F S1x1024 .f32) :
    out0_A_6 c i arg1 harg1 arg2 harg2 arg3 harg3 arg4 harg4 arg5 harg5 arg6 harg6 arg7 harg7 arg8 harg8 x0 x1 x2 x3 x4 x5 = acc x0 (k0_pay1 x0 x1) x2 x3 x4 11 := by
  have h11 : Scf.trips (0#32) (Scalar.addi 0#32 11#32) 1#32 = 11 := by decide +kernel
  unfold out0_A_6
  unfold kernelRun0_A
  dsimp only
  sl_unfold_words
  simp only [View.readAt_eq_ld, View.ld_unit_zero (S := S1024x1024) hz2, View.ld_unit_zero (S := S1x1024) hz2, harg1.read_unread, harg2.read_unread, h11]
  rw [read_pieces (F := F) Variants.none c none i arg1 harg1 arg2 harg2 arg3 harg3 arg4 harg4 arg5 harg5 arg6 harg6 arg7 harg7 arg8 harg8 _ _ _ _ x0 11 trips_eq.ge VO0_6 VO0_6.junk]
  rw [harg3.read_unread, harg4.read_unread, harg5.read_unread]
  congr 1
  rw [View.read_writes_eq_canon, View.canon_unit_zero hz2]
  intro y
  refine ⟨_, List.mem_singleton_self _, ?_⟩
  rw [Rect.mem_set_unit]
  intro a
  match a with
  | ⟨0, _⟩ => exact ⟨Nat.zero_le _, by have := (y 0).isLt; show (y 0).val < 0 + 1024; exact (Nat.zero_add _).symm ▸ this⟩
  | ⟨1, _⟩ => exact ⟨Nat.zero_le _, by have := (y 1).isLt; show (y 1).val < 0 + 1024; exact (Nat.zero_add _).symm ▸ this⟩

end Cert.FfnIdeal.Block

end
-- ==== Proof.FfnValue.lean ====
module

public import proofs.«01_k».proof.Proof.FfnBlock
public import proofs.«01_k».proof.Proof.Gen.FfnRefIdeal.Read
public import Idealize.ShloMosaic.Lib.Pointwise
public import Idealize.ShloMosaic.Lib.Pipeline.ValueKit.Tiles

@[expose] public section

set_option maxRecDepth 16384

noncomputable section

/-! # The feed-forward layer: the kernel's result array and the reference's, element by element -/

namespace Cert.FfnIdeal.Block

open Cert.FfnIdeal Cert.FfnIdeal.Gen Idealize.ShloMosaic Idealize.ShloMosaic.TcCoe Idealize.SL.Sem
open Idealize.ShloMosaic.Pipeline (Dat)

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- A gated hidden unit: `silu a * u`, `a` and `u` the row's products with one column of the gate and of the up weights. -/
def gated (h wg wu : Fin 1024 → EReal) : EReal :=
  (∑ k, h k * wg k) * Ideal.logistic (∑ k, h k * wg k) * ∑ k, h k * wu k

/-- The constant the layer's contribution is scaled by. -/
abbrev half : EReal := Ideal.ofBits FTy.f32 0x3F000000#32

/-- The constant 0.5 is one half. -/
theorem half_eq : half = (((1 / 2 : ℝ)) : EReal) := by
  unfold half
  simp [Ideal.ofBits, Ideal.ieee, -EReal.coe_mul]; norm_num

/-- One half is not negative. -/
theorem half_nonneg : (0 : EReal) ≤ half := by
  rw [half_eq]; exact_mod_cast (by norm_num : (0 : ℝ) ≤ 1 / 2)

/-- One half is not infinite. -/
theorem half_ne_top : half ≠ ⊤ := by
  rw [half_eq]; exact EReal.coe_ne_top _

/-- A nonnegative finite factor distributes over a finite sum of extended reals. -/
theorem mul_sum_of_nonneg {ι : Type*} (c : EReal) (h0 : 0 ≤ c) (h1 : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- A sum over 2816 positions, cut into eleven chunks of 256. -/
theorem sum_chunks (f : Fin 2816 → EReal) :
    ∑ i, f i = ∑ j : Fin 11, ∑ e : Fin 256, f ⟨256 * j.val + e.val, by omega⟩ := by
  rw [← Fintype.sum_prod_type' (f := fun (j : Fin 11) (e : Fin 256) => f ⟨256 * j.val + e.val, by omega⟩),
    ← (finProdFinEquiv (m := 11) (n := 256)).sum_comp]
  refine Finset.sum_congr rfl fun p _ => congrArg f (Fin.ext ?_)
  show p.2.val + 256 * p.1.val = 256 * p.1.val + p.2.val
  omega

/-! ## The block -/

/-- The normalized rows, element by element. -/
theorem pay1_apply (v0 : Vec Ideal S1024x1024 .f32) (v1 : Vec Ideal S1x1024 .f32) (r d : Fin 1024) :
    k0_pay1 (F := Ideal) v0 v1 (ix2 r d) = normed (fun k => v0 (ix2 r k)) (fun k => v1 (ix2 0 k)) d := by
  pointwise [k0_pay1]
  rfl

/-- One chunk's contribution, element by element. -/
theorem pay2_apply (hn : Vec Ideal S1024x1024 .bf16) (w1 w2 : Vec Ideal S1x1024x256 .bf16) (o : Vec Ideal S1024x1024 .f32)
    (w3 : Vec Ideal S1x256x1024 .bf16) (r d : Fin 1024) :
    k0_pay2 (F := Ideal) hn w1 w2 o w3 (ix2 r d)
      = o (ix2 r d) + half * ∑ e : Fin 256, gated (fun k => hn (ix2 r k)) (fun k => w1 (ix3 0 k e)) (fun k => w2 (ix3 0 k e)) * w3 (ix3 0 e d) := by
  pointwise [k0_pay2]
  rfl

/-- Chunk `k` of the gate or up weights, element by element. -/
theorem wcol_apply (w : Vec Ideal S11x1024x256 .bf16) (k : Fin k0_t1_loop.trips) (a : Fin 1024) (e : Fin 256) :
    wcol w k (ix3 0 a e) = w (ix3 ⟨k.val, trips_eq ▸ k.isLt⟩ a e) := by
  refine View.ld_unit_apply_of _ _ _ _ _ _ fun b => ?_
  have h := congrFun (k0_off1_eq k) b
  rw [h]
  match b with
  | ⟨0, _⟩ => rfl
  | ⟨1, _⟩ => exact (Nat.zero_add _).symm
  | ⟨2, _⟩ => exact (Nat.zero_add _).symm

/-- Chunk `k` of the down weights, element by element. -/
theorem wrow_apply (w : Vec Ideal S11x256x1024 .bf16) (k : Fin k0_t1_loop.trips) (e : Fin 256) (d : Fin 1024) :
    wrow w k (ix3 0 e d) = w (ix3 ⟨k.val, trips_eq ▸ k.isLt⟩ e d) := by
  refine View.ld_unit_apply_of _ _ _ _ _ _ fun b => ?_
  have h := congrFun (k0_off2_eq k) b
  rw [h]
  match b with
  | ⟨0, _⟩ => rfl
  | ⟨1, _⟩ => exact (Nat.zero_add _).symm
  | ⟨2, _⟩ => exact (Nat.zero_add _).symm

/-- What chunk `j` contributes to element `(r, d)`, before the scaling by one half. -/
def chunk (hn : Vec Ideal S1024x1024 .bf16) (x2 x3 : Vec Ideal S11x1024x256 .bf16) (x4 : Vec Ideal S11x256x1024 .bf16)
    (r d : Fin 1024) (j : Fin 11) : EReal :=
  ∑ e : Fin 256, gated (fun k => hn (ix2 r k)) (fun k => x2 (ix3 j k e)) (fun k => x3 (ix3 j k e)) * x4 (ix3 j e d)

/-- The output block before trip `k`: the input, plus half of the sum of the earlier chunks' contributions. -/
theorem acc_apply (x0 : Vec Ideal S1024x1024 .f32) (hn : Vec Ideal S1024x1024 .bf16) (x2 x3 : Vec Ideal S11x1024x256 .bf16)
    (x4 : Vec Ideal S11x256x1024 .bf16) (r d : Fin 1024) : ∀ (n : ℕ) (hn' : n ≤ 11),
    acc x0 hn x2 x3 x4 n (ix2 r d) = x0 (ix2 r d) + half * ∑ j : Fin n, chunk hn x2 x3 x4 r d ⟨j.val, by omega⟩
  | 0, _ => by simp [acc]
  | n + 1, h => by
    have hk : n < k0_t1_loop.trips := by rw [trips_eq]; omega
    rw [acc, dif_pos hk, pay2_apply, acc_apply x0 hn x2 x3 x4 r d n (by omega), Fin.sum_univ_castSucc (n := n),
      EReal.left_distrib_of_nonneg_of_ne_top half_nonneg half_ne_top, add_assoc]
    simp only [wcol_apply, wrow_apply]
    rfl

/-! ## The arguments' blocks -/

variable (m : (ℓ : Loc nD τ sig) → Buf (Elt Ideal) ℓ)

/-- The layer's input, the gain and the three weight arrays, at an index. -/
abbrev argX (c : Dev nD) (r : Fin 16384) (d : Fin 1024) : EReal := m ((c : Thread nD τ).loc main_arg0) (ix2 r d : S16384x1024.Idx)
/-- The argument with the norm's scales, element by element. -/
abbrev argG (c : Dev nD) (d : Fin 1024) : EReal := m ((c : Thread nD τ).loc main_arg1) (ix1 d : S1024.Idx)
/-- The argument with the gate weights, element by element. -/
abbrev argWg (c : Dev nD) (k : Fin 1024) (f : Fin 2816) : EReal := m ((c : Thread nD τ).loc main_arg2) (ix2 k f : S1024x2816.Idx)
/-- The argument with the up weights, element by element. -/
abbrev argWu (c : Dev nD) (k : Fin 1024) (f : Fin 2816) : EReal := m ((c : Thread nD τ).loc main_arg3) (ix2 k f : S1024x2816.Idx)
/-- The argument with the down weights, element by element. -/
abbrev argWd (c : Dev nD) (f : Fin 2816) (d : Fin 1024) : EReal := m ((c : Thread nD τ).loc main_arg4) (ix2 f d : S2816x1024.Idx)

/-- What the host hands the kernel: the gate weights, cast and cut into chunks of columns. -/
theorem V_v2 (c : Dev nD) : V m c main_v2 = transpose S11x1024x256 [1, 0, 2]
    (shapeCast S1024x11x256 (truncf (F := Ideal) (s := S1024x2816) (φ := .f32) .bf16 (m ((c : Thread nD τ).loc main_arg2)) bitsLt_bf16_f32) shapeCasts_S1024x2816_S1024x11x256)
    transposes_S1024x11x256_S11x1024x256_1_0_2 := by
  unfold V hostOps0
  after_results
  rfl

/-- What the host hands the kernel: the up weights, cast and cut into chunks of columns. -/
theorem V_v5 (c : Dev nD) : V m c main_v5 = transpose S11x1024x256 [1, 0, 2]
    (shapeCast S1024x11x256 (truncf (F := Ideal) (s := S1024x2816) (φ := .f32) .bf16 (m ((c : Thread nD τ).loc main_arg3)) bitsLt_bf16_f32) shapeCasts_S1024x2816_S1024x11x256)
    transposes_S1024x11x256_S11x1024x256_1_0_2 := by
  unfold V hostOps0
  after_results
  rfl

/-- What the host hands the kernel: the down weights, cast and cut into chunks of rows. -/
theorem V_v7 (c : Dev nD) : V m c main_v7 =
    shapeCast S11x256x1024 (truncf (F := Ideal) (s := S2816x1024) (φ := .f32) .bf16 (m ((c : Thread nD τ).loc main_arg4)) bitsLt_bf16_f32) shapeCasts_S2816x1024_S11x256x1024 := by
  unfold V hostOps0
  after_results
  rfl

/-- What the host hands the kernel: the norm's scales as one row. -/
theorem V_v8 (c : Dev nD) : V m c main_v8 =
    shapeCast S1x1024 (m ((c : Thread nD τ).loc main_arg1) : Vec Ideal S1024 .f32) shapeCasts_S1024_S1x1024 := by
  unfold V hostOps0
  after_results
  rfl

/-- The windows' block indices at each of the 16 points. -/
theorem index0 : ∀ t : Fin grid0.N, win0_0.index t 0 = t.val ∧ win0_0.index t 1 = 0 := by decide +kernel
/-- Window 6 takes, at each grid point, the point's own block of rows. -/
theorem index6 : ∀ t : Fin grid0.N, win0_6.index t 0 = t.val ∧ win0_6.index t 1 = 0 := by decide +kernel
/-- Window 1 takes the whole array at each grid point. -/
theorem index1 : ∀ t : Fin grid0.N, win0_1.index t 0 = 0 ∧ win0_1.index t 1 = 0 := by decide +kernel
/-- Window 2 takes the whole array at each grid point. -/
theorem index2 : ∀ t : Fin grid0.N, win0_2.index t 0 = 0 ∧ win0_2.index t 1 = 0 ∧ win0_2.index t 2 = 0 := by decide +kernel
/-- Window 3 takes the whole array at each grid point. -/
theorem index3 : ∀ t : Fin grid0.N, win0_3.index t 0 = 0 ∧ win0_3.index t 1 = 0 ∧ win0_3.index t 2 = 0 := by decide +kernel
/-- Window 4 takes the whole array at each grid point. -/
theorem index4 : ∀ t : Fin grid0.N, win0_4.index t 0 = 0 ∧ win0_4.index t 1 = 0 ∧ win0_4.index t 2 = 0 := by decide +kernel

/-- The array row that row `r` of point `t`'s block is. -/
def row (t : Fin cfg0.N) (r : Fin 1024) : Fin 16384 := ⟨1024 * t.val + r.val, by have := t.isLt; have h : cfg0.N = 16 := N_0; omega⟩

/-- The block of the rows, element by element, as the argument's. -/
theorem iblk0_apply (c : Dev nD) (t : Fin cfg0.N) (r d : Fin 1024) :
    (iblk m c 0 t : Vec Ideal S1024x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 1024 + 1 * r.val = 1024 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v8 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v8) e).trans ?_
  rw [V_v8]
  pointwise

/-- The block of the gate weights, element by element, as the argument's. -/
theorem iblk2_apply (c : Dev nD) (t : Fin cfg0.N) (j : Fin 11) (k : Fin 1024) (e : Fin 256) :
    (iblk m c 2 t : Vec Ideal S11x1024x256 .bf16) (ix3 j k e) = argWg m c k ⟨256 * j.val + e.val, by omega⟩ := by
  have hi := index2 t
  unfold iblk
  rw [View.read_apply]
  show V m c main_v2 _ = _
  have e : (((cfg0.win 2).blk t).view.emb (ix3 j k e : S11x1024x256.Idx)) = (ix3 j k e : S11x1024x256.Idx) := by
    funext a
    apply Fin.ext
    match a with
    | ⟨0, _⟩ => show win0_2.index t 0 * 11 + 1 * j.val = j.val; omega
    | ⟨1, _⟩ => show win0_2.index t 1 * 1024 + 1 * k.val = k.val; omega
    | ⟨2, _⟩ => show win0_2.index t 2 * 256 + 1 * e.val = e.val; omega
  refine (congrArg (V m c main_v2) e).trans ?_
  rw [V_v2]
  pointwise
  exact congrArg (m ((c : Thread nD τ).loc main_arg2)) (congrArg (ix2 k) (Fin.ext (by show j.val * 256 + _ = 256 * j.val + _; omega)))

/-- The block of the up weights, element by element, as the argument's. -/
theorem iblk3_apply (c : Dev nD) (t : Fin cfg0.N) (j : Fin 11) (k : Fin 1024) (e : Fin 256) :
    (iblk m c 3 t : Vec Ideal S11x1024x256 .bf16) (ix3 j k e) = argWu m c k ⟨256 * j.val + e.val, by omega⟩ := by
  have hi := index3 t
  unfold iblk
  rw [View.read_apply]
  show V m c main_v5 _ = _
  have e : (((cfg0.win 3).blk t).view.emb (ix3 j k e : S11x1024x256.Idx)) = (ix3 j k e : S11x1024x256.Idx) := by
    funext a
    apply Fin.ext
    match a with
    | ⟨0, _⟩ => show win0_3.index t 0 * 11 + 1 * j.val = j.val; omega
    | ⟨1, _⟩ => show win0_3.index t 1 * 1024 + 1 * k.val = k.val; omega
    | ⟨2, _⟩ => show win0_3.index t 2 * 256 + 1 * e.val = e.val; omega
  refine (congrArg (V m c main_v5) e).trans ?_
  rw [V_v5]
  pointwise
  exact congrArg (m ((c : Thread nD τ).loc main_arg3)) (congrArg (ix2 k) (Fin.ext (by show j.val * 256 + _ = 256 * j.val + _; omega)))

/-- The block of the down weights, element by element, as the argument's. -/
theorem iblk4_apply (c : Dev nD) (t : Fin cfg0.N) (j : Fin 11) (e : Fin 256) (d : Fin 1024) :
    (iblk m c 4 t : Vec Ideal S11x256x1024 .bf16) (ix3 j e d) = argWd m c ⟨256 * j.val + e.val, by omega⟩ d := by
  have hi := index4 t
  unfold iblk
  rw [View.read_apply]
  show V m c main_v7 _ = _
  have e : (((cfg0.win 4).blk t).view.emb (ix3 j e d : S11x256x1024.Idx)) = (ix3 j e d : S11x256x1024.Idx) := by
    funext a
    apply Fin.ext
    match a with
    | ⟨0, _⟩ => show win0_4.index t 0 * 11 + 1 * j.val = j.val; omega
    | ⟨1, _⟩ => show win0_4.index t 1 * 256 + 1 * e.val = e.val; omega
    | ⟨2, _⟩ => show win0_4.index t 2 * 1024 + 1 * d.val = d.val; omega
  refine (congrArg (V m c main_v7) e).trans ?_
  rw [V_v7]
  pointwise
  exact congrArg (m ((c : Thread nD τ).loc main_arg4)) (congrArg (fun q => ix2 q d) (Fin.ext (by show j.val * 256 + _ = 256 * j.val + _; omega)))

/-! ## The result array -/

/-- The layer at row `r`, column `d`, of any arrays: the row plus half of the gated network's output on the normalized row. -/
def layerAt (x g : Fin 1024 → EReal) (wg wu : Fin 1024 → Fin 2816 → EReal) (wd : Fin 2816 → Fin 1024 → EReal) (d : Fin 1024) : EReal :=
  x d + half * ∑ f : Fin 2816, gated (normed x g) (fun k => wg k f) (fun k => wu k f) * wd f d

/-- The layer as an array of device `c`'s arguments. -/
def layer (c : Dev nD) : Vec Ideal S16384x1024 .f32 :=
  fun i => layerAt (argX m c (i 0)) (argG m c) (argWg m c) (argWu m c) (argWd m c) (i 1)

/-- A whole output block after the eleven trips, element by element. -/
theorem block_apply (c : Dev nD) (t : Fin cfg0.N) (r d : Fin 1024) :
    acc (iblk m c 0 t : Vec Ideal S1024x1024 .f32) (k0_pay1 (iblk m c 0 t : Vec Ideal S1024x1024 .f32) (iblk m c 1 t : Vec Ideal S1x1024 .f32))
      (iblk m c 2 t : Vec Ideal S11x1024x256 .bf16) (iblk m c 3 t : Vec Ideal S11x1024x256 .bf16) (iblk m c 4 t : Vec Ideal S11x256x1024 .bf16) 11 (ix2 r d)
      = layerAt (argX m c (row t r)) (argG m c) (argWg m c) (argWu m c) (argWd m c) d := by
  rw [acc_apply _ _ _ _ _ _ _ 11 le_rfl]
  unfold layerAt chunk
  rw [sum_chunks]
  simp only [pay1_apply, iblk0_apply, iblk1_apply, iblk2_apply, iblk3_apply, iblk4_apply]

/-- What point `t` writes back is its block of the layer. -/
theorem flushed_eq (c : Dev nD) (t : Fin cfg0.N) :
    (dats m 0 c).flushed 6 t = ((cfg0.win 6).blk t).view.read (Elt Ideal) (layer m c) := by
  have hi := index6 t
  rw [Value.flushed6_A, out_A]
  funext j
  rw [View.read_apply]
  obtain ⟨r, d, rfl⟩ : ∃ (r d : Fin 1024), j = (ix2 r d : S1024x1024.Idx) := ⟨j 0, j 1, eq_ix2 (n0 := 1024) (n1 := 1024) j⟩
  refine (block_apply m c t r d).trans ?_
  have e : (((cfg0.win 6).blk t).view.emb (ix2 r d : S1024x1024.Idx)) = (ix2 (row t r) d : S16384x1024.Idx) := by
    funext a
    apply Fin.ext
    match a with
    | ⟨0, _⟩ => show win0_6.index t 0 * 1024 + 1 * r.val = 1024 * t.val + r.val; omega
    | ⟨1, _⟩ => show win0_6.index t 1 * 1024 + 1 * d.val = d.val; omega
  exact (congrArg (layer m c) e).symm

/-- The sixteen blocks cover the result. -/
theorem cover (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 16 := N_0
  have ht : (i 0 : Nat) / 1024 < cfg0.N := by omega
  refine ⟨⟨(i 0 : Nat) / 1024, ht⟩, flush0_6 _, ?_⟩
  have hi := index6 ⟨(i 0 : Nat) / 1024, ht⟩
  have hx : ∀ t : Fin grid0.N, win0_6.xsize (grid0.coords t) 0 = 1024 ∧ win0_6.xsize (grid0.coords t) 1 = 1024 := by decide +kernel
  have hx := hx ⟨(i 0 : Nat) / 1024, ht⟩
  show i ∈ ((View.whole main_v10).slice (win0_6.rect ⟨(i 0 : Nat) / 1024, ht⟩)).set
  rw [View.set_slice_whole, Rect.mem_set_unit]
  intro a
  match a with
  | ⟨0, _⟩ =>
    show win0_6.index ⟨(i 0 : Nat) / 1024, ht⟩ 0 * 1024 ≤ (i 0 : Nat) ∧ (i 0 : Nat) < win0_6.index ⟨(i 0 : Nat) / 1024, ht⟩ 0 * 1024 + win0_6.xsize (grid0.coords ⟨(i 0 : Nat) / 1024, ht⟩) 0
    rw [hi.1, hx.1]
    dsimp only
    omega
  | ⟨1, _⟩ =>
    show win0_6.index ⟨(i 0 : Nat) / 1024, ht⟩ 1 * 1024 ≤ (i 1 : Nat) ∧ (i 1 : Nat) < win0_6.index ⟨(i 0 : Nat) / 1024, ht⟩ 1 * 1024 + win0_6.xsize (grid0.coords ⟨(i 0 : Nat) / 1024, ht⟩) 1
    rw [hi.2, hx.2]
    omega

/-- After the run the result array holds the layer. -/
theorem final (c : Dev nD) : (dats m 0 c).arrAt 6 cfg0.N = layer m c :=
  (dats m 0 c).arrAt_eq_of_cover 6 (layer m c) (fun t _ => flushed_eq m c t) cover

/-! ## The reference -/

/-- The reference's result, element by element: the same layer. -/
theorem ref_apply (x : Vec Ideal Cert.FfnRefIdeal.S16384x1024 .f32) (g : Vec Ideal Cert.FfnRefIdeal.S1024 .f32)
    (w1 w2 : Vec Ideal Cert.FfnRefIdeal.S1024x2816 .f32) (w3 : Vec Ideal Cert.FfnRefIdeal.S2816x1024 .f32) (r : Fin 16384) (d : Fin 1024) :
    Cert.FfnRefIdeal.Read.val_main_v20 (F := Ideal) x g w1 w2 w3 (ix2 r d)
      = layerAt (fun k => x (ix2 r k)) (fun k => g (ix1 k)) (fun k f => w1 (ix2 k f)) (fun k f => w2 (ix2 k f)) (fun f k => w3 (ix2 f k)) d := by
  have hn : ∀ k : Fin 1024, Cert.FfnRefIdeal.Read.val_main_v12 (F := Ideal) x g (ix2 r k) = normed (fun k => x (ix2 r k)) (fun k => g (ix1 k)) k := by
    intro k
    open Cert.FfnRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  open Cert.FfnRefIdeal.Read in
  pointwise [val_main_v20, val_main_v19, val_main_v18, val_main_v17, val_main_v16, val_main_v15, val_main_v14, val_main_v13, val_main_call0_v5, val_main_call0_v4, val_main_call0_v3, val_main_call0_v2, val_main_call0_v1, val_main_call0_v0, val_main_call0_cst, val_main_call0_cst_0, val_main_cst_2]
  simp only [hn]
  rfl

end Cert.FfnIdeal.Block

end
-- ==== Proof.FfnClaims.lean ====
module

public import proofs.«01_k».proof.Defs
public import proofs.«01_k».proof.Proof.FfnValue
public import proofs.«01_k».proof.Proof.Gen.Ffn.Frame
public import Idealize.ShloMosaic.Lib.Quiescent

@[expose] public section

set_option maxRecDepth 16384

noncomputable section

/-! # The claims about the feed-forward layer -/

namespace Cert.Proof.FfnClaims

open Idealize.ShloMosaic Idealize.ShloMosaic.TcCoe Idealize.SL.Sem

/-- The kernel, at words, leaves its arguments and its semaphores as it found them. -/
theorem frame_kernel : Cert.quiescent_Ffn := fun m ρ _ => Cert.Ffn.Gen.frame m ρ

/-- The kernel over the extended reals leaves its arguments and its semaphores as it found them. -/
theorem frame_ideal : Cert.quiescent_FfnIdeal := fun m ρ _ => Cert.FfnIdeal.Gen.frame m ρ

/-- The reference leaves its arguments as it found them; it has no semaphore. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The idealized kernel is the kernel's own text. -/
theorem preserves : Cert.preserves_Ffn_FfnIdeal := trivial

/-- Over the extended reals the kernel's result array is the reference's. -/
theorem algebraic : Cert.algebraic_FfnIdeal_FfnRefIdeal := by
  intro m ρ m' ρ' _ hagree
  refine ⟨fun c => (Cert.FfnIdeal.Gen.dats m 0 c).arrAt 6 Cert.FfnIdeal.cfg0.N, Cert.FfnIdeal.Value.run_blocks m ρ, ?_⟩
  refine (θ_run Cert.FfnRefIdeal.defs _ _).mono (fun _ h c => ?_) (Cert.FfnRefIdeal.Value.run (F := Ideal) m' ρ')
  refine ⟨(h c).1.trans ?_, (h c).2⟩
  obtain ⟨h0, h1, h2, h3, h4⟩ := hagree c
  rw [h0, h1, h2, h3, h4]
  refine Eq.trans ?_ (Cert.FfnIdeal.Block.final m c).symm
  refine (Cert.FfnRefIdeal.Read.val_main_v20_eq (F := Ideal) _ _ _ _ _).trans ?_
  funext i
  obtain ⟨r, d, rfl⟩ : ∃ (r : Fin 16384) (d : Fin 1024), i = (ix2 r d : Cert.FfnIdeal.S16384x1024.Idx) := ⟨i 0, i 1, eq_ix2 (n0 := 16384) (n1 := 1024) i⟩
  exact Cert.FfnIdeal.Block.ref_apply _ _ _ _ _ r d

end Cert.Proof.FfnClaims

end
-- ==== Proof.LastBlock.lean ====
module

public import proofs.«01_k».proof.Proof.Gen.LastIdeal.Value
public import Idealize.ShloMosaic.Lib.Pipeline.Value
public import Idealize.ShloMosaic.Lib.Tactic

@[expose] public section

set_option maxRecDepth 16384

noncomputable section

/-! # The last feed-forward kernel: what one grid point leaves in its output block -/

namespace Cert.LastIdeal.Block

open Cert.LastIdeal Cert.LastIdeal.Gen Idealize.ShloMosaic Idealize.ShloMosaic.TcCoe Idealize.SL.Sem
open Idealize.ShloMosaic.Pipeline (Dat)

variable {F : FTy → Type} [FloatOps F]

/-- The offsets of a load or a store of a whole two-axis buffer are zero. -/
theorem hz2 : (![0, 0] : Fin 2 → Nat) = fun _ => 0 := funext fun a => by fin_cases a <;> rfl

/-- The loop makes eleven trips. -/
theorem trips_eq : k0_t1_loop.trips = 11 := by decide +kernel

/-- Chunk `k` of the gate or up weights (eleven chunks of 256 columns). -/
def wcol (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weights (eleven chunks of 256 rows). -/
def wrow (w : Vec F S11x256x1024 .bf16) (k : Fin k0_t1_loop.trips) : Vec F S1x256x1024 .bf16 :=
  View.ld w (Rect.unit (s := S11x256x1024) (k0_off2 k) S1x256x1024.size (k0_off2_inb k))

/-- The output block before trip `k`: the input block, then what each earlier trip adds to it. -/
def acc (x0 : Vec F S1024x1024 .f32) (hn : Vec F S1024x1024 .bf16) (x2 x3 : Vec F S11x1024x256 .bf16)
    (x4 : Vec F S11x256x1024 .bf16) : ℕ → Vec F S1024x1024 .f32
  | 0 => x0
  | k + 1 => if h : k < k0_t1_loop.trips then
      k0_pay3 hn (wcol x2 ⟨k, h⟩) (wcol x3 ⟨k, h⟩) (acc x0 hn x2 x3 x4 k) (wrow x4 ⟨k, h⟩)
    else acc x0 hn x2 x3 x4 k

/-- One trip stores one piece: the whole output block, at what was there plus the chunk's share. -/
theorem trip_val (𝒱 : Variants) (c : Dev nD) (bd : Option 𝒱.V) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) (f : BufTy.Contents (Elt F) arg7.view.ty) :
    (trip_k0_t1 (F := F) 𝒱 c bd i arg1 harg1 arg2 harg2 arg3 harg3 arg4 harg4 arg5 harg5 arg6 harg6 arg7 harg7 arg8 harg8 X_arg3 X_arg4 X_arg5 X_arg8 k).1 f
      = [⟨Rect.unit (s := S1024x1024) ![0, 0] S1024x1024.size inb_S1024x1024_S1024x1024_0_0,
          k0_pay3 (arg8.view.read (Elt F) X_arg8) (wcol (arg3.view.read (Elt F) X_arg3) k)
            (wcol (arg4.view.read (Elt F) X_arg4) k) (arg7.view.read (Elt F) f) (wrow (arg5.view.read (Elt F) X_arg5) k)⟩] := by
  unfold trip_k0_t1
  dsimp only
  sl_unfold_words
  simp only [View.readAt_eq_ld, View.ld_unit_zero (S := S1024x1024) hz2]
  rfl

/-- A store of the whole block covers every index. -/
theorem cover_whole (w : Vec F S1024x1024 .f32) (L : List (View.Piece (Elt F) S1024x1024 .f32)) (y : S1024x1024.Idx) :
    ∃ pc ∈ (⟨Rect.unit (s := S1024x1024) ![0, 0] S1024x1024.size inb_S1024x1024_S1024x1024_0_0, w⟩ : View.Piece (Elt F) S1024x1024 .f32) :: L, y ∈ pc.1.set :=
  ⟨_, List.mem_cons_self, by
    rw [Rect.mem_set_unit]
    intro a
    match a with
    | ⟨0, _⟩ => exact ⟨Nat.zero_le _, by have := (y 0).isLt; show (y 0).val < 0 + 1024; exact (Nat.zero_add _).symm ▸ this⟩
    | ⟨1, _⟩ => exact ⟨Nat.zero_le _, by have := (y 1).isLt; show (y 1).val < 0 + 1024; exact (Nat.zero_add _).symm ▸ this⟩⟩

/-- The pieces stored before trip `k` leave `acc k`, whatever view they are written through. -/
theorem read_pieces (𝒱 : Variants) (c : Dev nD) (bd : Option 𝒱.V) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (x0 : Vec F S1024x1024 .f32) :
    ∀ (k : ℕ), k ≤ k0_t1_loop.trips → ∀ {sg : RefSig} {κ : Kind} {sp : Space} (v : View sg κ sp S1024x1024 .f32) (g : v.ty.Contents (Elt F)),
    v.read (Elt F) (v.writes (Elt F) g
      (pb_k0_t1 (F := F) 𝒱 c bd i arg1 harg1 arg2 harg2 arg3 harg3 arg4 harg4 arg5 harg5 arg6 harg6 arg7 harg7 arg8 harg8 X_arg3 X_arg4 X_arg5 X_arg8
          (arg7.view.writes (Elt F) arg7.view.junk [⟨Rect.unit (s := S1024x1024) ![0, 0] S1024x1024.size inb_S1024x1024_S1024x1024_0_0, x0⟩]) k
        ++ [⟨Rect.unit (s := S1024x1024) ![0, 0] S1024x1024.size inb_S1024x1024_S1024x1024_0_0, x0⟩]))
      = acc x0 (arg8.view.read (Elt F) X_arg8) (arg3.view.read (Elt F) X_arg3) (arg4.view.read (Elt F) X_arg4) (arg5.view.read (Elt F) X_arg5) k
  | 0, _, sg, κ, sp, v, g => by
    rw [pb_k0_t1.eq_1, List.nil_append, View.read_writes_eq_canon _ _ _ (cover_whole x0 []), View.canon_unit_zero hz2]
    rfl
  | k + 1, hk, sg, κ, sp, v, g => by
    have hk' : k < k0_t1_loop.trips := hk
    have e := pb_k0_t1_succ (F := F) 𝒱 c bd i arg1 harg1 arg2 harg2 arg3 harg3 arg4 harg4 arg5 harg5 arg6 harg6 arg7 harg7 arg8 harg8 X_arg3 X_arg4 X_arg5 X_arg8
      (arg7.view.writes (Elt F) arg7.view.junk [⟨Rect.unit (s := S1024x1024) ![0, 0] S1024x1024.size inb_S1024x1024_S1024x1024_0_0, x0⟩]) ⟨k, hk'⟩
    unfold tripL_k0_t1 at e
    rw [trip_val, ← View.writes_append] at e
    dsimp only at e
    rw [e, List.append_assoc, List.singleton_append, View.read_writes_eq_canon _ _ _ (cover_whole _ _), View.canon_cons_unit_zero hz2,
      read_pieces 𝒱 c bd i arg1 harg1 arg2 harg2 arg3 harg3 arg4 harg4 arg5 harg5 arg6 harg6 arg7 harg7 arg8 harg8 X_arg3 X_arg4 X_arg5 X_arg8 x0 k hk'.le, acc, dif_pos hk']

/-- The rows the last normalization leaves of the block. -/
def last (o : Vec F S1024x1024 .f32) (x5 : Vec F S1x1024 .f32) : Vec F S1024x1024 .f32 :=
  k0_pay1 (k0_pay4 o) (k0_pay5 x5) (k0_pay6 o)

/-- What one grid point leaves in its output block: the block after all eleven trips, normalized. -/
theorem out_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole)
    (x0 : Vec F S1024x1024 .f32) (x1 : Vec F S1x1024 .f32) (x2 : Vec F S11x1024x256 .bf16) (x3 : Vec F S11x1024x256 .bf16) (x4 : Vec F S11x256x1024 .bf16) (x5 : Vec F S1x1024 .f32) :
    out0_A_6 c i arg1 harg1 arg2 harg2 arg3 harg3 arg4 harg4 arg5 harg5 arg6 harg6 arg7 harg7 arg8 harg8 x0 x1 x2 x3 x4 x5 = last (acc x0 (k0_pay2 x0 x1) x2 x3 x4 11) x5 := by
  have h11 : Scf.trips (0#32) (Scalar.addi 0#32 11#32) 1#32 = 11 := by decide +kernel
  unfold out0_A_6
  unfold kernelRun0_A
  dsimp only
  sl_unfold_words
  simp only [View.readAt_eq_ld, View.ld_unit_zero (S := S1024x1024) hz2, View.ld_unit_zero (S := S1x1024) hz2, harg1.read_unread, harg2.read_unread, harg6.read_unread, h11]
  rw [View.read_writes_eq_canon _ _ _ (cover_whole _ _), View.canon_cons_unit_zero hz2]
  have hn : ∀ w : Vec F S1024x1024 .bf16, arg8.view.read (Elt F) (arg8.view.writes (Elt F) arg8.view.junk
      [⟨Rect.unit (s := S1024x1024) ![0, 0] S1024x1024.size inb_S1024x1024_S1024x1024_0_0, w⟩]) = w := fun w => by
    rw [View.read_writes_junk_eq_canon, View.canon_unit_zero hz2]
  have e := read_pieces (F := F) Variants.none c none i arg1 harg1 arg2 harg2 arg3 harg3 arg4 harg4 arg5 harg5 arg6 harg6 arg7 harg7 arg8 harg8
    (harg3.unread x2) (harg4.unread x3) (harg5.unread x4) (arg8.view.writes (Elt F) arg8.view.junk
      [⟨Rect.unit (s := S1024x1024) ![0, 0] S1024x1024.size inb_S1024x1024_S1024x1024_0_0, k0_pay2 x0 x1⟩]) x0 11 trips_eq.ge arg7.view arg7.view.junk
  rw [hn, harg3.read_unread, harg4.read_unread, harg5.read_unread] at e
  rw [View.read_writes_junk_eq_canon] at e
  rw [View.readCov_eq_canon', e]
  have z : (fun j : S1024x1024.Idx => acc x0 (k0_pay2 x0 x1) x2 x3 x4 11
      ((Rect.unit (s := S1024x1024) ![0, 0] S1024x1024.size inb_S1024x1024_S1024x1024_0_0).toLoadRect.idx j)) = acc x0 (k0_pay2 x0 x1) x2 x3 x4 11 :=
    View.ld_unit_zero (S := S1024x1024) hz2 _ (acc x0 (k0_pay2 x0 x1) x2 x3 x4 11)
  unfold last
  exact congrArg (fun o => k0_pay1 (k0_pay4 o) (k0_pay5 x5) (k0_pay6 o)) z

end Cert.LastIdeal.Block

end
-- ==== Proof.LastValue.lean ====
module

public import proofs.«01_k».proof.Proof.LastBlock
public import proofs.«01_k».proof.Proof.Gen.LastRefIdeal.Read
public import Idealize.ShloMosaic.Lib.Pointwise
public import Idealize.ShloMosaic.Lib.Pipeline.ValueKit.Tiles

@[expose] public section

set_option maxRecDepth 16384

noncomputable section

/-! # The last feed-forward layer and the model's final normalization: the kernel's result array and the reference's, element by element -/

namespace Cert.LastIdeal.Block

open Cert.LastIdeal Cert.LastIdeal.Gen Idealize.ShloMosaic Idealize.ShloMosaic.TcCoe Idealize.SL.Sem
open Idealize.ShloMosaic.Pipeline (Dat)

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- A gated hidden unit: `silu a * u`, `a` and `u` the row's products with one column of the gate and of the up weights. -/
def gated (h wg wu : Fin 1024 → EReal) : EReal :=
  (∑ k, h k * wg k) * Ideal.logistic (∑ k, h k * wg k) * ∑ k, h k * wu k

/-- The constant the layer's contribution is scaled by. -/
abbrev half : EReal := Ideal.ofBits FTy.f32 0x3F000000#32

/-- The constant 0.5 is one half. -/
theorem half_eq : half = (((1 / 2 : ℝ)) : EReal) := by
  unfold half
  simp [Ideal.ofBits, Ideal.ieee, -EReal.coe_mul]; norm_num

/-- One half is not negative. -/
theorem half_nonneg : (0 : EReal) ≤ half := by
  rw [half_eq]; exact_mod_cast (by norm_num : (0 : ℝ) ≤ 1 / 2)

/-- One half is not infinite. -/
theorem half_ne_top : half ≠ ⊤ := by
  rw [half_eq]; exact EReal.coe_ne_top _

/-- A nonnegative finite factor distributes over a finite sum of extended reals. -/
theorem mul_sum_of_nonneg {ι : Type*} (c : EReal) (h0 : 0 ≤ c) (h1 : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- A sum over 2816 positions, cut into eleven chunks of 256. -/
theorem sum_chunks (f : Fin 2816 → EReal) :
    ∑ i, f i = ∑ j : Fin 11, ∑ e : Fin 256, f ⟨256 * j.val + e.val, by omega⟩ := by
  rw [← Fintype.sum_prod_type' (f := fun (j : Fin 11) (e : Fin 256) => f ⟨256 * j.val + e.val, by omega⟩),
    ← (finProdFinEquiv (m := 11) (n := 256)).sum_comp]
  refine Finset.sum_congr rfl fun p _ => congrArg f (Fin.ext ?_)
  show p.2.val + 256 * p.1.val = 256 * p.1.val + p.2.val
  omega

/-! ## The block -/

/-- The normalized rows, element by element. -/
theorem pay2_apply (v0 : Vec Ideal S1024x1024 .f32) (v1 : Vec Ideal S1x1024 .f32) (r d : Fin 1024) :
    k0_pay2 (F := Ideal) v0 v1 (ix2 r d) = normed (fun k => v0 (ix2 r k)) (fun k => v1 (ix2 0 k)) d := by
  pointwise [k0_pay2]
  rfl

/-- One chunk's contribution, element by element. -/
theorem pay3_apply (hn : Vec Ideal S1024x1024 .bf16) (w1 w2 : Vec Ideal S1x1024x256 .bf16) (o : Vec Ideal S1024x1024 .f32)
    (w3 : Vec Ideal S1x256x1024 .bf16) (r d : Fin 1024) :
    k0_pay3 (F := Ideal) hn w1 w2 o w3 (ix2 r d)
      = o (ix2 r d) + half * ∑ e : Fin 256, gated (fun k => hn (ix2 r k)) (fun k => w1 (ix3 0 k e)) (fun k => w2 (ix3 0 k e)) * w3 (ix3 0 e d) := by
  pointwise [k0_pay3]
  rfl

/-- The final normalization of a block's rows, element by element. -/
theorem last_apply (o : Vec Ideal S1024x1024 .f32) (x5 : Vec Ideal S1x1024 .f32) (r d : Fin 1024) :
    last (F := Ideal) o x5 (ix2 r d) = normed (fun k => o (ix2 r k)) (fun k => x5 (ix2 0 k)) d := by
  pointwise [last, k0_pay1, k0_pay4, k0_pay5, k0_pay6]
  rfl

/-- Chunk `k` of the gate or up weights, element by element. -/
theorem wcol_apply (w : Vec Ideal S11x1024x256 .bf16) (k : Fin k0_t1_loop.trips) (a : Fin 1024) (e : Fin 256) :
    wcol w k (ix3 0 a e) = w (ix3 ⟨k.val, trips_eq ▸ k.isLt⟩ a e) := by
  refine View.ld_unit_apply_of _ _ _ _ _ _ fun b => ?_
  have h := congrFun (k0_off1_eq k) b
  rw [h]
  match b with
  | ⟨0, _⟩ => rfl
  | ⟨1, _⟩ => exact (Nat.zero_add _).symm
  | ⟨2, _⟩ => exact (Nat.zero_add _).symm

/-- Chunk `k` of the down weights, element by element. -/
theorem wrow_apply (w : Vec Ideal S11x256x1024 .bf16) (k : Fin k0_t1_loop.trips) (e : Fin 256) (d : Fin 1024) :
    wrow w k (ix3 0 e d) = w (ix3 ⟨k.val, trips_eq ▸ k.isLt⟩ e d) := by
  refine View.ld_unit_apply_of _ _ _ _ _ _ fun b => ?_
  have h := congrFun (k0_off2_eq k) b
  rw [h]
  match b with
  | ⟨0, _⟩ => rfl
  | ⟨1, _⟩ => exact (Nat.zero_add _).symm
  | ⟨2, _⟩ => exact (Nat.zero_add _).symm

/-- What chunk `j` contributes to element `(r, d)`, before the scaling by one half. -/
def chunk (hn : Vec Ideal S1024x1024 .bf16) (x2 x3 : Vec Ideal S11x1024x256 .bf16) (x4 : Vec Ideal S11x256x1024 .bf16)
    (r d : Fin 1024) (j : Fin 11) : EReal :=
  ∑ e : Fin 256, gated (fun k => hn (ix2 r k)) (fun k => x2 (ix3 j k e)) (fun k => x3 (ix3 j k e)) * x4 (ix3 j e d)

/-- The output block before trip `k`: the input, plus half of the sum of the earlier chunks' contributions. -/
theorem acc_apply (x0 : Vec Ideal S1024x1024 .f32) (hn : Vec Ideal S1024x1024 .bf16) (x2 x3 : Vec Ideal S11x1024x256 .bf16)
    (x4 : Vec Ideal S11x256x1024 .bf16) (r d : Fin 1024) : ∀ (n : ℕ) (hn' : n ≤ 11),
    acc x0 hn x2 x3 x4 n (ix2 r d) = x0 (ix2 r d) + half * ∑ j : Fin n, chunk hn x2 x3 x4 r d ⟨j.val, by omega⟩
  | 0, _ => by simp [acc]
  | n + 1, h => by
    have hk : n < k0_t1_loop.trips := by rw [trips_eq]; omega
    rw [acc, dif_pos hk, pay3_apply, acc_apply x0 hn x2 x3 x4 r d n (by omega), Fin.sum_univ_castSucc (n := n),
      EReal.left_distrib_of_nonneg_of_ne_top half_nonneg half_ne_top, add_assoc]
    simp only [wcol_apply, wrow_apply]
    rfl

/-! ## The arguments' blocks -/

variable (m : (ℓ : Loc nD τ sig) → Buf (Elt Ideal) ℓ)

/-- The layer's input, the gain, the three weight arrays and the final gain, at an index. -/
abbrev argX (c : Dev nD) (r : Fin 16384) (d : Fin 1024) : EReal := m ((c : Thread nD τ).loc main_arg0) (ix2 r d : S16384x1024.Idx)
/-- The argument with the norm's scales, element by element. -/
abbrev argG (c : Dev nD) (d : Fin 1024) : EReal := m ((c : Thread nD τ).loc main_arg1) (ix1 d : S1024.Idx)
/-- The argument with the gate weights, element by element. -/
abbrev argWg (c : Dev nD) (k : Fin 1024) (f : Fin 2816) : EReal := m ((c : Thread nD τ).loc main_arg2) (ix2 k f : S1024x2816.Idx)
/-- The argument with the up weights, element by element. -/
abbrev argWu (c : Dev nD) (k : Fin 1024) (f : Fin 2816) : EReal := m ((c : Thread nD τ).loc main_arg3) (ix2 k f : S1024x2816.Idx)
/-- The argument with the down weights, element by element. -/
abbrev argWd (c : Dev nD) (f : Fin 2816) (d : Fin 1024) : EReal := m ((c : Thread nD τ).loc main_arg4) (ix2 f d : S2816x1024.Idx)
/-- The argument with the final norm's scales, element by element. -/
abbrev argF (c : Dev nD) (d : Fin 1024) : EReal := m ((c : Thread nD τ).loc main_arg5) (ix1 d : S1024.Idx)

/-- What the host hands the kernel: the gate weights, cast and cut into chunks of columns. -/
theorem V_v2 (c : Dev nD) : V m c main_v2 = transpose S11x1024x256 [1, 0, 2]
    (shapeCast S1024x11x256 (truncf (F := Ideal) (s := S1024x2816) (φ := .f32) .bf16 (m ((c : Thread nD τ).loc main_arg2)) bitsLt_bf16_f32) shapeCasts_S1024x2816_S1024x11x256)
    transposes_S1024x11x256_S11x1024x256_1_0_2 := by
  unfold V hostOps0
  after_results
  rfl

/-- What the host hands the kernel: the up weights, cast and cut into chunks of columns. -/
theorem V_v5 (c : Dev nD) : V m c main_v5 = transpose S11x1024x256 [1, 0, 2]
    (shapeCast S1024x11x256 (truncf (F := Ideal) (s := S1024x2816) (φ := .f32) .bf16 (m ((c : Thread nD τ).loc main_arg3)) bitsLt_bf16_f32) shapeCasts_S1024x2816_S1024x11x256)
    transposes_S1024x11x256_S11x1024x256_1_0_2 := by
  unfold V hostOps0
  after_results
  rfl

/-- What the host hands the kernel: the down weights, cast and cut into chunks of rows. -/
theorem V_v7 (c : Dev nD) : V m c main_v7 =
    shapeCast S11x256x1024 (truncf (F := Ideal) (s := S2816x1024) (φ := .f32) .bf16 (m ((c : Thread nD τ).loc main_arg4)) bitsLt_bf16_f32) shapeCasts_S2816x1024_S11x256x1024 := by
  unfold V hostOps0
  after_results
  rfl

/-- What the host hands the kernel: the norm's scales as one row. -/
theorem V_v8 (c : Dev nD) : V m c main_v8 =
    shapeCast S1x1024 (m ((c : Thread nD τ).loc main_arg1) : Vec Ideal S1024 .f32) shapeCasts_S1024_S1x1024 := by
  unfold V hostOps0
  after_results
  rfl

/-- What the host hands the kernel: the final norm's scales as one row. -/
theorem V_v9 (c : Dev nD) : V m c main_v9 =
    shapeCast S1x1024 (m ((c : Thread nD τ).loc main_arg5) : Vec Ideal S1024 .f32) shapeCasts_S1024_S1x1024 := by
  unfold V hostOps0
  after_results
  rfl

/-- The windows' block indices at each of the 16 points. -/
theorem index0 : ∀ t : Fin grid0.N, win0_0.index t 0 = t.val ∧ win0_0.index t 1 = 0 := by decide +kernel
/-- Window 6 takes, at each grid point, the point's own block of rows. -/
theorem index6 : ∀ t : Fin grid0.N, win0_6.index t 0 = t.val ∧ win0_6.index t 1 = 0 := by decide +kernel
/-- Window 1 takes the whole array at each grid point. -/
theorem index1 : ∀ t : Fin grid0.N, win0_1.index t 0 = 0 ∧ win0_1.index t 1 = 0 := by decide +kernel
/-- Window 5 takes the whole array at each grid point. -/
theorem index5 : ∀ t : Fin grid0.N, win0_5.index t 0 = 0 ∧ win0_5.index t 1 = 0 := by decide +kernel
/-- Window 2 takes the whole array at each grid point. -/
theorem index2 : ∀ t : Fin grid0.N, win0_2.index t 0 = 0 ∧ win0_2.index t 1 = 0 ∧ win0_2.index t 2 = 0 := by decide +kernel
/-- Window 3 takes the whole array at each grid point. -/
theorem index3 : ∀ t : Fin grid0.N, win0_3.index t 0 = 0 ∧ win0_3.index t 1 = 0 ∧ win0_3.index t 2 = 0 := by decide +kernel
/-- Window 4 takes the whole array at each grid point. -/
theorem index4 : ∀ t : Fin grid0.N, win0_4.index t 0 = 0 ∧ win0_4.index t 1 = 0 ∧ win0_4.index t 2 = 0 := by decide +kernel

/-- The array row that row `r` of point `t`'s block is. -/
def row (t : Fin cfg0.N) (r : Fin 1024) : Fin 16384 := ⟨1024 * t.val + r.val, by have := t.isLt; have h : cfg0.N = 16 := N_0; omega⟩

/-- The block of the rows, element by element, as the argument's. -/
theorem iblk0_apply (c : Dev nD) (t : Fin cfg0.N) (r d : Fin 1024) :
    (iblk m c 0 t : Vec Ideal S1024x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 1024 + 1 * r.val = 1024 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v8 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v8) e).trans ?_
  rw [V_v8]
  pointwise

/-- The block of the gate weights, element by element, as the argument's. -/
theorem iblk2_apply (c : Dev nD) (t : Fin cfg0.N) (j : Fin 11) (k : Fin 1024) (e : Fin 256) :
    (iblk m c 2 t : Vec Ideal S11x1024x256 .bf16) (ix3 j k e) = argWg m c k ⟨256 * j.val + e.val, by omega⟩ := by
  have hi := index2 t
  unfold iblk
  rw [View.read_apply]
  show V m c main_v2 _ = _
  have e : (((cfg0.win 2).blk t).view.emb (ix3 j k e : S11x1024x256.Idx)) = (ix3 j k e : S11x1024x256.Idx) := by
    funext a
    apply Fin.ext
    match a with
    | ⟨0, _⟩ => show win0_2.index t 0 * 11 + 1 * j.val = j.val; omega
    | ⟨1, _⟩ => show win0_2.index t 1 * 1024 + 1 * k.val = k.val; omega
    | ⟨2, _⟩ => show win0_2.index t 2 * 256 + 1 * e.val = e.val; omega
  refine (congrArg (V m c main_v2) e).trans ?_
  rw [V_v2]
  pointwise
  exact congrArg (m ((c : Thread nD τ).loc main_arg2)) (congrArg (ix2 k) (Fin.ext (by show j.val * 256 + _ = 256 * j.val + _; omega)))

/-- The block of the up weights, element by element, as the argument's. -/
theorem iblk3_apply (c : Dev nD) (t : Fin cfg0.N) (j : Fin 11) (k : Fin 1024) (e : Fin 256) :
    (iblk m c 3 t : Vec Ideal S11x1024x256 .bf16) (ix3 j k e) = argWu m c k ⟨256 * j.val + e.val, by omega⟩ := by
  have hi := index3 t
  unfold iblk
  rw [View.read_apply]
  show V m c main_v5 _ = _
  have e : (((cfg0.win 3).blk t).view.emb (ix3 j k e : S11x1024x256.Idx)) = (ix3 j k e : S11x1024x256.Idx) := by
    funext a
    apply Fin.ext
    match a with
    | ⟨0, _⟩ => show win0_3.index t 0 * 11 + 1 * j.val = j.val; omega
    | ⟨1, _⟩ => show win0_3.index t 1 * 1024 + 1 * k.val = k.val; omega
    | ⟨2, _⟩ => show win0_3.index t 2 * 256 + 1 * e.val = e.val; omega
  refine (congrArg (V m c main_v5) e).trans ?_
  rw [V_v5]
  pointwise
  exact congrArg (m ((c : Thread nD τ).loc main_arg3)) (congrArg (ix2 k) (Fin.ext (by show j.val * 256 + _ = 256 * j.val + _; omega)))

/-- The block of the down weights, element by element, as the argument's. -/
theorem iblk4_apply (c : Dev nD) (t : Fin cfg0.N) (j : Fin 11) (e : Fin 256) (d : Fin 1024) :
    (iblk m c 4 t : Vec Ideal S11x256x1024 .bf16) (ix3 j e d) = argWd m c ⟨256 * j.val + e.val, by omega⟩ d := by
  have hi := index4 t
  unfold iblk
  rw [View.read_apply]
  show V m c main_v7 _ = _
  have e : (((cfg0.win 4).blk t).view.emb (ix3 j e d : S11x256x1024.Idx)) = (ix3 j e d : S11x256x1024.Idx) := by
    funext a
    apply Fin.ext
    match a with
    | ⟨0, _⟩ => show win0_4.index t 0 * 11 + 1 * j.val = j.val; omega
    | ⟨1, _⟩ => show win0_4.index t 1 * 256 + 1 * e.val = e.val; omega
    | ⟨2, _⟩ => show win0_4.index t 2 * 1024 + 1 * d.val = d.val; omega
  refine (congrArg (V m c main_v7) e).trans ?_
  rw [V_v7]
  pointwise
  exact congrArg (m ((c : Thread nD τ).loc main_arg4)) (congrArg (fun q => ix2 q d) (Fin.ext (by show j.val * 256 + _ = 256 * j.val + _; omega)))

/-- The block of the final norm's scales, element by element, as the argument's. -/
theorem iblk5_apply (c : Dev nD) (t : Fin cfg0.N) (d : Fin 1024) :
    (iblk m c 5 t : Vec Ideal S1x1024 .f32) (ix2 0 d) = argF m c d := by
  have hi := index5 t
  unfold iblk
  rw [View.read_apply]
  show V m c main_v9 _ = _
  have e : (((cfg0.win 5).blk t).view.emb (ix2 0 d : S1x1024.Idx)) = (ix2 0 d : S1x1024.Idx) := by
    funext a
    apply Fin.ext
    match a with
    | ⟨0, _⟩ => show win0_5.index t 0 * 1 + 1 * 0 = 0; omega
    | ⟨1, _⟩ => show win0_5.index t 1 * 1024 + 1 * d.val = d.val; omega
  refine (congrArg (V m c main_v9) e).trans ?_
  rw [V_v9]
  pointwise

/-! ## The result array -/

/-- The layer at row `r`, column `d`, of any arrays: the row plus half of the gated network's output on the normalized row. -/
def layerAt (x g : Fin 1024 → EReal) (wg wu : Fin 1024 → Fin 2816 → EReal) (wd : Fin 2816 → Fin 1024 → EReal) (d : Fin 1024) : EReal :=
  x d + half * ∑ f : Fin 2816, gated (normed x g) (fun k => wg k f) (fun k => wu k f) * wd f d

/-- The layer's row, normalized once more, at column `d`. -/
def resultAt (x g fg : Fin 1024 → EReal) (wg wu : Fin 1024 → Fin 2816 → EReal) (wd : Fin 2816 → Fin 1024 → EReal) (d : Fin 1024) : EReal :=
  normed (layerAt x g wg wu wd) fg d

/-- The result as an array of device `c`'s arguments. -/
def layer (c : Dev nD) : Vec Ideal S16384x1024 .f32 :=
  fun i => resultAt (argX m c (i 0)) (argG m c) (argF m c) (argWg m c) (argWu m c) (argWd m c) (i 1)

/-- A whole output block after the eleven trips, element by element. -/
theorem block_apply (c : Dev nD) (t : Fin cfg0.N) (r d : Fin 1024) :
    acc (iblk m c 0 t : Vec Ideal S1024x1024 .f32) (k0_pay2 (iblk m c 0 t : Vec Ideal S1024x1024 .f32) (iblk m c 1 t : Vec Ideal S1x1024 .f32))
      (iblk m c 2 t : Vec Ideal S11x1024x256 .bf16) (iblk m c 3 t : Vec Ideal S11x1024x256 .bf16) (iblk m c 4 t : Vec Ideal S11x256x1024 .bf16) 11 (ix2 r d)
      = layerAt (argX m c (row t r)) (argG m c) (argWg m c) (argWu m c) (argWd m c) d := by
  rw [acc_apply _ _ _ _ _ _ _ 11 le_rfl]
  unfold layerAt chunk
  rw [sum_chunks]
  simp only [pay2_apply, iblk0_apply, iblk1_apply, iblk2_apply, iblk3_apply, iblk4_apply]

/-- What a point leaves in its output block, element by element. -/
theorem result_apply (c : Dev nD) (t : Fin cfg0.N) (r d : Fin 1024) :
    last (acc (iblk m c 0 t : Vec Ideal S1024x1024 .f32) (k0_pay2 (iblk m c 0 t : Vec Ideal S1024x1024 .f32) (iblk m c 1 t : Vec Ideal S1x1024 .f32))
      (iblk m c 2 t : Vec Ideal S11x1024x256 .bf16) (iblk m c 3 t : Vec Ideal S11x1024x256 .bf16) (iblk m c 4 t : Vec Ideal S11x256x1024 .bf16) 11)
      (iblk m c 5 t : Vec Ideal S1x1024 .f32) (ix2 r d)
      = resultAt (argX m c (row t r)) (argG m c) (argF m c) (argWg m c) (argWu m c) (argWd m c) d := by
  rw [last_apply]
  unfold resultAt
  simp only [block_apply, iblk5_apply]

/-- What point `t` writes back is its block of the layer. -/
theorem flushed_eq (c : Dev nD) (t : Fin cfg0.N) :
    (dats m 0 c).flushed 6 t = ((cfg0.win 6).blk t).view.read (Elt Ideal) (layer m c) := by
  have hi := index6 t
  rw [Value.flushed6_A, out_A]
  funext j
  rw [View.read_apply]
  obtain ⟨r, d, rfl⟩ : ∃ (r d : Fin 1024), j = (ix2 r d : S1024x1024.Idx) := ⟨j 0, j 1, eq_ix2 (n0 := 1024) (n1 := 1024) j⟩
  refine (result_apply m c t r d).trans ?_
  have e : (((cfg0.win 6).blk t).view.emb (ix2 r d : S1024x1024.Idx)) = (ix2 (row t r) d : S16384x1024.Idx) := by
    funext a
    apply Fin.ext
    match a with
    | ⟨0, _⟩ => show win0_6.index t 0 * 1024 + 1 * r.val = 1024 * t.val + r.val; omega
    | ⟨1, _⟩ => show win0_6.index t 1 * 1024 + 1 * d.val = d.val; omega
  exact (congrArg (layer m c) e).symm

/-- The sixteen blocks cover the result. -/
theorem cover (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 16 := N_0
  have ht : (i 0 : Nat) / 1024 < cfg0.N := by omega
  refine ⟨⟨(i 0 : Nat) / 1024, ht⟩, flush0_6 _, ?_⟩
  have hi := index6 ⟨(i 0 : Nat) / 1024, ht⟩
  have hx : ∀ t : Fin grid0.N, win0_6.xsize (grid0.coords t) 0 = 1024 ∧ win0_6.xsize (grid0.coords t) 1 = 1024 := by decide +kernel
  have hx := hx ⟨(i 0 : Nat) / 1024, ht⟩
  show i ∈ ((View.whole main_v10).slice (win0_6.rect ⟨(i 0 : Nat) / 1024, ht⟩)).set
  rw [View.set_slice_whole, Rect.mem_set_unit]
  intro a
  match a with
  | ⟨0, _⟩ =>
    show win0_6.index ⟨(i 0 : Nat) / 1024, ht⟩ 0 * 1024 ≤ (i 0 : Nat) ∧ (i 0 : Nat) < win0_6.index ⟨(i 0 : Nat) / 1024, ht⟩ 0 * 1024 + win0_6.xsize (grid0.coords ⟨(i 0 : Nat) / 1024, ht⟩) 0
    rw [hi.1, hx.1]
    dsimp only
    omega
  | ⟨1, _⟩ =>
    show win0_6.index ⟨(i 0 : Nat) / 1024, ht⟩ 1 * 1024 ≤ (i 1 : Nat) ∧ (i 1 : Nat) < win0_6.index ⟨(i 0 : Nat) / 1024, ht⟩ 1 * 1024 + win0_6.xsize (grid0.coords ⟨(i 0 : Nat) / 1024, ht⟩) 1
    rw [hi.2, hx.2]
    omega

/-- After the run the result array holds the layer. -/
theorem final (c : Dev nD) : (dats m 0 c).arrAt 6 cfg0.N = layer m c :=
  (dats m 0 c).arrAt_eq_of_cover 6 (layer m c) (fun t _ => flushed_eq m c t) cover

/-! ## The reference -/

/-- The reference's rows before the final normalization, element by element: the same layer. -/
theorem ref_rows (x : Vec Ideal Cert.LastRefIdeal.S16384x1024 .f32) (g : Vec Ideal Cert.LastRefIdeal.S1024 .f32)
    (w1 w2 : Vec Ideal Cert.LastRefIdeal.S1024x2816 .f32) (w3 : Vec Ideal Cert.LastRefIdeal.S2816x1024 .f32) (r : Fin 16384) (d : Fin 1024) :
    Cert.LastRefIdeal.Read.val_main_v20 (F := Ideal) x g w1 w2 w3 (ix2 r d)
      = layerAt (fun k => x (ix2 r k)) (fun k => g (ix1 k)) (fun k f => w1 (ix2 k f)) (fun k f => w2 (ix2 k f)) (fun f k => w3 (ix2 f k)) d := by
  have hn : ∀ k : Fin 1024, Cert.LastRefIdeal.Read.val_main_v12 (F := Ideal) x g (ix2 r k) = normed (fun k => x (ix2 r k)) (fun k => g (ix1 k)) k := by
    intro k
    open Cert.LastRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  open Cert.LastRefIdeal.Read in
  pointwise [val_main_v20, val_main_v19, val_main_v18, val_main_v17, val_main_v16, val_main_v15, val_main_v14, val_main_v13, val_main_call0_v5, val_main_call0_v4, val_main_call0_v3, val_main_call0_v2, val_main_call0_v1, val_main_call0_v0, val_main_call0_cst, val_main_call0_cst_0, val_main_cst_2]
  simp only [hn]
  rfl

/-- The reference's result, element by element: the same normalized rows. -/
theorem ref_apply (x : Vec Ideal Cert.LastRefIdeal.S16384x1024 .f32) (g fg : Vec Ideal Cert.LastRefIdeal.S1024 .f32)
    (w1 w2 : Vec Ideal Cert.LastRefIdeal.S1024x2816 .f32) (w3 : Vec Ideal Cert.LastRefIdeal.S2816x1024 .f32) (r : Fin 16384) (d : Fin 1024) :
    Cert.LastRefIdeal.Read.val_main_v33 (F := Ideal) x g w1 w2 w3 fg (ix2 r d)
      = resultAt (fun k => x (ix2 r k)) (fun k => g (ix1 k)) (fun k => fg (ix1 k)) (fun k f => w1 (ix2 k f)) (fun k f => w2 (ix2 k f)) (fun f k => w3 (ix2 f k)) d := by
  open Cert.LastRefIdeal.Read in
  pointwise [val_main_v33, val_main_v32, val_main_v31, val_main_v30, val_main_v29, val_main_v28, val_main_v27, val_main_v26, val_main_v25, val_main_v24, val_main_v23, val_main_v22, val_main_v21, val_main_cst_3, val_main_cst_4, val_main_cst_5]
  simp only [ref_rows]
  rfl

end Cert.LastIdeal.Block

end
-- ==== Proof.LastClaims.lean ====
module

public import proofs.«01_k».proof.Defs
public import proofs.«01_k».proof.Proof.Gen.Last.Frame
public import proofs.«01_k».proof.Proof.LastValue
public import Idealize.ShloMosaic.Lib.Quiescent

@[expose] public section

set_option maxRecDepth 16384

noncomputable section

/-! # The claims about the last feed-forward layer -/

namespace Cert.Proof.LastClaims

open Idealize.ShloMosaic Idealize.ShloMosaic.TcCoe Idealize.SL.Sem

/-- The kernel, at words, leaves its arguments and its semaphores as it found them. -/
theorem frame_kernel : Cert.quiescent_Last := fun m ρ _ => Cert.Last.Gen.frame m ρ

/-- The kernel over the extended reals leaves its arguments and its semaphores as it found them. -/
theorem frame_ideal : Cert.quiescent_LastIdeal := fun m ρ _ => Cert.LastIdeal.Gen.frame m ρ

/-- The reference leaves its arguments as it found them; it has no semaphore. -/
theorem frame_ref : Cert.quiescent_LastRefIdeal := fun m ρ _ =>
  (θ_run Cert.LastRefIdeal.defs _ _).mono (fun r h => ⟨fun c => (h c).2, Idealize.ShloMosaic.sem_eq_zero_of_no_sems (by decide) r.2⟩)
    (Cert.LastRefIdeal.Value.run (F := Ideal) m ρ)

/-- The idealized kernel is the kernel's own text. -/
theorem preserves : Cert.preserves_Last_LastIdeal := trivial

/-- Over the extended reals the kernel's result array is the reference's. -/
theorem algebraic : Cert.algebraic_LastIdeal_LastRefIdeal := by
  intro m ρ m' ρ' _ hagree
  refine ⟨fun c => (Cert.LastIdeal.Gen.dats m 0 c).arrAt 6 Cert.LastIdeal.cfg0.N, Cert.LastIdeal.Value.run_blocks m ρ, ?_⟩
  refine (θ_run Cert.LastRefIdeal.defs _ _).mono (fun _ h c => ?_) (Cert.LastRefIdeal.Value.run (F := Ideal) m' ρ')
  refine ⟨(h c).1.trans ?_, (h c).2⟩
  obtain ⟨h0, h1, h2, h3, h4, h5⟩ := hagree c
  refine Eq.trans ?_ (Cert.LastIdeal.Block.final m c).symm
  refine (Cert.LastRefIdeal.Read.val_main_v33_eq (F := Ideal) m' c).trans ?_
  rw [h0, h1, h2, h3, h4, h5]
  funext i
  obtain ⟨r, d, rfl⟩ : ∃ (r : Fin 16384) (d : Fin 1024), i = (ix2 r d : Cert.LastIdeal.S16384x1024.Idx) := ⟨i 0, i 1, eq_ix2 (n0 := 16384) (n1 := 1024) i⟩
  exact Cert.LastIdeal.Block.ref_apply _ _ _ _ _ _ r d

end Cert.Proof.LastClaims

end
-- ==== Proof.InValue.lean ====
module

public import proofs.«01_k».proof.Proof.Gen.InIdeal.Value
public import proofs.«01_k».proof.Proof.Gen.InRefIdeal.Read
public import Idealize.ShloMosaic.Lib.Pipeline.Value
public import Idealize.ShloMosaic.Lib.Pointwise
public import Idealize.ShloMosaic.Lib.Pipeline.ValueKit.Tiles

@[expose] public section

set_option maxRecDepth 16384

noncomputable section

/-! # The input projection of the even layers: the kernel's result arrays and the reference's, element by element -/

namespace Cert.InIdeal.Block

open Cert.InIdeal Cert.InIdeal.Gen Idealize.ShloMosaic Idealize.ShloMosaic.TcCoe Idealize.SL.Sem
open Idealize.ShloMosaic.Pipeline (Dat)

/-- The offsets of a load or a store of a whole two-axis buffer are zero. -/
theorem hz2 : (![0, 0] : Fin 2 → Nat) = fun _ => 0 := funext fun a => by fin_cases a <;> rfl

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The normalized row's product with column `j` of the weights. -/
def productAt (x g : Fin 1024 → EReal) (w : Fin 1024 → Fin 2048 → EReal) (j : Fin 2048) : EReal :=
  ∑ k, normed x g k * w k j

/-- The constant the queries are scaled by. -/
abbrev eighth : EReal := Ideal.ofBits FTy.f32 0x3E000000#32

/-! ## The block -/

/-- The normalized rows, element by element. -/
theorem pay3_apply (x : Vec Ideal S512x1024 .f32) (g : Vec Ideal S1x1024 .f32) (r : Fin 512) (d : Fin 1024) :
    k0_pay3 (F := Ideal) x g (ix2 r d) = normed (fun k => x (ix2 r k)) (fun k => g (ix2 0 k)) d := by
  pointwise [k0_pay3]
  rfl

/-- The mixing inputs of a block, element by element, from the normalized rows. -/
theorem pay4_apply (x : Vec Ideal S512x1024 .f32) (g : Vec Ideal S1x1024 .f32) (w : Vec Ideal S1024x512 .bf16) (r d : Fin 512) :
    k0_pay4 (F := Ideal) x g w (ix2 r d) = (∑ k : Fin 1024, normed (fun k => x (ix2 r k)) (fun k => g (ix2 0 k)) k * w (ix2 k d)) := by
  pointwise [k0_pay4]
  simp only [pay3_apply]

/-- The scaled queries of a block, element by element, from the normalized rows. -/
theorem pay5_apply (x : Vec Ideal S512x1024 .f32) (g : Vec Ideal S1x1024 .f32) (w : Vec Ideal S1024x512 .bf16) (r d : Fin 512) :
    k0_pay5 (F := Ideal) x g w (ix2 r d) = (∑ k : Fin 1024, normed (fun k => x (ix2 r k)) (fun k => g (ix2 0 k)) k * w (ix2 k d)) * eighth := by
  pointwise [k0_pay5]
  simp only [pay3_apply]

/-- The keys of a block, element by element, from the normalized rows. -/
theorem pay6_apply (x : Vec Ideal S512x1024 .f32) (g : Vec Ideal S1x1024 .f32) (w : Vec Ideal S1024x512 .bf16) (r d : Fin 512) :
    k0_pay6 (F := Ideal) x g w (ix2 r d) = (∑ k : Fin 1024, normed (fun k => x (ix2 r k)) (fun k => g (ix2 0 k)) k * w (ix2 k d)) := by
  pointwise [k0_pay6]
  simp only [pay3_apply]

/-- The values of a block, element by element, from the normalized rows. -/
theorem pay7_apply (x : Vec Ideal S512x1024 .f32) (g : Vec Ideal S1x1024 .f32) (w : Vec Ideal S1024x512 .bf16) (r d : Fin 512) :
    k0_pay7 (F := Ideal) x g w (ix2 r d) = (∑ k : Fin 1024, normed (fun k => x (ix2 r k)) (fun k => g (ix2 0 k)) k * w (ix2 k d)) := by
  pointwise [k0_pay7]
  simp only [pay3_apply]

/-- The payload that narrows the keys keeps them. -/
theorem pay1_apply (v : FVec Ideal S512x512 .f32) (r d : Fin 512) : k0_pay1 (F := Ideal) v (ix2 r d) = v (ix2 r d) := by
  pointwise [k0_pay1]

/-- The payload that narrows the values keeps them. -/
theorem pay2_apply (v : FVec Ideal S512x512 .f32) (r d : Fin 512) : k0_pay2 (F := Ideal) v (ix2 r d) = v (ix2 r d) := by
  pointwise [k0_pay2]

/-- The columns from 0 on of the weights, element by element. -/
theorem cols0_apply (w : Vec Ideal S1024x2048 .bf16) (k : Fin 1024) (d : Fin 512) :
    View.ld w r0_2 (ix2 k d) = w (ix2 k ⟨0 + d.val, by omega⟩) := by
  refine View.ld_unit_apply_of _ _ _ _ _ _ fun b => ?_
  match b with
  | ⟨0, _⟩ => exact (Nat.zero_add _).symm
  | ⟨1, _⟩ => rfl

/-- The columns from 512 on of the weights, element by element. -/
theorem cols512_apply (w : Vec Ideal S1024x2048 .bf16) (k : Fin 1024) (d : Fin 512) :
    View.ld w r0_4 (ix2 k d) = w (ix2 k ⟨512 + d.val, by omega⟩) := by
  refine View.ld_unit_apply_of _ _ _ _ _ _ fun b => ?_
  match b with
  | ⟨0, _⟩ => exact (Nat.zero_add _).symm
  | ⟨1, _⟩ => rfl

/-- The columns from 1024 on of the weights, element by element. -/
theorem cols1024_apply (w : Vec Ideal S1024x2048 .bf16) (k : Fin 1024) (d : Fin 512) :
    View.ld w r0_5 (ix2 k d) = w (ix2 k ⟨1024 + d.val, by omega⟩) := by
  refine View.ld_unit_apply_of _ _ _ _ _ _ fun b => ?_
  match b with
  | ⟨0, _⟩ => exact (Nat.zero_add _).symm
  | ⟨1, _⟩ => rfl

/-- The columns from 1536 on of the weights, element by element. -/
theorem cols1536_apply (w : Vec Ideal S1024x2048 .bf16) (k : Fin 1024) (d : Fin 512) :
    View.ld w r0_6 (ix2 k d) = w (ix2 k ⟨1536 + d.val, by omega⟩) := by
  refine View.ld_unit_apply_of _ _ _ _ _ _ fun b => ?_
  match b with
  | ⟨0, _⟩ => exact (Nat.zero_add _).symm
  | ⟨1, _⟩ => rfl

/-! ## The arguments' blocks -/

variable (m : (ℓ : Loc nD τ sig) → Buf (Elt Ideal) ℓ)

/-- The layer's input, the gain and the weights, at an index. -/
abbrev argX (c : Dev nD) (r : Fin 16384) (d : Fin 1024) : EReal := m ((c : Thread nD τ).loc main_arg0) (ix2 r d : S16384x1024.Idx)
/-- The argument with the norm's scales, element by element. -/
abbrev argG (c : Dev nD) (d : Fin 1024) : EReal := m ((c : Thread nD τ).loc main_arg1) (ix1 d : S1024.Idx)
/-- The argument with the weights, element by element. -/
abbrev argW (c : Dev nD) (k : Fin 1024) (j : Fin 2048) : EReal := m ((c : Thread nD τ).loc main_arg2) (ix2 k j : S1024x2048.Idx)

/-- What the host hands the kernel: the weights, cast. -/
theorem V_v0 (c : Dev nD) : V m c main_v0 =
    truncf (F := Ideal) (s := S1024x2048) (φ := .f32) .bf16 (m ((c : Thread nD τ).loc main_arg2)) bitsLt_bf16_f32 := by
  unfold V hostOps0
  after_results

/-- What the host hands the kernel: the norm's scales as one row. -/
theorem V_v1 (c : Dev nD) : V m c main_v1 =
    shapeCast S1x1024 (m ((c : Thread nD τ).loc main_arg1) : Vec Ideal S1024 .f32) shapeCasts_S1024_S1x1024 := by
  unfold V hostOps0
  after_results
  rfl

/-- The windows' block indices at each of the 32 points. -/
theorem index0 : ∀ t : Fin grid0.N, win0_0.index t 0 = t.val ∧ win0_0.index t 1 = 0 := by decide +kernel
/-- Window 1 takes the whole array at each grid point. -/
theorem index1 : ∀ t : Fin grid0.N, win0_1.index t 0 = 0 ∧ win0_1.index t 1 = 0 := by decide +kernel
/-- Window 2 takes the whole array at each grid point. -/
theorem index2 : ∀ t : Fin grid0.N, win0_2.index t 0 = 0 ∧ win0_2.index t 1 = 0 := by decide +kernel
/-- Window 3 takes, at each grid point, the point's own block of rows. -/
theorem index3 : ∀ t : Fin grid0.N, win0_3.index t 0 = t.val ∧ win0_3.index t 1 = 0 := by decide +kernel
/-- Window 4 takes, at each grid point, the point's own block of rows. -/
theorem index4 : ∀ t : Fin grid0.N, win0_4.index t 0 = t.val ∧ win0_4.index t 1 = 0 := by decide +kernel
/-- Window 5 takes, at each grid point, the point's own block of rows. -/
theorem index5 : ∀ t : Fin grid0.N, win0_5.index t 0 = t.val ∧ win0_5.index t 1 = 0 := by decide +kernel
/-- Window 6 takes, at each grid point, the point's own block of rows. -/
theorem index6 : ∀ t : Fin grid0.N, win0_6.index t 0 = t.val ∧ win0_6.index t 1 = 0 := by decide +kernel
/-- Window 7 takes, at each grid point, the point's own block of rows. -/
theorem index7 : ∀ t : Fin grid0.N, win0_7.index t 0 = t.val ∧ win0_7.index t 1 = 0 := by decide +kernel
/-- Window 8 takes, at each grid point, the point's own block of rows. -/
theorem index8 : ∀ t : Fin grid0.N, win0_8.index t 0 = t.val ∧ win0_8.index t 1 = 0 := by decide +kernel

/-- The array row that row `r` of point `t`'s block is. -/
def row (t : Fin cfg0.N) (r : Fin 512) : Fin 16384 := ⟨512 * t.val + r.val, by have := t.isLt; have h : cfg0.N = 32 := N_0; omega⟩

/-- The block of the rows, element by element, as the argument's. -/
theorem iblk0_apply (c : Dev nD) (t : Fin cfg0.N) (r : Fin 512) (d : Fin 1024) :
    (iblk m c 0 t : Vec Ideal S512x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 512 + 1 * r.val = 512 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v1 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v1) e).trans ?_
  rw [V_v1]
  pointwise

/-- The block of the weights, element by element, as the argument's. -/
theorem iblk2_apply (c : Dev nD) (t : Fin cfg0.N) (k : Fin 1024) (j : Fin 2048) :
    (iblk m c 2 t : Vec Ideal S1024x2048 .bf16) (ix2 k j) = argW m c k j := by
  have hi := index2 t
  unfold iblk
  rw [View.read_apply]
  show V m c main_v0 _ = _
  have e : (((cfg0.win 2).blk t).view.emb (ix2 k j : S1024x2048.Idx)) = (ix2 k j : S1024x2048.Idx) := by
    funext a
    apply Fin.ext
    match a with
    | ⟨0, _⟩ => show win0_2.index t 0 * 1024 + 1 * k.val = k.val; omega
    | ⟨1, _⟩ => show win0_2.index t 1 * 2048 + 1 * j.val = j.val; omega
  refine (congrArg (V m c main_v0) e).trans ?_
  rw [V_v0]
  pointwise

/-- The product of the normalized row `r` of device `c`'s input with column `j` of its weights. -/
def product (c : Dev nD) (r : Fin 16384) (j : Fin 2048) : EReal := productAt (argX m c r) (argG m c) (argW m c) j

/-! ## The mixing inputs (window 3) -/

/-- What a point's stores leave in window 3's block. -/
theorem out3_eq (x : Vec Ideal S512x1024 .f32) (g : Vec Ideal S1x1024 .f32) (w : Vec Ideal S1024x2048 .bf16) :
    out0_3 x g w = k0_pay4 x g (View.ld w r0_2) := by
  unfold out0_3
  rw [View.canon_unit_zero (S := S512x512) hz2]
  simp only [View.ld_unit_zero (S := S512x1024) hz2, View.ld_unit_zero (S := S1x1024) hz2]

/-- The mixing inputs as an array of device `c`'s arguments. -/
def result3 (c : Dev nD) : Vec Ideal S16384x512 .f32 :=
  fun i => product m c (i 0) ⟨0 + (i 1 : Fin 512).val, by have h : (i 1 : Fin 512).val < 512 := (i 1 : Fin 512).isLt; omega⟩

/-- A point's block of window 3, element by element. -/
theorem block3_apply (c : Dev nD) (t : Fin cfg0.N) (r d : Fin 512) :
    out0_3 (iblk m c 0 t : Vec Ideal S512x1024 .f32) (iblk m c 1 t : Vec Ideal S1x1024 .f32) (iblk m c 2 t : Vec Ideal S1024x2048 .bf16) (ix2 r d)
      = product m c (row t r) ⟨0 + d.val, by omega⟩ := by
  rw [out3_eq, pay4_apply]
  unfold product productAt
  simp only [iblk0_apply, iblk1_apply]
  exact Finset.sum_congr rfl fun k _ => congrArg (normed (argX m c (row t r)) (argG m c) k * ·) ((cols0_apply _ k d).trans (iblk2_apply m c t k _))

/-- What point `t` writes back to window 3's array is its block of the mixing inputs. -/
theorem flushed3_eq (c : Dev nD) (t : Fin cfg0.N) :
    (dats m 0 c).flushed 3 t = ((cfg0.win 3).blk t).view.read (Elt Ideal) (result3 m c) := by
  have hi := index3 t
  rw [Value.flushed3]
  funext j
  rw [View.read_apply]
  obtain ⟨r, d, rfl⟩ : ∃ (r d : Fin 512), j = (ix2 r d : S512x512.Idx) := ⟨j 0, j 1, eq_ix2 (n0 := 512) (n1 := 512) j⟩
  refine (block3_apply m c t r d).trans ?_
  have e : (((cfg0.win 3).blk t).view.emb (ix2 r d : S512x512.Idx)) = (ix2 (row t r) d : S16384x512.Idx) := by
    funext a
    apply Fin.ext
    match a with
    | ⟨0, _⟩ => show win0_3.index t 0 * 512 + 1 * r.val = 512 * t.val + r.val; omega
    | ⟨1, _⟩ => show win0_3.index t 1 * 512 + 1 * d.val = d.val; omega
  exact (congrArg (result3 m c) e).symm

/-- The thirty-two blocks cover the array of the mixing inputs. -/
theorem cover3 (i : S16384x512.Idx) : ∃ t : Fin cfg0.N, (cfg0.win 3).flush t = true ∧ i ∈ ((cfg0.win 3).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_3 _, ?_⟩
  have hi := index3 ⟨(i 0 : Nat) / 512, ht⟩
  have hx : ∀ t : Fin grid0.N, win0_3.xsize (grid0.coords t) 0 = 512 ∧ win0_3.xsize (grid0.coords t) 1 = 512 := by decide +kernel
  have hx := hx ⟨(i 0 : Nat) / 512, ht⟩
  show i ∈ ((View.whole main_v2_0).slice (win0_3.rect ⟨(i 0 : Nat) / 512, ht⟩)).set
  rw [View.set_slice_whole, Rect.mem_set_unit]
  intro a
  match a with
  | ⟨0, _⟩ =>
    show win0_3.index ⟨(i 0 : Nat) / 512, ht⟩ 0 * 512 ≤ (i 0 : Nat) ∧ (i 0 : Nat) < win0_3.index ⟨(i 0 : Nat) / 512, ht⟩ 0 * 512 + win0_3.xsize (grid0.coords ⟨(i 0 : Nat) / 512, ht⟩) 0
    rw [hi.1, hx.1]
    dsimp only
    omega
  | ⟨1, _⟩ =>
    show win0_3.index ⟨(i 0 : Nat) / 512, ht⟩ 1 * 512 ≤ (i 1 : Nat) ∧ (i 1 : Nat) < win0_3.index ⟨(i 0 : Nat) / 512, ht⟩ 1 * 512 + win0_3.xsize (grid0.coords ⟨(i 0 : Nat) / 512, ht⟩) 1
    rw [hi.2, hx.2]
    omega

/-- After the run window 3's array holds the mixing inputs. -/
theorem final3 (c : Dev nD) : (dats m 0 c).arrAt 3 cfg0.N = result3 m c :=
  (dats m 0 c).arrAt_eq_of_cover 3 (result3 m c) (fun t _ => flushed3_eq m c t) cover3

/-! ## The scaled queries (window 4) -/

/-- What a point's stores leave in window 4's block. -/
theorem out4_eq (x : Vec Ideal S512x1024 .f32) (g : Vec Ideal S1x1024 .f32) (w : Vec Ideal S1024x2048 .bf16) :
    out0_4 x g w = k0_pay5 x g (View.ld w r0_4) := by
  unfold out0_4
  rw [View.canon_unit_zero (S := S512x512) hz2]
  simp only [View.ld_unit_zero (S := S512x1024) hz2, View.ld_unit_zero (S := S1x1024) hz2]

/-- The scaled queries as an array of device `c`'s arguments. -/
def result4 (c : Dev nD) : Vec Ideal S16384x512 .bf16 :=
  fun i => product m c (i 0) ⟨512 + (i 1 : Fin 512).val, by have h : (i 1 : Fin 512).val < 512 := (i 1 : Fin 512).isLt; omega⟩ * eighth

/-- A point's block of window 4, element by element. -/
theorem block4_apply (c : Dev nD) (t : Fin cfg0.N) (r d : Fin 512) :
    out0_4 (iblk m c 0 t : Vec Ideal S512x1024 .f32) (iblk m c 1 t : Vec Ideal S1x1024 .f32) (iblk m c 2 t : Vec Ideal S1024x2048 .bf16) (ix2 r d)
      = product m c (row t r) ⟨512 + d.val, by omega⟩ * eighth := by
  rw [out4_eq, pay5_apply]
  unfold product productAt
  simp only [iblk0_apply, iblk1_apply]
  exact congrArg (· * eighth) (Finset.sum_congr rfl fun k _ => congrArg (normed (argX m c (row t r)) (argG m c) k * ·) ((cols512_apply _ k d).trans (iblk2_apply m c t k _)))

/-- What point `t` writes back to window 4's array is its block of the scaled queries. -/
theorem flushed4_eq (c : Dev nD) (t : Fin cfg0.N) :
    (dats m 0 c).flushed 4 t = ((cfg0.win 4).blk t).view.read (Elt Ideal) (result4 m c) := by
  have hi := index4 t
  rw [Value.flushed4]
  funext j
  rw [View.read_apply]
  obtain ⟨r, d, rfl⟩ : ∃ (r d : Fin 512), j = (ix2 r d : S512x512.Idx) := ⟨j 0, j 1, eq_ix2 (n0 := 512) (n1 := 512) j⟩
  refine (block4_apply m c t r d).trans ?_
  have e : (((cfg0.win 4).blk t).view.emb (ix2 r d : S512x512.Idx)) = (ix2 (row t r) d : S16384x512.Idx) := by
    funext a
    apply Fin.ext
    match a with
    | ⟨0, _⟩ => show win0_4.index t 0 * 512 + 1 * r.val = 512 * t.val + r.val; omega
    | ⟨1, _⟩ => show win0_4.index t 1 * 512 + 1 * d.val = d.val; omega
  exact (congrArg (result4 m c) e).symm

/-- The thirty-two blocks cover the array of the scaled queries. -/
theorem cover4 (i : S16384x512.Idx) : ∃ t : Fin cfg0.N, (cfg0.win 4).flush t = true ∧ i ∈ ((cfg0.win 4).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_4 _, ?_⟩
  have hi := index4 ⟨(i 0 : Nat) / 512, ht⟩
  have hx : ∀ t : Fin grid0.N, win0_4.xsize (grid0.coords t) 0 = 512 ∧ win0_4.xsize (grid0.coords t) 1 = 512 := by decide +kernel
  have hx := hx ⟨(i 0 : Nat) / 512, ht⟩
  show i ∈ ((View.whole main_v2_1).slice (win0_4.rect ⟨(i 0 : Nat) / 512, ht⟩)).set
  rw [View.set_slice_whole, Rect.mem_set_unit]
  intro a
  match a with
  | ⟨0, _⟩ =>
    show win0_4.index ⟨(i 0 : Nat) / 512, ht⟩ 0 * 512 ≤ (i 0 : Nat) ∧ (i 0 : Nat) < win0_4.index ⟨(i 0 : Nat) / 512, ht⟩ 0 * 512 + win0_4.xsize (grid0.coords ⟨(i 0 : Nat) / 512, ht⟩) 0
    rw [hi.1, hx.1]
    dsimp only
    omega
  | ⟨1, _⟩ =>
    show win0_4.index ⟨(i 0 : Nat) / 512, ht⟩ 1 * 512 ≤ (i 1 : Nat) ∧ (i 1 : Nat) < win0_4.index ⟨(i 0 : Nat) / 512, ht⟩ 1 * 512 + win0_4.xsize (grid0.coords ⟨(i 0 : Nat) / 512, ht⟩) 1
    rw [hi.2, hx.2]
    omega

/-- After the run window 4's array holds the scaled queries. -/
theorem final4 (c : Dev nD) : (dats m 0 c).arrAt 4 cfg0.N = result4 m c :=
  (dats m 0 c).arrAt_eq_of_cover 4 (result4 m c) (fun t _ => flushed4_eq m c t) cover4

/-! ## The keys (window 5) -/

/-- What a point's stores leave in window 5's block. -/
theorem out5_eq (x : Vec Ideal S512x1024 .f32) (g : Vec Ideal S1x1024 .f32) (w : Vec Ideal S1024x2048 .bf16) :
    out0_5 x g w = k0_pay6 x g (View.ld w r0_5) := by
  unfold out0_5 k0_pay8
  rw [View.canon_unit_zero (S := S512x512) hz2]
  simp only [View.ld_unit_zero (S := S512x1024) hz2, View.ld_unit_zero (S := S1x1024) hz2]

/-- The keys as an array of device `c`'s arguments. -/
def result5 (c : Dev nD) : Vec Ideal S16384x512 .f32 :=
  fun i => product m c (i 0) ⟨1024 + (i 1 : Fin 512).val, by have h : (i 1 : Fin 512).val < 512 := (i 1 : Fin 512).isLt; omega⟩

/-- A point's block of window 5, element by element. -/
theorem block5_apply (c : Dev nD) (t : Fin cfg0.N) (r d : Fin 512) :
    out0_5 (iblk m c 0 t : Vec Ideal S512x1024 .f32) (iblk m c 1 t : Vec Ideal S1x1024 .f32) (iblk m c 2 t : Vec Ideal S1024x2048 .bf16) (ix2 r d)
      = product m c (row t r) ⟨1024 + d.val, by omega⟩ := by
  rw [out5_eq, pay6_apply]
  unfold product productAt
  simp only [iblk0_apply, iblk1_apply]
  exact Finset.sum_congr rfl fun k _ => congrArg (normed (argX m c (row t r)) (argG m c) k * ·) ((cols1024_apply _ k d).trans (iblk2_apply m c t k _))

/-- What point `t` writes back to window 5's array is its block of the keys. -/
theorem flushed5_eq (c : Dev nD) (t : Fin cfg0.N) :
    (dats m 0 c).flushed 5 t = ((cfg0.win 5).blk t).view.read (Elt Ideal) (result5 m c) := by
  have hi := index5 t
  rw [Value.flushed5]
  funext j
  rw [View.read_apply]
  obtain ⟨r, d, rfl⟩ : ∃ (r d : Fin 512), j = (ix2 r d : S512x512.Idx) := ⟨j 0, j 1, eq_ix2 (n0 := 512) (n1 := 512) j⟩
  refine (block5_apply m c t r d).trans ?_
  have e : (((cfg0.win 5).blk t).view.emb (ix2 r d : S512x512.Idx)) = (ix2 (row t r) d : S16384x512.Idx) := by
    funext a
    apply Fin.ext
    match a with
    | ⟨0, _⟩ => show win0_5.index t 0 * 512 + 1 * r.val = 512 * t.val + r.val; omega
    | ⟨1, _⟩ => show win0_5.index t 1 * 512 + 1 * d.val = d.val; omega
  exact (congrArg (result5 m c) e).symm

/-- The thirty-two blocks cover the array of the keys. -/
theorem cover5 (i : S16384x512.Idx) : ∃ t : Fin cfg0.N, (cfg0.win 5).flush t = true ∧ i ∈ ((cfg0.win 5).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_5 _, ?_⟩
  have hi := index5 ⟨(i 0 : Nat) / 512, ht⟩
  have hx : ∀ t : Fin grid0.N, win0_5.xsize (grid0.coords t) 0 = 512 ∧ win0_5.xsize (grid0.coords t) 1 = 512 := by decide +kernel
  have hx := hx ⟨(i 0 : Nat) / 512, ht⟩
  show i ∈ ((View.whole main_v2_2).slice (win0_5.rect ⟨(i 0 : Nat) / 512, ht⟩)).set
  rw [View.set_slice_whole, Rect.mem_set_unit]
  intro a
  match a with
  | ⟨0, _⟩ =>
    show win0_5.index ⟨(i 0 : Nat) / 512, ht⟩ 0 * 512 ≤ (i 0 : Nat) ∧ (i 0 : Nat) < win0_5.index ⟨(i 0 : Nat) / 512, ht⟩ 0 * 512 + win0_5.xsize (grid0.coords ⟨(i 0 : Nat) / 512, ht⟩) 0
    rw [hi.1, hx.1]
    dsimp only
    omega
  | ⟨1, _⟩ =>
    show win0_5.index ⟨(i 0 : Nat) / 512, ht⟩ 1 * 512 ≤ (i 1 : Nat) ∧ (i 1 : Nat) < win0_5.index ⟨(i 0 : Nat) / 512, ht⟩ 1 * 512 + win0_5.xsize (grid0.coords ⟨(i 0 : Nat) / 512, ht⟩) 1
    rw [hi.2, hx.2]
    omega

/-- After the run window 5's array holds the keys. -/
theorem final5 (c : Dev nD) : (dats m 0 c).arrAt 5 cfg0.N = result5 m c :=
  (dats m 0 c).arrAt_eq_of_cover 5 (result5 m c) (fun t _ => flushed5_eq m c t) cover5

/-! ## The values (window 6) -/

/-- What a point's stores leave in window 6's block. -/
theorem out6_eq (x : Vec Ideal S512x1024 .f32) (g : Vec Ideal S1x1024 .f32) (w : Vec Ideal S1024x2048 .bf16) :
    out0_6 x g w = k0_pay7 x g (View.ld w r0_6) := by
  unfold out0_6 k0_pay9
  rw [View.canon_unit_zero (S := S512x512) hz2]
  simp only [View.ld_unit_zero (S := S512x1024) hz2, View.ld_unit_zero (S := S1x1024) hz2]

/-- The values as an array of device `c`'s arguments. -/
def result6 (c : Dev nD) : Vec Ideal S16384x512 .f32 :=
  fun i => product m c (i 0) ⟨1536 + (i 1 : Fin 512).val, by have h : (i 1 : Fin 512).val < 512 := (i 1 : Fin 512).isLt; omega⟩

/-- A point's block of window 6, element by element. -/
theorem block6_apply (c : Dev nD) (t : Fin cfg0.N) (r d : Fin 512) :
    out0_6 (iblk m c 0 t : Vec Ideal S512x1024 .f32) (iblk m c 1 t : Vec Ideal S1x1024 .f32) (iblk m c 2 t : Vec Ideal S1024x2048 .bf16) (ix2 r d)
      = product m c (row t r) ⟨1536 + d.val, by omega⟩ := by
  rw [out6_eq, pay7_apply]
  unfold product productAt
  simp only [iblk0_apply, iblk1_apply]
  exact Finset.sum_congr rfl fun k _ => congrArg (normed (argX m c (row t r)) (argG m c) k * ·) ((cols1536_apply _ k d).trans (iblk2_apply m c t k _))

/-- What point `t` writes back to window 6's array is its block of the values. -/
theorem flushed6_eq (c : Dev nD) (t : Fin cfg0.N) :
    (dats m 0 c).flushed 6 t = ((cfg0.win 6).blk t).view.read (Elt Ideal) (result6 m c) := by
  have hi := index6 t
  rw [Value.flushed6]
  funext j
  rw [View.read_apply]
  obtain ⟨r, d, rfl⟩ : ∃ (r d : Fin 512), j = (ix2 r d : S512x512.Idx) := ⟨j 0, j 1, eq_ix2 (n0 := 512) (n1 := 512) j⟩
  refine (block6_apply m c t r d).trans ?_
  have e : (((cfg0.win 6).blk t).view.emb (ix2 r d : S512x512.Idx)) = (ix2 (row t r) d : S16384x512.Idx) := by
    funext a
    apply Fin.ext
    match a with
    | ⟨0, _⟩ => show win0_6.index t 0 * 512 + 1 * r.val = 512 * t.val + r.val; omega
    | ⟨1, _⟩ => show win0_6.index t 1 * 512 + 1 * d.val = d.val; omega
  exact (congrArg (result6 m c) e).symm

/-- The thirty-two blocks cover the array of the values. -/
theorem cover6 (i : S16384x512.Idx) : ∃ t : Fin cfg0.N, (cfg0.win 6).flush t = true ∧ i ∈ ((cfg0.win 6).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_6 _, ?_⟩
  have hi := index6 ⟨(i 0 : Nat) / 512, ht⟩
  have hx : ∀ t : Fin grid0.N, win0_6.xsize (grid0.coords t) 0 = 512 ∧ win0_6.xsize (grid0.coords t) 1 = 512 := by decide +kernel
  have hx := hx ⟨(i 0 : Nat) / 512, ht⟩
  show i ∈ ((View.whole main_v2_3).slice (win0_6.rect ⟨(i 0 : Nat) / 512, ht⟩)).set
  rw [View.set_slice_whole, Rect.mem_set_unit]
  intro a
  match a with
  | ⟨0, _⟩ =>
    show win0_6.index ⟨(i 0 : Nat) / 512, ht⟩ 0 * 512 ≤ (i 0 : Nat) ∧ (i 0 : Nat) < win0_6.index ⟨(i 0 : Nat) / 512, ht⟩ 0 * 512 + win0_6.xsize (grid0.coords ⟨(i 0 : Nat) / 512, ht⟩) 0
    rw [hi.1, hx.1]
    dsimp only
    omega
  | ⟨1, _⟩ =>
    show win0_6.index ⟨(i 0 : Nat) / 512, ht⟩ 1 * 512 ≤ (i 1 : Nat) ∧ (i 1 : Nat) < win0_6.index ⟨(i 0 : Nat) / 512, ht⟩ 1 * 512 + win0_6.xsize (grid0.coords ⟨(i 0 : Nat) / 512, ht⟩) 1
    rw [hi.2, hx.2]
    omega

/-- After the run window 6's array holds the values. -/
theorem final6 (c : Dev nD) : (dats m 0 c).arrAt 6 cfg0.N = result6 m c :=
  (dats m 0 c).arrAt_eq_of_cover 6 (result6 m c) (fun t _ => flushed6_eq m c t) cover6

/-! ## The narrowed keys (window 7) -/

/-- What a point's stores leave in window 7's block. -/
theorem out7_eq (x : Vec Ideal S512x1024 .f32) (g : Vec Ideal S1x1024 .f32) (w : Vec Ideal S1024x2048 .bf16) :
    out0_7 x g w = k0_pay1 (k0_pay6 x g (View.ld w r0_5)) := by
  unfold out0_7 k0_pay8
  rw [View.canon_unit_zero (S := S512x512) hz2]
  simp only [View.ld_unit_zero (S := S512x1024) hz2, View.ld_unit_zero (S := S1x1024) hz2]

/-- The narrowed keys as an array of device `c`'s arguments. -/
def result7 (c : Dev nD) : Vec Ideal S16384x512 .bf16 :=
  fun i => product m c (i 0) ⟨1024 + (i 1 : Fin 512).val, by have h : (i 1 : Fin 512).val < 512 := (i 1 : Fin 512).isLt; omega⟩

/-- A point's block of window 7, element by element. -/
theorem block7_apply (c : Dev nD) (t : Fin cfg0.N) (r d : Fin 512) :
    out0_7 (iblk m c 0 t : Vec Ideal S512x1024 .f32) (iblk m c 1 t : Vec Ideal S1x1024 .f32) (iblk m c 2 t : Vec Ideal S1024x2048 .bf16) (ix2 r d)
      = product m c (row t r) ⟨1024 + d.val, by omega⟩ := by
  rw [out7_eq, pay1_apply, pay6_apply]
  unfold product productAt
  simp only [iblk0_apply, iblk1_apply]
  exact Finset.sum_congr rfl fun k _ => congrArg (normed (argX m c (row t r)) (argG m c) k * ·) ((cols1024_apply _ k d).trans (iblk2_apply m c t k _))

/-- What point `t` writes back to window 7's array is its block of the narrowed keys. -/
theorem flushed7_eq (c : Dev nD) (t : Fin cfg0.N) :
    (dats m 0 c).flushed 7 t = ((cfg0.win 7).blk t).view.read (Elt Ideal) (result7 m c) := by
  have hi := index7 t
  rw [Value.flushed7]
  funext j
  rw [View.read_apply]
  obtain ⟨r, d, rfl⟩ : ∃ (r d : Fin 512), j = (ix2 r d : S512x512.Idx) := ⟨j 0, j 1, eq_ix2 (n0 := 512) (n1 := 512) j⟩
  refine (block7_apply m c t r d).trans ?_
  have e : (((cfg0.win 7).blk t).view.emb (ix2 r d : S512x512.Idx)) = (ix2 (row t r) d : S16384x512.Idx) := by
    funext a
    apply Fin.ext
    match a with
    | ⟨0, _⟩ => show win0_7.index t 0 * 512 + 1 * r.val = 512 * t.val + r.val; omega
    | ⟨1, _⟩ => show win0_7.index t 1 * 512 + 1 * d.val = d.val; omega
  exact (congrArg (result7 m c) e).symm

/-- The thirty-two blocks cover the array of the narrowed keys. -/
theorem cover7 (i : S16384x512.Idx) : ∃ t : Fin cfg0.N, (cfg0.win 7).flush t = true ∧ i ∈ ((cfg0.win 7).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_7 _, ?_⟩
  have hi := index7 ⟨(i 0 : Nat) / 512, ht⟩
  have hx : ∀ t : Fin grid0.N, win0_7.xsize (grid0.coords t) 0 = 512 ∧ win0_7.xsize (grid0.coords t) 1 = 512 := by decide +kernel
  have hx := hx ⟨(i 0 : Nat) / 512, ht⟩
  show i ∈ ((View.whole main_v2_4).slice (win0_7.rect ⟨(i 0 : Nat) / 512, ht⟩)).set
  rw [View.set_slice_whole, Rect.mem_set_unit]
  intro a
  match a with
  | ⟨0, _⟩ =>
    show win0_7.index ⟨(i 0 : Nat) / 512, ht⟩ 0 * 512 ≤ (i 0 : Nat) ∧ (i 0 : Nat) < win0_7.index ⟨(i 0 : Nat) / 512, ht⟩ 0 * 512 + win0_7.xsize (grid0.coords ⟨(i 0 : Nat) / 512, ht⟩) 0
    rw [hi.1, hx.1]
    dsimp only
    omega
  | ⟨1, _⟩ =>
    show win0_7.index ⟨(i 0 : Nat) / 512, ht⟩ 1 * 512 ≤ (i 1 : Nat) ∧ (i 1 : Nat) < win0_7.index ⟨(i 0 : Nat) / 512, ht⟩ 1 * 512 + win0_7.xsize (grid0.coords ⟨(i 0 : Nat) / 512, ht⟩) 1
    rw [hi.2, hx.2]
    omega

/-- After the run window 7's array holds the narrowed keys. -/
theorem final7 (c : Dev nD) : (dats m 0 c).arrAt 7 cfg0.N = result7 m c :=
  (dats m 0 c).arrAt_eq_of_cover 7 (result7 m c) (fun t _ => flushed7_eq m c t) cover7

/-! ## The narrowed values (window 8) -/

/-- What a point's stores leave in window 8's block. -/
theorem out8_eq (x : Vec Ideal S512x1024 .f32) (g : Vec Ideal S1x1024 .f32) (w : Vec Ideal S1024x2048 .bf16) :
    out0_8 x g w = k0_pay2 (k0_pay7 x g (View.ld w r0_6)) := by
  unfold out0_8 k0_pay9
  rw [View.canon_unit_zero (S := S512x512) hz2]
  simp only [View.ld_unit_zero (S := S512x1024) hz2, View.ld_unit_zero (S := S1x1024) hz2]

/-- The narrowed values as an array of device `c`'s arguments. -/
def result8 (c : Dev nD) : Vec Ideal S16384x512 .bf16 :=
  fun i => product m c (i 0) ⟨1536 + (i 1 : Fin 512).val, by have h : (i 1 : Fin 512).val < 512 := (i 1 : Fin 512).isLt; omega⟩

/-- A point's block of window 8, element by element. -/
theorem block8_apply (c : Dev nD) (t : Fin cfg0.N) (r d : Fin 512) :
    out0_8 (iblk m c 0 t : Vec Ideal S512x1024 .f32) (iblk m c 1 t : Vec Ideal S1x1024 .f32) (iblk m c 2 t : Vec Ideal S1024x2048 .bf16) (ix2 r d)
      = product m c (row t r) ⟨1536 + d.val, by omega⟩ := by
  rw [out8_eq, pay2_apply, pay7_apply]
  unfold product productAt
  simp only [iblk0_apply, iblk1_apply]
  exact Finset.sum_congr rfl fun k _ => congrArg (normed (argX m c (row t r)) (argG m c) k * ·) ((cols1536_apply _ k d).trans (iblk2_apply m c t k _))

/-- What point `t` writes back to window 8's array is its block of the narrowed values. -/
theorem flushed8_eq (c : Dev nD) (t : Fin cfg0.N) :
    (dats m 0 c).flushed 8 t = ((cfg0.win 8).blk t).view.read (Elt Ideal) (result8 m c) := by
  have hi := index8 t
  rw [Value.flushed8]
  funext j
  rw [View.read_apply]
  obtain ⟨r, d, rfl⟩ : ∃ (r d : Fin 512), j = (ix2 r d : S512x512.Idx) := ⟨j 0, j 1, eq_ix2 (n0 := 512) (n1 := 512) j⟩
  refine (block8_apply m c t r d).trans ?_
  have e : (((cfg0.win 8).blk t).view.emb (ix2 r d : S512x512.Idx)) = (ix2 (row t r) d : S16384x512.Idx) := by
    funext a
    apply Fin.ext
    match a with
    | ⟨0, _⟩ => show win0_8.index t 0 * 512 + 1 * r.val = 512 * t.val + r.val; omega
    | ⟨1, _⟩ => show win0_8.index t 1 * 512 + 1 * d.val = d.val; omega
  exact (congrArg (result8 m c) e).symm

/-- The thirty-two blocks cover the array of the narrowed values. -/
theorem cover8 (i : S16384x512.Idx) : ∃ t : Fin cfg0.N, (cfg0.win 8).flush t = true ∧ i ∈ ((cfg0.win 8).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_8 _, ?_⟩
  have hi := index8 ⟨(i 0 : Nat) / 512, ht⟩
  have hx : ∀ t : Fin grid0.N, win0_8.xsize (grid0.coords t) 0 = 512 ∧ win0_8.xsize (grid0.coords t) 1 = 512 := by decide +kernel
  have hx := hx ⟨(i 0 : Nat) / 512, ht⟩
  show i ∈ ((View.whole main_v2_5).slice (win0_8.rect ⟨(i 0 : Nat) / 512, ht⟩)).set
  rw [View.set_slice_whole, Rect.mem_set_unit]
  intro a
  match a with
  | ⟨0, _⟩ =>
    show win0_8.index ⟨(i 0 : Nat) / 512, ht⟩ 0 * 512 ≤ (i 0 : Nat) ∧ (i 0 : Nat) < win0_8.index ⟨(i 0 : Nat) / 512, ht⟩ 0 * 512 + win0_8.xsize (grid0.coords ⟨(i 0 : Nat) / 512, ht⟩) 0
    rw [hi.1, hx.1]
    dsimp only
    omega
  | ⟨1, _⟩ =>
    show win0_8.index ⟨(i 0 : Nat) / 512, ht⟩ 1 * 512 ≤ (i 1 : Nat) ∧ (i 1 : Nat) < win0_8.index ⟨(i 0 : Nat) / 512, ht⟩ 1 * 512 + win0_8.xsize (grid0.coords ⟨(i 0 : Nat) / 512, ht⟩) 1
    rw [hi.2, hx.2]
    omega

/-- After the run window 8's array holds the narrowed values. -/
theorem final8 (c : Dev nD) : (dats m 0 c).arrAt 8 cfg0.N = result8 m c :=
  (dats m 0 c).arrAt_eq_of_cover 8 (result8 m c) (fun t _ => flushed8_eq m c t) cover8

/-! ## The reference -/

/-- The reference's product, element by element. -/
theorem ref_product (x : Vec Ideal Cert.InRefIdeal.S16384x1024 .f32) (g : Vec Ideal Cert.InRefIdeal.S1024 .f32) (w : Vec Ideal Cert.InRefIdeal.S1024x2048 .f32) (r : Fin 16384) (j : Fin 2048) :
    Cert.InRefIdeal.Read.val_main_v13 (F := Ideal) x g w (ix2 r j)
      = productAt (fun k => x (ix2 r k)) (fun k => g (ix1 k)) (fun k e => w (ix2 k e)) j := by
  have hn : ∀ k : Fin 1024, Cert.InRefIdeal.Read.val_main_v12 (F := Ideal) x g (ix2 r k) = normed (fun k => x (ix2 r k)) (fun k => g (ix1 k)) k := by
    intro k
    open Cert.InRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  pointwise [Cert.InRefIdeal.Read.val_main_v13]
  simp only [hn]
  rfl

/-- The reference's mixing inputs, element by element. -/
theorem ref3_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v14 (F := Ideal) x g w (ix2 r d)
      = productAt (fun k => x (ix2 r k)) (fun k => g (ix1 k)) (fun k e => w (ix2 k e)) ⟨0 + d.val, by omega⟩ := by
  pointwise [Cert.InRefIdeal.Read.val_main_v14]
  simp only [ref_product]

/-- The reference's scaled queries, element by element. -/
theorem ref4_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v20 (F := Ideal) x g w (ix2 r d)
      = productAt (fun k => x (ix2 r k)) (fun k => g (ix1 k)) (fun k e => w (ix2 k e)) ⟨512 + d.val, by omega⟩ * eighth := by
  pointwise [Cert.InRefIdeal.Read.val_main_v20, Cert.InRefIdeal.Read.val_main_v19, Cert.InRefIdeal.Read.val_main_v18, Cert.InRefIdeal.Read.val_main_v15, Cert.InRefIdeal.Read.val_main_cst_2]
  simp only [ref_product]

/-- The reference's keys, element by element. -/
theorem ref5_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v16 (F := Ideal) x g w (ix2 r d)
      = productAt (fun k => x (ix2 r k)) (fun k => g (ix1 k)) (fun k e => w (ix2 k e)) ⟨1024 + d.val, by omega⟩ := by
  pointwise [Cert.InRefIdeal.Read.val_main_v16]
  simp only [ref_product]

/-- The reference's values, element by element. -/
theorem ref6_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v17 (F := Ideal) x g w (ix2 r d)
      = productAt (fun k => x (ix2 r k)) (fun k => g (ix1 k)) (fun k e => w (ix2 k e)) ⟨1536 + d.val, by omega⟩ := by
  pointwise [Cert.InRefIdeal.Read.val_main_v17]
  simp only [ref_product]

/-- The reference's narrowed keys, element by element. -/
theorem ref7_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v21 (F := Ideal) x g w (ix2 r d)
      = productAt (fun k => x (ix2 r k)) (fun k => g (ix1 k)) (fun k e => w (ix2 k e)) ⟨1024 + d.val, by omega⟩ := by
  pointwise [Cert.InRefIdeal.Read.val_main_v21, Cert.InRefIdeal.Read.val_main_v16]
  simp only [ref_product]

/-- The reference's narrowed values, element by element. -/
theorem ref8_apply (x : Vec Ideal Cert.InRefIdeal.S16384x1024 .f32) (g : Vec Ideal Cert.InRefIdeal.S1024 .f32) (w : Vec Ideal Cert.InRefIdeal.S1024x2048 .f32) (r : Fin 16384) (d : Fin 512) :
    Cert.InRefIdeal.Read.val_main_v22 (F := Ideal) x g w (ix2 r d)
      = productAt (fun k => x (ix2 r k)) (fun k => g (ix1 k)) (fun k e => w (ix2 k e)) ⟨1536 + d.val, by omega⟩ := by
  pointwise [Cert.InRefIdeal.Read.val_main_v22, Cert.InRefIdeal.Read.val_main_v17]
  simp only [ref_product]

end Cert.InIdeal.Block

end
-- ==== Proof.InClaims.lean ====
module

public import proofs.«01_k».proof.Defs
public import proofs.«01_k».proof.Proof.Gen.In.Frame
public import proofs.«01_k».proof.Proof.InValue
public import Idealize.ShloMosaic.Lib.Quiescent

@[expose] public section

set_option maxRecDepth 16384

noncomputable section

/-! # The claims about the input projection -/

namespace Cert.Proof.InClaims

open Idealize.ShloMosaic Idealize.ShloMosaic.TcCoe Idealize.SL.Sem

/-- The kernel, at words, leaves its arguments and its semaphores as it found them. -/
theorem frame_kernel : Cert.quiescent_In := fun m ρ _ => Cert.In.Gen.frame m ρ

/-- The kernel over the extended reals leaves its arguments and its semaphores as it found them. -/
theorem frame_ideal : Cert.quiescent_InIdeal := fun m ρ _ => Cert.InIdeal.Gen.frame m ρ

/-- The reference leaves its arguments as it found them; it has no semaphore. -/
theorem frame_ref : Cert.quiescent_InRefIdeal := fun m ρ _ =>
  (θ_run Cert.InRefIdeal.defs _ _).mono (fun r h => ⟨fun c => (h c).2.2.2.2.2.2, Idealize.ShloMosaic.sem_eq_zero_of_no_sems (by decide) r.2⟩)
    (Cert.InRefIdeal.Value.run (F := Ideal) m ρ)

/-- The idealized kernel is the kernel's own text. -/
theorem preserves : Cert.preserves_In_InIdeal := trivial

/-- Over the extended reals each of the kernel's six result arrays is the reference's. -/
theorem algebraic : Cert.algebraic_InIdeal_InRefIdeal := by
  intro m ρ m' ρ' _ hagree
  refine ⟨fun c => (Cert.InIdeal.Gen.dats m 0 c).arrAt 3 Cert.InIdeal.cfg0.N, fun c => (Cert.InIdeal.Gen.dats m 0 c).arrAt 4 Cert.InIdeal.cfg0.N, fun c => (Cert.InIdeal.Gen.dats m 0 c).arrAt 5 Cert.InIdeal.cfg0.N, fun c => (Cert.InIdeal.Gen.dats m 0 c).arrAt 6 Cert.InIdeal.cfg0.N, fun c => (Cert.InIdeal.Gen.dats m 0 c).arrAt 7 Cert.InIdeal.cfg0.N, fun c => (Cert.InIdeal.Gen.dats m 0 c).arrAt 8 Cert.InIdeal.cfg0.N,
    Cert.InIdeal.Value.run_blocks m ρ, ?_⟩
  refine (θ_run Cert.InRefIdeal.defs _ _).mono (fun _ h c => ?_) (Cert.InRefIdeal.Value.run (F := Ideal) m' ρ')
  obtain ⟨r3, r4, r5, r6, r7, r8, hargs⟩ := h c
  obtain ⟨h0, h1, h2⟩ := hagree c
  refine ⟨r3.trans ?_, r4.trans ?_, r5.trans ?_, r6.trans ?_, r7.trans ?_, r8.trans ?_, hargs⟩
  · rw [h0, h1, h2]
    refine Eq.trans ?_ (Cert.InIdeal.Block.final3 m c).symm
    refine (Cert.InRefIdeal.Read.val_main_v14_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref3_apply _ _ _ r d
  · rw [h0, h1, h2]
    refine Eq.trans ?_ (Cert.InIdeal.Block.final4 m c).symm
    refine (Cert.InRefIdeal.Read.val_main_v20_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref4_apply _ _ _ r d
  · rw [h0, h1, h2]
    refine Eq.trans ?_ (Cert.InIdeal.Block.final5 m c).symm
    refine (Cert.InRefIdeal.Read.val_main_v16_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref5_apply _ _ _ r d
  · rw [h0, h1, h2]
    refine Eq.trans ?_ (Cert.InIdeal.Block.final6 m c).symm
    refine (Cert.InRefIdeal.Read.val_main_v17_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref6_apply _ _ _ r d
  · rw [h0, h1, h2]
    refine Eq.trans ?_ (Cert.InIdeal.Block.final7 m c).symm
    refine (Cert.InRefIdeal.Read.val_main_v21_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref7_apply _ _ _ r d
  · rw [h0, h1, h2]
    refine Eq.trans ?_ (Cert.InIdeal.Block.final8 m c).symm
    refine (Cert.InRefIdeal.Read.val_main_v22_eq (F := Ideal) _ _ _).trans ?_
    funext i
    obtain ⟨r, d, rfl⟩ : ∃ (r : Fin 16384) (d : Fin 512), i = (ix2 r d : Cert.InIdeal.S16384x512.Idx) := ⟨i 0, i 1, eq_ix2 (n0 := 16384) (n1 := 512) i⟩
    exact Cert.InIdeal.Block.ref8_apply _ _ _ r d

end Cert.Proof.InClaims

end
-- ==== Proof.OutValue.lean ====
module

public import proofs.«01_k».proof.Proof.Gen.OutIdeal.Value
public import proofs.«01_k».proof.Proof.Gen.OutRefIdeal.Read
public import Idealize.ShloMosaic.Lib.Pipeline.Value
public import Idealize.ShloMosaic.Lib.Pointwise
public import Idealize.ShloMosaic.Lib.Pipeline.ValueKit.Tiles

@[expose] public section

set_option maxRecDepth 16384

noncomputable section

/-! # The output projection: the kernel's result array and the reference's, element by element -/

namespace Cert.OutIdeal.Block

open Cert.OutIdeal Cert.OutIdeal.Gen Idealize.ShloMosaic Idealize.ShloMosaic.TcCoe Idealize.SL.Sem
open Idealize.ShloMosaic.Pipeline (Dat)

/-- The offsets of a load or a store of a whole two-axis buffer are zero. -/
theorem hz2 : (![0, 0] : Fin 2 → Nat) = fun _ => 0 := funext fun a => by fin_cases a <;> rfl

/-- One element of a point's block: the input plus the two halves' products with their weights. -/
theorem pay1_apply (x : Vec Ideal S1024x1024 .f32) (a : Vec Ideal S1024x512 .f32) (wa : Vec Ideal S512x1024 .bf16)
    (b : Vec Ideal S1024x512 .f32) (wb : Vec Ideal S512x1024 .bf16) (r d : Fin 1024) :
    k0_pay1 (F := Ideal) x a wa b wb (ix2 r d)
      = x (ix2 r d) + ∑ k : Fin 512, a (ix2 r k) * wa (ix2 k d) + ∑ k : Fin 512, b (ix2 r k) * wb (ix2 k d) := by
  pointwise [k0_pay1]

variable (m : (ℓ : Loc nD τ sig) → Buf (Elt Ideal) ℓ)

/-- The layer's input, the two halves of the mixed rows and the weights, at an index. -/
abbrev argX (c : Dev nD) (r : Fin 16384) (d : Fin 1024) : EReal := m ((c : Thread nD τ).loc main_arg0) (ix2 r d : S16384x1024.Idx)
/-- The argument with the recurrence's rows, element by element. -/
abbrev argA (c : Dev nD) (r : Fin 16384) (k : Fin 512) : EReal := m ((c : Thread nD τ).loc main_arg1) (ix2 r k : S16384x512.Idx)
/-- The argument with the attention's rows, element by element. -/
abbrev argB (c : Dev nD) (r : Fin 16384) (k : Fin 512) : EReal := m ((c : Thread nD τ).loc main_arg2) (ix2 r k : S16384x512.Idx)
/-- The argument with the weights, element by element. -/
abbrev argW (c : Dev nD) (k d : Fin 1024) : EReal := m ((c : Thread nD τ).loc main_arg3) (ix2 k d : S1024x1024.Idx)

/-- What the host hands the kernel: the upper half of the weights, cast. -/
theorem V_v1 (c : Dev nD) : V m c main_v1 =
    truncf (F := Ideal) (s := S512x1024) (φ := .f32) .bf16 (extractStridedSlice S512x1024 ![0, 0] (m ((c : Thread nD τ).loc main_arg3) : Vec Ideal S1024x1024 .f32) slices_S1024x1024_S512x1024_0_0) bitsLt_bf16_f32 := by
  unfold V hostOps0
  after_results

/-- What the host hands the kernel: the lower half of the weights, cast. -/
theorem V_v3 (c : Dev nD) : V m c main_v3 =
    truncf (F := Ideal) (s := S512x1024) (φ := .f32) .bf16 (extractStridedSlice S512x1024 ![512, 0] (m ((c : Thread nD τ).loc main_arg3) : Vec Ideal S1024x1024 .f32) slices_S1024x1024_S512x1024_512_0) bitsLt_bf16_f32 := by
  unfold V hostOps0
  after_results

/-- The upper half of the weights. -/
theorem upper_apply (w : Vec Ideal S1024x1024 .f32) (k : Fin 512) (d : Fin 1024) :
    truncf (F := Ideal) (s := S512x1024) (φ := .f32) .bf16 (extractStridedSlice S512x1024 ![0, 0] w slices_S1024x1024_S512x1024_0_0) bitsLt_bf16_f32 (ix2 k d)
      = w (ix2 ⟨k.val, by omega⟩ d) := by
  pointwise

/-- The lower half of the weights. -/
theorem lower_apply (w : Vec Ideal S1024x1024 .f32) (k : Fin 512) (d : Fin 1024) :
    truncf (F := Ideal) (s := S512x1024) (φ := .f32) .bf16 (extractStridedSlice S512x1024 ![512, 0] w slices_S1024x1024_S512x1024_512_0) bitsLt_bf16_f32 (ix2 k d)
      = w (ix2 ⟨512 + k.val, by omega⟩ d) := by
  pointwise

/-- The windows' block indices at each of the 16 points. -/
theorem index0 : ∀ t : Fin grid0.N, win0_0.index t 0 = t.val ∧ win0_0.index t 1 = 0 := by decide +kernel
/-- Window 1 takes, at each grid point, the point's own block of rows. -/
theorem index1 : ∀ t : Fin grid0.N, win0_1.index t 0 = t.val ∧ win0_1.index t 1 = 0 := by decide +kernel
/-- Window 2 takes, at each grid point, the point's own block of rows. -/
theorem index2 : ∀ t : Fin grid0.N, win0_2.index t 0 = t.val ∧ win0_2.index t 1 = 0 := by decide +kernel
/-- Window 3 takes the whole array at each grid point. -/
theorem index3 : ∀ t : Fin grid0.N, win0_3.index t 0 = 0 ∧ win0_3.index t 1 = 0 := by decide +kernel
/-- Window 4 takes the whole array at each grid point. -/
theorem index4 : ∀ t : Fin grid0.N, win0_4.index t 0 = 0 ∧ win0_4.index t 1 = 0 := by decide +kernel
/-- Window 5 takes, at each grid point, the point's own block of rows. -/
theorem index5 : ∀ t : Fin grid0.N, win0_5.index t 0 = t.val ∧ win0_5.index t 1 = 0 := by decide +kernel

/-- The array row that row `r` of point `t`'s block is. -/
def row (t : Fin cfg0.N) (r : Fin 1024) : Fin 16384 := ⟨1024 * t.val + r.val, by have := t.isLt; have h : cfg0.N = 16 := N_0; omega⟩

/-- The block of the residual's rows, element by element, as the argument's. -/
theorem iblk0_apply (c : Dev nD) (t : Fin cfg0.N) (r d : Fin 1024) :
    (iblk m c 0 t : Vec Ideal S1024x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 1024 + 1 * r.val = 1024 * t.val + r.val; omega
  | ⟨1, _⟩ => show win0_0.index t 1 * 1024 + 1 * d.val = d.val; omega

/-- The block of the recurrence's rows, element by element, as the argument's. -/
theorem iblk1_apply (c : Dev nD) (t : Fin cfg0.N) (r : Fin 1024) (k : Fin 512) :
    (iblk m c 1 t : Vec Ideal S1024x512 .f32) (ix2 r k) = argA m c (row t r) k := by
  have hi := index1 t
  unfold iblk
  rw [View.read_apply]
  show V m c main_arg1 _ = _
  rw [V_main_arg1]
  show m _ _ = m _ _
  congr 1
  funext a
  apply Fin.ext
  match a with
  | ⟨0, _⟩ => show win0_1.index t 0 * 1024 + 1 * r.val = 1024 * t.val + r.val; omega
  | ⟨1, _⟩ => show win0_1.index t 1 * 512 + 1 * k.val = k.val; omega

/-- The block of the attention's rows, element by element, as the argument's. -/
theorem iblk2_apply (c : Dev nD) (t : Fin cfg0.N) (r : Fin 1024) (k : Fin 512) :
    (iblk m c 2 t : Vec Ideal S1024x512 .f32) (ix2 r k) = argB m c (row t r) k := by
  have hi := index2 t
  unfold iblk
  rw [View.read_apply]
  show V m c main_arg2 _ = _
  rw [V_main_arg2]
  show m _ _ = m _ _
  congr 1
  funext a
  apply Fin.ext
  match a with
  | ⟨0, _⟩ => show win0_2.index t 0 * 1024 + 1 * r.val = 1024 * t.val + r.val; omega
  | ⟨1, _⟩ => show win0_2.index t 1 * 512 + 1 * k.val = k.val; omega

/-- The block of the upper half of the weights, element by element, as the argument's. -/
theorem iblk3_apply (c : Dev nD) (t : Fin cfg0.N) (k : Fin 512) (d : Fin 1024) :
    (iblk m c 3 t : Vec Ideal S512x1024 .bf16) (ix2 k d) = argW m c ⟨k.val, by omega⟩ d := by
  have hi := index3 t
  unfold iblk
  rw [View.read_apply]
  show V m c main_v1 _ = _
  have e : (((cfg0.win 3).blk t).view.emb (ix2 k d : S512x1024.Idx)) = (ix2 k d : S512x1024.Idx) := by
    funext a
    apply Fin.ext
    match a with
    | ⟨0, _⟩ => show win0_3.index t 0 * 512 + 1 * k.val = k.val; omega
    | ⟨1, _⟩ => show win0_3.index t 1 * 1024 + 1 * d.val = d.val; omega
  refine (congrArg (V m c main_v1) e).trans ?_
  rw [V_v1]
  exact upper_apply _ k d

/-- The block of the lower half of the weights, element by element, as the argument's. -/
theorem iblk4_apply (c : Dev nD) (t : Fin cfg0.N) (k : Fin 512) (d : Fin 1024) :
    (iblk m c 4 t : Vec Ideal S512x1024 .bf16) (ix2 k d) = argW m c ⟨512 + k.val, by omega⟩ d := by
  have hi := index4 t
  unfold iblk
  rw [View.read_apply]
  show V m c main_v3 _ = _
  have e : (((cfg0.win 4).blk t).view.emb (ix2 k d : S512x1024.Idx)) = (ix2 k d : S512x1024.Idx) := by
    funext a
    apply Fin.ext
    match a with
    | ⟨0, _⟩ => show win0_4.index t 0 * 512 + 1 * k.val = k.val; omega
    | ⟨1, _⟩ => show win0_4.index t 1 * 1024 + 1 * d.val = d.val; omega
  refine (congrArg (V m c main_v3) e).trans ?_
  rw [V_v3]
  exact lower_apply _ k d

/-! ## The result array -/

/-- The layer at row `r`, column `d`, of any arrays: the row plus the product of its two halves, side by side, with the weights. -/
def layerAt (x : Fin 1024 → EReal) (a b : Fin 512 → EReal) (w : Fin 1024 → Fin 1024 → EReal) (d : Fin 1024) : EReal :=
  x d + ∑ k : Fin 1024, (if h : k.val < 512 then a ⟨k.val, h⟩ else b ⟨k.val - 512, by omega⟩) * w k d

/-- The product with both halves is the sum of the halves' own products. -/
theorem layerAt_eq (x : Fin 1024 → EReal) (a b : Fin 512 → EReal) (w : Fin 1024 → Fin 1024 → EReal) (d : Fin 1024) :
    layerAt x a b w d = x d + ∑ k : Fin 512, a k * w ⟨k.val, by omega⟩ d + ∑ k : Fin 512, b k * w ⟨512 + k.val, by omega⟩ d := by
  unfold layerAt
  rw [add_assoc]
  congr 1
  refine (Fin.sum_univ_add (a := 512) (b := 512) (fun k : Fin 1024 => (if h : k.val < 512 then a ⟨k.val, h⟩ else b ⟨k.val - 512, by omega⟩) * w k d)).trans ?_
  congr 1

/-- The layer as an array of device `c`'s arguments. -/
def layer (c : Dev nD) : Vec Ideal S16384x1024 .f32 :=
  fun i => layerAt (argX m c (i 0)) (argA m c (i 0)) (argB m c (i 0)) (argW m c) (i 1)

/-- A point's output block, element by element. -/
theorem block_apply (c : Dev nD) (t : Fin cfg0.N) (r d : Fin 1024) :
    k0_pay1 (F := Ideal) (iblk m c 0 t : Vec Ideal S1024x1024 .f32) (iblk m c 1 t : Vec Ideal S1024x512 .f32) (iblk m c 3 t : Vec Ideal S512x1024 .bf16)
      (iblk m c 2 t : Vec Ideal S1024x512 .f32) (iblk m c 4 t : Vec Ideal S512x1024 .bf16) (ix2 r d)
      = layerAt (argX m c (row t r)) (argA m c (row t r)) (argB m c (row t r)) (argW m c) d := by
  rw [pay1_apply, layerAt_eq]
  simp only [iblk0_apply, iblk1_apply, iblk2_apply, iblk3_apply, iblk4_apply]

/-- What a point's stores leave in its output block. -/
theorem out_eq (x0 : Vec Ideal S1024x1024 .f32) (x1 x2 : Vec Ideal S1024x512 .f32) (x3 x4 : Vec Ideal S512x1024 .bf16) :
    out0_5 x0 x1 x2 x3 x4 = k0_pay1 x0 x1 x3 x2 x4 := by
  unfold out0_5
  rw [View.canon_unit_zero (S := S1024x1024) hz2]
  simp only [View.ld_unit_zero (S := S1024x1024) hz2, View.ld_unit_zero (S := S1024x512) hz2, View.ld_unit_zero (S := S512x1024) hz2]

/-- What point `t` writes back is its block of the layer. -/
theorem flushed_eq (c : Dev nD) (t : Fin cfg0.N) :
    (dats m 0 c).flushed 5 t = ((cfg0.win 5).blk t).view.read (Elt Ideal) (layer m c) := by
  have hi := index5 t
  rw [Value.flushed5, out_eq]
  funext j
  rw [View.read_apply]
  obtain ⟨r, d, rfl⟩ : ∃ (r d : Fin 1024), j = (ix2 r d : S1024x1024.Idx) := ⟨j 0, j 1, eq_ix2 (n0 := 1024) (n1 := 1024) j⟩
  refine (block_apply m c t r d).trans ?_
  have e : (((cfg0.win 5).blk t).view.emb (ix2 r d : S1024x1024.Idx)) = (ix2 (row t r) d : S16384x1024.Idx) := by
    funext a
    apply Fin.ext
    match a with
    | ⟨0, _⟩ => show win0_5.index t 0 * 1024 + 1 * r.val = 1024 * t.val + r.val; omega
    | ⟨1, _⟩ => show win0_5.index t 1 * 1024 + 1 * d.val = d.val; omega
  exact (congrArg (layer m c) e).symm

/-- The sixteen blocks cover the result. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 16 := N_0
  have ht : (i 0 : Nat) / 1024 < cfg0.N := by omega
  refine ⟨⟨(i 0 : Nat) / 1024, ht⟩, flush0_5 _, ?_⟩
  have hi := index5 ⟨(i 0 : Nat) / 1024, ht⟩
  have hx : ∀ t : Fin grid0.N, win0_5.xsize (grid0.coords t) 0 = 1024 ∧ win0_5.xsize (grid0.coords t) 1 = 1024 := by decide +kernel
  have hx := hx ⟨(i 0 : Nat) / 1024, ht⟩
  show i ∈ ((View.whole main_v4).slice (win0_5.rect ⟨(i 0 : Nat) / 1024, ht⟩)).set
  rw [View.set_slice_whole, Rect.mem_set_unit]
  intro a
  match a with
  | ⟨0, _⟩ =>
    show win0_5.index ⟨(i 0 : Nat) / 1024, ht⟩ 0 * 1024 ≤ (i 0 : Nat) ∧ (i 0 : Nat) < win0_5.index ⟨(i 0 : Nat) / 1024, ht⟩ 0 * 1024 + win0_5.xsize (grid0.coords ⟨(i 0 : Nat) / 1024, ht⟩) 0
    rw [hi.1, hx.1]
    dsimp only
    omega
  | ⟨1, _⟩ =>
    show win0_5.index ⟨(i 0 : Nat) / 1024, ht⟩ 1 * 1024 ≤ (i 1 : Nat) ∧ (i 1 : Nat) < win0_5.index ⟨(i 0 : Nat) / 1024, ht⟩ 1 * 1024 + win0_5.xsize (grid0.coords ⟨(i 0 : Nat) / 1024, ht⟩) 1
    rw [hi.2, hx.2]
    omega

/-- After the run the result array holds the layer. -/
theorem final (c : Dev nD) : (dats m 0 c).arrAt 5 cfg0.N = layer m c :=
  (dats m 0 c).arrAt_eq_of_cover 5 (layer m c) (fun t _ => flushed_eq m c t) cover

/-! ## The reference -/

/-- The two halves side by side, element by element. -/
theorem concat_apply (a b : Vec Ideal Cert.OutRefIdeal.S16384x512 .f32) (r : Fin 16384) (k : Fin 1024) :
    Cert.OutRefIdeal.Read.val_main_v0 (F := Ideal) a b (ix2 r k)
      = if h : k.val < 512 then a (ix2 r ⟨k.val, h⟩) else b (ix2 r ⟨k.val - 512, by omega⟩) := by
  pointwise [Cert.OutRefIdeal.Read.val_main_v0]

/-- The reference's result, element by element: the same layer. -/
theorem ref_apply (x : Vec Ideal Cert.OutRefIdeal.S16384x1024 .f32) (a b : Vec Ideal Cert.OutRefIdeal.S16384x512 .f32)
    (w : Vec Ideal Cert.OutRefIdeal.S1024x1024 .f32) (r : Fin 16384) (d : Fin 1024) :
    Cert.OutRefIdeal.Read.val_main_v2 (F := Ideal) x a b w (ix2 r d)
      = layerAt (fun k => x (ix2 r k)) (fun k => a (ix2 r k)) (fun k => b (ix2 r k)) (fun k e => w (ix2 k e)) d := by
  open Cert.OutRefIdeal.Read in
  pointwise [val_main_v2, val_main_v1]
  simp only [concat_apply]
  rfl

end Cert.OutIdeal.Block

end
-- ==== Proof.OutClaims.lean ====
module

public import proofs.«01_k».proof.Defs
public import proofs.«01_k».proof.Proof.Gen.Out.Frame
public import proofs.«01_k».proof.Proof.OutValue
public import Idealize.ShloMosaic.Lib.Quiescent

@[expose] public section

set_option maxRecDepth 16384

noncomputable section

/-! # The claims about the output projection -/

namespace Cert.Proof.OutClaims

open Idealize.ShloMosaic Idealize.ShloMosaic.TcCoe Idealize.SL.Sem

/-- The kernel, at words, leaves its arguments and its semaphores as it found them. -/
theorem frame_kernel : Cert.quiescent_Out := fun m ρ _ => Cert.Out.Gen.frame m ρ

/-- The kernel over the extended reals leaves its arguments and its semaphores as it found them. -/
theorem frame_ideal : Cert.quiescent_OutIdeal := fun m ρ _ => Cert.OutIdeal.Gen.frame m ρ

/-- The reference leaves its arguments as it found them; it has no semaphore. -/
theorem frame_ref : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The idealized kernel is the kernel's own text. -/
theorem preserves : Cert.preserves_Out_OutIdeal := trivial

/-- Over the extended reals the kernel's result array is the reference's. -/
theorem algebraic : Cert.algebraic_OutIdeal_OutRefIdeal := by
  intro m ρ m' ρ' _ hagree
  refine ⟨fun c => (Cert.OutIdeal.Gen.dats m 0 c).arrAt 5 Cert.OutIdeal.cfg0.N, Cert.OutIdeal.Value.run_blocks m ρ, ?_⟩
  refine (θ_run Cert.OutRefIdeal.defs _ _).mono (fun _ h c => ?_) (Cert.OutRefIdeal.Value.run (F := Ideal) m' ρ')
  refine ⟨(h c).1.trans ?_, (h c).2⟩
  obtain ⟨h0, h1, h2, h3⟩ := hagree c
  rw [h0, h1, h2, h3]
  refine Eq.trans ?_ (Cert.OutIdeal.Block.final m c).symm
  refine (Cert.OutRefIdeal.Read.val_main_v2_eq (F := Ideal) _ _ _ _).trans ?_
  funext i
  obtain ⟨r, d, rfl⟩ : ∃ (r : Fin 16384) (d : Fin 1024), i = (ix2 r d : Cert.OutIdeal.S16384x1024.Idx) := ⟨i 0, i 1, eq_ix2 (n0 := 16384) (n1 := 1024) i⟩
  exact Cert.OutIdeal.Block.ref_apply _ _ _ _ r d

end Cert.Proof.OutClaims

end
-- ==== Proof.OddBlock.lean ====
module

public import proofs.«01_k».proof.Proof.Gen.OddIdeal.Value
public import Idealize.ShloMosaic.Lib.Pipeline.Value
public import Idealize.ShloMosaic.Lib.Pointwise
public import Idealize.ShloMosaic.Lib.Pipeline.ValueKit.Tiles

@[expose] public section

set_option maxRecDepth 16384

noncomputable section

/-! # The input projection of the odd layers: what a grid point writes back

A point either starts a sequence, and then first clears the running sum, or continues one. The eight results
here do not depend on the running sum, so both kinds of point write back the same. -/

namespace Cert.OddIdeal.Block

open Cert.OddIdeal Cert.OddIdeal.Gen Idealize.ShloMosaic Idealize.ShloMosaic.TcCoe Idealize.ShloMosaic.Tactic Idealize.SL.Sem
open Idealize.ShloMosaic.Pipeline (Dat)

/-- The offsets of a load or a store of a whole two-axis buffer are zero. -/
theorem hz2 : (![0, 0] : Fin 2 → Nat) = fun _ => 0 := funext fun a => by fin_cases a <;> rfl

variable (m : (ℓ : Loc nD τ sig) → Buf (Elt Ideal) ℓ)

/-- What point `t` writes back of the mixing inputs. -/
theorem written5 (c : Dev nD) (t : Fin cfg0.N) :
    (dats m 0 c).flushed 5 t = (cfg0.win 5).cut (grid0.coords t)
      (k0_pay5 (F := Ideal) (iblk m c 0 t : Vec Ideal S512x1024 .f32) (iblk m c 1 t : Vec Ideal S1x1024 .f32) (View.ld (iblk m c 2 t : Vec Ideal S1024x2560 .bf16) (Rect.unit (s := S1024x2560) ![0, 0] S1024x512.size inb_S1024x2560_S1024x512_0_0))) := by
  by_cases h0 : t.val % 4 = 0
  · rw [Value.flushed5_A m c t h0]
    refine congrArg _ ?_
    unfold out0_A_5
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed5_B m c t h0]
    refine congrArg _ ?_
    unfold out0_B_5
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the gates. -/
theorem written6 (c : Dev nD) (t : Fin cfg0.N) :
    (dats m 0 c).flushed 6 t = (cfg0.win 6).cut (grid0.coords t)
      (k0_pay6 (F := Ideal) (iblk m c 0 t : Vec Ideal S512x1024 .f32) (iblk m c 1 t : Vec Ideal S1x1024 .f32) (View.ld (iblk m c 2 t : Vec Ideal S1024x2560 .bf16) (Rect.unit (s := S1024x2560) ![0, 512] S1024x512.size inb_S1024x2560_S1024x512_0_512))) := by
  by_cases h0 : t.val % 4 = 0
  · rw [Value.flushed6_A m c t h0]
    refine congrArg _ ?_
    unfold out0_A_6
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed6_B m c t h0]
    refine congrArg _ ?_
    unfold out0_B_6
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the scaled queries. -/
theorem written7 (c : Dev nD) (t : Fin cfg0.N) :
    (dats m 0 c).flushed 7 t = (cfg0.win 7).cut (grid0.coords t)
      (k0_pay7 (F := Ideal) (iblk m c 0 t : Vec Ideal S512x1024 .f32) (iblk m c 1 t : Vec Ideal S1x1024 .f32) (View.ld (iblk m c 2 t : Vec Ideal S1024x2560 .bf16) (Rect.unit (s := S1024x2560) ![0, 1024] S1024x512.size inb_S1024x2560_S1024x512_0_1024))) := by
  by_cases h0 : t.val % 4 = 0
  · rw [Value.flushed7_A m c t h0]
    refine congrArg _ ?_
    unfold out0_A_7
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed7_B m c t h0]
    refine congrArg _ ?_
    unfold out0_B_7
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the keys. -/
theorem written8 (c : Dev nD) (t : Fin cfg0.N) :
    (dats m 0 c).flushed 8 t = (cfg0.win 8).cut (grid0.coords t)
      (k0_pay8 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 1536] S1024x512.size inb_S1024x2560_S1024x512_0_1536))) := by
  by_cases h0 : t.val % 4 = 0
  · rw [Value.flushed8_A m c t h0]
    refine congrArg _ ?_
    unfold out0_A_8
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed8_B m c t h0]
    refine congrArg _ ?_
    unfold out0_B_8
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the values. -/
theorem written9 (c : Dev nD) (t : Fin cfg0.N) :
    (dats m 0 c).flushed 9 t = (cfg0.win 9).cut (grid0.coords t)
      (k0_pay9 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 2048] S1024x512.size inb_S1024x2560_S1024x512_0_2048))) := by
  by_cases h0 : t.val % 4 = 0
  · rw [Value.flushed9_A m c t h0]
    refine congrArg _ ?_
    unfold out0_A_9
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed9_B m c t h0]
    refine congrArg _ ?_
    unfold out0_B_9
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the log gates. -/
theorem written10 (c : Dev nD) (t : Fin cfg0.N) :
    (dats m 0 c).flushed 10 t = (cfg0.win 10).cut (grid0.coords t)
      (k0_pay11 (F := Ideal) (k0_pay4 (iblk m c 0 t : Vec Ideal S512x1024 .f32) (iblk m c 1 t : Vec Ideal S1x1024 .f32)) (iblk m c 3 t : Vec Ideal S1024x128 .bf16) (iblk m c 4 t : Vec Ideal S1x128 .f32)) := by
  by_cases h0 : t.val % 4 = 0
  · rw [Value.flushed10_A m c t h0]
    refine congrArg _ ?_
    unfold out0_A_10
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x8) hz2]
  · rw [Value.flushed10_B m c t h0]
    refine congrArg _ ?_
    unfold out0_B_10
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x8) hz2]

/-- What point `t` writes back of the narrowed keys. -/
theorem written11 (c : Dev nD) (t : Fin cfg0.N) :
    (dats m 0 c).flushed 11 t = (cfg0.win 11).cut (grid0.coords t)
      (k0_pay12 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 1536] S1024x512.size inb_S1024x2560_S1024x512_0_1536))) := by
  by_cases h0 : t.val % 4 = 0
  · rw [Value.flushed11_A m c t h0]
    refine congrArg _ ?_
    unfold out0_A_11
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed11_B m c t h0]
    refine congrArg _ ?_
    unfold out0_B_11
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

/-- What point `t` writes back of the narrowed values. -/
theorem written12 (c : Dev nD) (t : Fin cfg0.N) :
    (dats m 0 c).flushed 12 t = (cfg0.win 12).cut (grid0.coords t)
      (k0_pay13 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 2048] S1024x512.size inb_S1024x2560_S1024x512_0_2048))) := by
  by_cases h0 : t.val % 4 = 0
  · rw [Value.flushed12_A m c t h0]
    refine congrArg _ ?_
    unfold out0_A_12
    unfold kernelRun0_A
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl
  · rw [Value.flushed12_B m c t h0]
    refine congrArg _ ?_
    unfold out0_B_12
    unfold kernelRun0_B
    dsimp only
    sl_unfold_words
    simp only [View.readAt_eq_ld, View.ld_unit_zero (S := S512x1024) hz2, View.ld_unit_zero (S := S1x1024) hz2, View.ld_unit_zero (S := S1024x128) hz2, View.ld_unit_zero (S := S1x128) hz2, (hs0_0 t).read_unread, (hs0_1 t).read_unread, (hs0_2 t).read_unread, (hs0_3 t).read_unread, (hs0_4 t).read_unread]
    rw [View.read_writes_junk_eq_canon, View.canon_unit_zero (S := S512x512) hz2]
    rfl

end Cert.OddIdeal.Block

end
-- ==== Proof.OddValue.lean ====
module

public import proofs.«01_k».proof.Proof.OddBlock
public import proofs.«01_k».proof.Proof.Gen.OddRefIdeal.Read
public import Idealize.ShloMosaic.Lib.Pipeline.Value
public import Idealize.ShloMosaic.Lib.Pointwise
public import Idealize.ShloMosaic.Lib.KernelVsHost
public import Idealize.ShloMosaic.Lib.Pipeline.ValueKit.Tiles

@[expose] public section

set_option maxRecDepth 16384

noncomputable section

/-! # The input projection of the odd layers: the kernel's result arrays and the reference's, element by element -/

namespace Cert.OddIdeal.Block

open Cert.OddIdeal Cert.OddIdeal.Gen Idealize.ShloMosaic Idealize.ShloMosaic.TcCoe Idealize.SL.Sem
open Idealize.ShloMosaic.Pipeline (Dat)

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The normalized row's product with column `j` of the weights. -/
def productAt (x g : Fin 1024 → EReal) (w : Fin 1024 → Fin 2568 → EReal) (j : Fin 2568) : EReal :=
  ∑ k, normed x g k * w k j

/-- The constant the queries are scaled by. -/
abbrev eighth : EReal := Ideal.ofBits FTy.f32 0x3E000000#32

/-- The logarithm of the logistic function, `-(max (-z) 0 + log (1 + exp (-|z|)))`. -/
def logSigmoid (z : EReal) : EReal := -(max (-z) 0 + Ideal.log1p (Ideal.exp (-(max z (-z)))))

/-! ## The block -/

/-- The normalized rows, element by element. -/
theorem pay4_apply (x : Vec Ideal S512x1024 .f32) (g : Vec Ideal S1x1024 .f32) (r : Fin 512) (d : Fin 1024) :
    k0_pay4 (F := Ideal) x g (ix2 r d) = normed (fun k => x (ix2 r k)) (fun k => g (ix2 0 k)) d := by
  pointwise [k0_pay4]
  rfl

/-- The mixing inputs of a block, element by element, from the normalized rows. -/
theorem pay5_apply (x : Vec Ideal S512x1024 .f32) (g : Vec Ideal S1x1024 .f32) (w : Vec Ideal S1024x512 .bf16) (r d : Fin 512) :
    k0_pay5 (F := Ideal) x g w (ix2 r d) = (∑ k : Fin 1024, normed (fun k => x (ix2 r k)) (fun k => g (ix2 0 k)) k * w (ix2 k d)) := by
  pointwise [k0_pay5]
  simp only [pay4_apply]

/-- The gates of a block, element by element, from the normalized rows. -/
theorem pay6_apply (x : Vec Ideal S512x1024 .f32) (g : Vec Ideal S1x1024 .f32) (w : Vec Ideal S1024x512 .bf16) (r d : Fin 512) :
    k0_pay6 (F := Ideal) x g w (ix2 r d) = (∑ k : Fin 1024, normed (fun k => x (ix2 r k)) (fun k => g (ix2 0 k)) k * w (ix2 k d)) := by
  pointwise [k0_pay6]
  simp only [pay4_apply]

/-- The scaled queries of a block, element by element, from the normalized rows. -/
theorem pay7_apply (x : Vec Ideal S512x1024 .f32) (g : Vec Ideal S1x1024 .f32) (w : Vec Ideal S1024x512 .bf16) (r d : Fin 512) :
    k0_pay7 (F := Ideal) x g w (ix2 r d) = (∑ k : Fin 1024, normed (fun k => x (ix2 r k)) (fun k => g (ix2 0 k)) k * w (ix2 k d)) * eighth := by
  pointwise [k0_pay7]
  simp only [pay4_apply]

/-- The keys of a block, element by element, from the normalized rows `v`. -/
theorem pay8_apply (v : FVec Ideal S512x1024 .bf16) (w : Vec Ideal S1024x512 .bf16) (r d : Fin 512) :
    k0_pay8 (F := Ideal) v w (ix2 r d) = (∑ k : Fin 1024, v (ix2 r k) * w (ix2 k d)) := by
  pointwise [k0_pay8]

/-- The narrowed keys of a block are its keys. -/
theorem pay12_apply (v : FVec Ideal S512x1024 .bf16) (w : Vec Ideal S1024x512 .bf16) (r d : Fin 512) :
    k0_pay12 (F := Ideal) v w (ix2 r d) = (∑ k : Fin 1024, v (ix2 r k) * w (ix2 k d)) := by
  pointwise [k0_pay12]
  exact pay8_apply v w r d

/-- The values of a block, element by element, from the normalized rows `v`. -/
theorem pay9_apply (v : FVec Ideal S512x1024 .bf16) (w : Vec Ideal S1024x512 .bf16) (r d : Fin 512) :
    k0_pay9 (F := Ideal) v w (ix2 r d) = (∑ k : Fin 1024, v (ix2 r k) * w (ix2 k d)) := by
  pointwise [k0_pay9]

/-- The narrowed values of a block are its values. -/
theorem pay13_apply (v : FVec Ideal S512x1024 .bf16) (w : Vec Ideal S1024x512 .bf16) (r d : Fin 512) :
    k0_pay13 (F := Ideal) v w (ix2 r d) = (∑ k : Fin 1024, v (ix2 r k) * w (ix2 k d)) := by
  pointwise [k0_pay13]
  exact pay9_apply v w r d

/-- The absolute value of an extended real is the larger of it and its negation. -/
theorem abs_eq (z : EReal) : FloatOps.absf (F := Ideal) (φ := .f32) z = max z (-z) := rfl

/-- The log gates of a block, element by element, from the normalized rows `v`. -/
theorem pay11_apply (v : FVec Ideal S512x1024 .bf16) (w : Vec Ideal S1024x128 .bf16) (b : Vec Ideal S1x128 .f32) (r : Fin 512) (d : Fin 8) :
    k0_pay11 (F := Ideal) v w b (ix2 r d) = logSigmoid ((∑ k : Fin 1024, v (ix2 r k) * w (ix2 k ⟨d.val, by omega⟩)) + b (ix2 0 ⟨d.val, by omega⟩)) := by
  have hs : ∀ y : Vec Ideal S512x128 .f32, extractStridedSlice S512x8 ![0, 0] y slices_S512x128_o0_0_S512x8 (ix2 r d) = y (ix2 r ⟨d.val, by omega⟩) := fun y => by
    pointwise
  refine (hs (k0_pay10 (F := Ideal) v w b)).trans ?_
  pointwise [k0_pay10]
  unfold logSigmoid
  simp only [zero_sub, abs_eq]

/-- The columns from 0 on of the weights, element by element. -/
theorem cols0_apply (w : Vec Ideal S1024x2560 .bf16) (k : Fin 1024) (d : Fin 512) :
    View.ld w (Rect.unit (s := S1024x2560) ![0, 0] S1024x512.size inb_S1024x2560_S1024x512_0_0) (ix2 k d) = w (ix2 k ⟨0 + d.val, by omega⟩) := by
  refine View.ld_unit_apply_of _ _ _ _ _ _ fun b => ?_
  match b with
  | ⟨0, _⟩ => exact (Nat.zero_add _).symm
  | ⟨1, _⟩ => rfl

/-- The columns from 512 on of the weights, element by element. -/
theorem cols512_apply (w : Vec Ideal S1024x2560 .bf16) (k : Fin 1024) (d : Fin 512) :
    View.ld w (Rect.unit (s := S1024x2560) ![0, 512] S1024x512.size inb_S1024x2560_S1024x512_0_512) (ix2 k d) = w (ix2 k ⟨512 + d.val, by omega⟩) := by
  refine View.ld_unit_apply_of _ _ _ _ _ _ fun b => ?_
  match b with
  | ⟨0, _⟩ => exact (Nat.zero_add _).symm
  | ⟨1, _⟩ => rfl

/-- The columns from 1024 on of the weights, element by element. -/
theorem cols1024_apply (w : Vec Ideal S1024x2560 .bf16) (k : Fin 1024) (d : Fin 512) :
    View.ld w (Rect.unit (s := S1024x2560) ![0, 1024] S1024x512.size inb_S1024x2560_S1024x512_0_1024) (ix2 k d) = w (ix2 k ⟨1024 + d.val, by omega⟩) := by
  refine View.ld_unit_apply_of _ _ _ _ _ _ fun b => ?_
  match b with
  | ⟨0, _⟩ => exact (Nat.zero_add _).symm
  | ⟨1, _⟩ => rfl

/-- The columns from 1536 on of the weights, element by element. -/
theorem cols1536_apply (w : Vec Ideal S1024x2560 .bf16) (k : Fin 1024) (d : Fin 512) :
    View.ld w (Rect.unit (s := S1024x2560) ![0, 1536] S1024x512.size inb_S1024x2560_S1024x512_0_1536) (ix2 k d) = w (ix2 k ⟨1536 + d.val, by omega⟩) := by
  refine View.ld_unit_apply_of _ _ _ _ _ _ fun b => ?_
  match b with
  | ⟨0, _⟩ => exact (Nat.zero_add _).symm
  | ⟨1, _⟩ => rfl

/-- The columns from 2048 on of the weights, element by element. -/
theorem cols2048_apply (w : Vec Ideal S1024x2560 .bf16) (k : Fin 1024) (d : Fin 512) :
    View.ld w (Rect.unit (s := S1024x2560) ![0, 2048] S1024x512.size inb_S1024x2560_S1024x512_0_2048) (ix2 k d) = w (ix2 k ⟨2048 + d.val, by omega⟩) := by
  refine View.ld_unit_apply_of _ _ _ _ _ _ fun b => ?_
  match b with
  | ⟨0, _⟩ => exact (Nat.zero_add _).symm
  | ⟨1, _⟩ => rfl

/-! ## The host's arrays, element by element -/

/-- The first 2560 columns of the weights, narrowed. -/
theorem host_w (w : Vec Ideal S1024x2568 .f32) (k : Fin 1024) (j : Fin 2560) :
    truncf (F := Ideal) (s := S1024x2560) (φ := .f32) .bf16 (extractStridedSlice S1024x2560 ![0, 0] w slices_S1024x2568_S1024x2560_0_0) bitsLt_bf16_f32 (ix2 k j)
      = w (ix2 k ⟨j.val, by omega⟩) := by
  pointwise

/-- The last 8 columns of the weights, followed by 120 columns of padding and narrowed, at one of the 8. -/
theorem host_wf (w : Vec Ideal S1024x2568 .f32) (z : Vec Ideal S_ .f32) (k : Fin 1024) (d : Fin 8) :
    truncf (F := Ideal) (s := S1024x128) (φ := .f32) .bf16 (pad S1024x128 ![0, 0] ![0, 120] ![0, 0]
        (extractStridedSlice S1024x8 ![0, 2560] w slices_S1024x2568_S1024x8_0_2560) z pads_S1024x8_S1024x128_000_01200 h_S_) bitsLt_bf16_f32 (ix2 k ⟨d.val, by omega⟩)
      = w (ix2 k ⟨2560 + d.val, by omega⟩) := by
  have hp : ∀ y : Vec Ideal S1024x8 .f32, pad S1024x128 ![0, 0] ![0, 120] ![0, 0] y z pads_S1024x8_S1024x128_000_01200 h_S_ (ix2 k (⟨d.val, by omega⟩ : Fin 128)) = y (ix2 k d) := fun y => by
    refine pad_apply_of_inside _ _ _ _ _ _ _ _ (ix2 k d : S1024x8.Idx) fun a => ?_
    match a with
    | ⟨0, _⟩ => show k.val = 0 + k.val * (0 + 1); omega
    | ⟨1, _⟩ => show d.val = 0 + d.val * (0 + 1); omega
  refine (hp (extractStridedSlice S1024x8 ![0, 2560] w slices_S1024x2568_S1024x8_0_2560)).trans ?_
  pointwise

/-- The biases, followed by 120 of padding and read as a row, at one of the 8. -/
theorem host_bf (b : Vec Ideal S8 .f32) (z : Vec Ideal S_ .f32) (d : Fin 8) :
    (shapeCast S1x128 (pad S128 ![0] ![120] ![0] b z pads_S8_S128_01200 h_S_ : Vec Ideal S128 .f32) shapeCasts_S128_S1x128 : Vec Ideal S1x128 .f32) (ix2 0 ⟨d.val, by omega⟩)
      = b (ix1 d) := by
  have hp : pad S128 ![0] ![120] ![0] b z pads_S8_S128_01200 h_S_ (ix1 (⟨d.val, by omega⟩ : Fin 128)) = b (ix1 d) := by
    refine pad_apply_of_inside _ _ _ _ _ _ _ _ (ix1 d : S8.Idx) fun a => ?_
    match a with
    | ⟨0, _⟩ => show d.val = 0 + d.val * (0 + 1); omega
  have hs : ∀ y : Vec Ideal S128 .f32, (shapeCast S1x128 y shapeCasts_S128_S1x128 : Vec Ideal S1x128 .f32) (ix2 0 ⟨d.val, by omega⟩) = y (ix1 ⟨d.val, by omega⟩) := fun y => by
    pointwise
  exact (hs _).trans hp

/-! ## The arguments' blocks -/

variable (m : (ℓ : Loc nD τ sig) → Buf (Elt Ideal) ℓ)

/-- The layer's input, the gain, the weights and the biases, at an index. -/
abbrev argX (c : Dev nD) (r : Fin 16384) (d : Fin 1024) : EReal := m ((c : Thread nD τ).loc main_arg0) (ix2 r d : S16384x1024.Idx)
/-- The argument with the norm's scales, element by element. -/
abbrev argG (c : Dev nD) (d : Fin 1024) : EReal := m ((c : Thread nD τ).loc main_arg1) (ix1 d : S1024.Idx)
/-- The argument with the weights, element by element. -/
abbrev argW (c : Dev nD) (k : Fin 1024) (j : Fin 2568) : EReal := m ((c : Thread nD τ).loc main_arg2) (ix2 k j : S1024x2568.Idx)
/-- The argument with the biases of the log gates, element by element. -/
abbrev argB (c : Dev nD) (d : Fin 8) : EReal := m ((c : Thread nD τ).loc main_arg3) (ix1 d : S8.Idx)

/-- What the host hands the kernel: the first 2560 columns of the weights, cast. -/
theorem V_v1 (c : Dev nD) : V m c main_v1 =
    truncf (F := Ideal) (s := S1024x2560) (φ := .f32) .bf16 (extractStridedSlice S1024x2560 ![0, 0] (m ((c : Thread nD τ).loc main_arg2) : Vec Ideal S1024x2568 .f32) slices_S1024x2568_S1024x2560_0_0) bitsLt_bf16_f32 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results

/-- What the host hands the kernel: the log gates' columns of the weights, padded to 128 and cast. -/
theorem V_v4 (c : Dev nD) : V m c main_v4 =
    truncf (F := Ideal) (s := S1024x128) (φ := .f32) .bf16 (pad S1024x128 ![0, 0] ![0, 120] ![0, 0]
        (extractStridedSlice S1024x8 ![0, 2560] (m ((c : Thread nD τ).loc main_arg2) : Vec Ideal S1024x2568 .f32) slices_S1024x2568_S1024x8_0_2560)
        (sitofp (F := Ideal) .f32 (constantI S_ 32 0#32)) pads_S1024x8_S1024x128_000_01200 h_S_) bitsLt_bf16_f32 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results

/-- What the host hands the kernel: the log gates' biases, padded to 128, as one row. -/
theorem V_v6 (c : Dev nD) : V m c main_v6 =
    shapeCast S1x128 (pad S128 ![0] ![120] ![0] (m ((c : Thread nD τ).loc main_arg3) : Vec Ideal S8 .f32) (sitofp (F := Ideal) .f32 (constantI S_ 32 0#32)) pads_S8_S128_01200 h_S_ : Vec Ideal S128 .f32) shapeCasts_S128_S1x128 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results
  rfl

/-- What the host hands the kernel: the norm's scales as one row. -/
theorem V_v7 (c : Dev nD) : V m c main_v7 =
    shapeCast S1x1024 (m ((c : Thread nD τ).loc main_arg1) : Vec Ideal S1024 .f32) shapeCasts_S1024_S1x1024 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results
  rfl

/-- The windows' block indices at each of the 32 points. -/
theorem index0 : ∀ t : Fin grid0.N, win0_0.index t 0 = t.val ∧ win0_0.index t 1 = 0 := by decide +kernel
/-- Window 1 takes the whole array at each grid point. -/
theorem index1 : ∀ t : Fin grid0.N, win0_1.index t 0 = 0 ∧ win0_1.index t 1 = 0 := by decide +kernel
/-- Window 2 takes the whole array at each grid point. -/
theorem index2 : ∀ t : Fin grid0.N, win0_2.index t 0 = 0 ∧ win0_2.index t 1 = 0 := by decide +kernel
/-- Window 3 takes the whole array at each grid point. -/
theorem index3 : ∀ t : Fin grid0.N, win0_3.index t 0 = 0 ∧ win0_3.index t 1 = 0 := by decide +kernel
/-- Window 4 takes the whole array at each grid point. -/
theorem index4 : ∀ t : Fin grid0.N, win0_4.index t 0 = 0 ∧ win0_4.index t 1 = 0 := by decide +kernel
/-- Window 5 takes, at each grid point, the point's own block of rows. -/
theorem index5 : ∀ t : Fin grid0.N, win0_5.index t 0 = t.val ∧ win0_5.index t 1 = 0 := by decide +kernel
/-- Window 6 takes, at each grid point, the point's own block of rows. -/
theorem index6 : ∀ t : Fin grid0.N, win0_6.index t 0 = t.val ∧ win0_6.index t 1 = 0 := by decide +kernel
/-- Window 7 takes, at each grid point, the point's own block of rows. -/
theorem index7 : ∀ t : Fin grid0.N, win0_7.index t 0 = t.val ∧ win0_7.index t 1 = 0 := by decide +kernel
/-- Window 8 takes, at each grid point, the point's own block of rows. -/
theorem index8 : ∀ t : Fin grid0.N, win0_8.index t 0 = t.val ∧ win0_8.index t 1 = 0 := by decide +kernel
/-- Window 9 takes, at each grid point, the point's own block of rows. -/
theorem index9 : ∀ t : Fin grid0.N, win0_9.index t 0 = t.val ∧ win0_9.index t 1 = 0 := by decide +kernel
/-- Window 10 takes, at each grid point, the point's own block of rows. -/
theorem index10 : ∀ t : Fin grid0.N, win0_10.index t 0 = t.val ∧ win0_10.index t 1 = 0 := by decide +kernel
/-- Window 11 takes, at each grid point, the point's own block of rows. -/
theorem index11 : ∀ t : Fin grid0.N, win0_11.index t 0 = t.val ∧ win0_11.index t 1 = 0 := by decide +kernel
/-- Window 12 takes, at each grid point, the point's own block of rows. -/
theorem index12 : ∀ t : Fin grid0.N, win0_12.index t 0 = t.val ∧ win0_12.index t 1 = 0 := by decide +kernel

/-- The array row that row `r` of point `t`'s block is. -/
def row (t : Fin cfg0.N) (r : Fin 512) : Fin 16384 := ⟨512 * t.val + r.val, by have := t.isLt; have h : cfg0.N = 32 := N_0; omega⟩

/-- The block of the rows, element by element, as the argument's. -/
theorem iblk0_apply (c : Dev nD) (t : Fin cfg0.N) (r : Fin 512) (d : Fin 1024) :
    (iblk m c 0 t : Vec Ideal S512x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 512 + 1 * r.val = 512 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v7 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v7) e).trans ?_
  rw [V_v7]
  pointwise

/-- The block of the weights of the first 2560 columns, element by element, as the argument's. -/
theorem iblk2_apply (c : Dev nD) (t : Fin cfg0.N) (k : Fin 1024) (j : Fin 2560) :
    (iblk m c 2 t : Vec Ideal S1024x2560 .bf16) (ix2 k j) = argW m c k ⟨j.val, by omega⟩ := by
  have hi := index2 t
  unfold iblk
  rw [View.read_apply]
  show V m c main_v1 _ = _
  have e : (((cfg0.win 2).blk t).view.emb (ix2 k j : S1024x2560.Idx)) = (ix2 k j : S1024x2560.Idx) := by
    funext a
    apply Fin.ext
    match a with
    | ⟨0, _⟩ => show win0_2.index t 0 * 1024 + 1 * k.val = k.val; omega
    | ⟨1, _⟩ => show win0_2.index t 1 * 2560 + 1 * j.val = j.val; omega
  refine (congrArg (V m c main_v1) e).trans ?_
  rw [V_v1]
  exact host_w _ k j

/-- The block of the log gates' weights, element by element, as the argument's. -/
theorem iblk3_apply (c : Dev nD) (t : Fin cfg0.N) (k : Fin 1024) (d : Fin 8) :
    (iblk m c 3 t : Vec Ideal S1024x128 .bf16) (ix2 k (⟨d.val, by omega⟩ : Fin 128)) = argW m c k ⟨2560 + d.val, by omega⟩ := by
  have hi := index3 t
  unfold iblk
  rw [View.read_apply]
  show V m c main_v4 _ = _
  have e : (((cfg0.win 3).blk t).view.emb (ix2 k (⟨d.val, by omega⟩ : Fin 128) : S1024x128.Idx)) = (ix2 k (⟨d.val, by omega⟩ : Fin 128) : S1024x128.Idx) := by
    funext a
    apply Fin.ext
    match a with
    | ⟨0, _⟩ => show win0_3.index t 0 * 1024 + 1 * k.val = k.val; omega
    | ⟨1, _⟩ => show win0_3.index t 1 * 128 + 1 * d.val = d.val; omega
  refine (congrArg (V m c main_v4) e).trans ?_
  rw [V_v4]
  exact host_wf _ _ k d

/-- The block of the log gates' biases, element by element, as the argument's. -/
theorem iblk4_apply (c : Dev nD) (t : Fin cfg0.N) (d : Fin 8) :
    (iblk m c 4 t : Vec Ideal S1x128 .f32) (ix2 0 (⟨d.val, by omega⟩ : Fin 128)) = argB m c d := by
  have hi := index4 t
  unfold iblk
  rw [View.read_apply]
  show V m c main_v6 _ = _
  have e : (((cfg0.win 4).blk t).view.emb (ix2 0 (⟨d.val, by omega⟩ : Fin 128) : S1x128.Idx)) = (ix2 0 (⟨d.val, by omega⟩ : Fin 128) : S1x128.Idx) := by
    funext a
    apply Fin.ext
    match a with
    | ⟨0, _⟩ => show win0_4.index t 0 * 1 + 1 * 0 = 0; omega
    | ⟨1, _⟩ => show win0_4.index t 1 * 128 + 1 * d.val = d.val; omega
  refine (congrArg (V m c main_v6) e).trans ?_
  rw [V_v6]
  exact host_bf _ _ d

/-- The product of the normalized row `r` of device `c`'s input with column `j` of its weights. -/
def product (c : Dev nD) (r : Fin 16384) (j : Fin 2568) : EReal := productAt (argX m c r) (argG m c) (argW m c) j

/-! ## The mixing inputs (window 5) -/

/-- The mixing inputs as an array of device `c`'s arguments. -/
def result5 (c : Dev nD) : Vec Ideal S16384x512 .f32 :=
  fun i => product m c (i 0) ⟨0 + (i 1 : Fin 512).val, by have h : (i 1 : Fin 512).val < 512 := (i 1 : Fin 512).isLt; omega⟩

/-- A point's block of window 5, element by element. -/
theorem block5_apply (c : Dev nD) (t : Fin cfg0.N) (r d : Fin 512) :
    k0_pay5 (F := Ideal) (iblk m c 0 t : Vec Ideal S512x1024 .f32) (iblk m c 1 t : Vec Ideal S1x1024 .f32) (View.ld (iblk m c 2 t : Vec Ideal S1024x2560 .bf16) (Rect.unit (s := S1024x2560) ![0, 0] S1024x512.size inb_S1024x2560_S1024x512_0_0)) (ix2 r d)
      = product m c (row t r) ⟨0 + d.val, by omega⟩ := by
  rw [pay5_apply]
  unfold product productAt
  simp only [iblk0_apply, iblk1_apply]
  exact Finset.sum_congr rfl fun k _ => congrArg (normed (argX m c (row t r)) (argG m c) k * ·) ((cols0_apply _ k d).trans (iblk2_apply m c t k _))

/-- What point `t` writes back to window 5's array is its block of the mixing inputs. -/
theorem flushed5_eq (c : Dev nD) (t : Fin cfg0.N) :
    (dats m 0 c).flushed 5 t = ((cfg0.win 5).blk t).view.read (Elt Ideal) (result5 m c) := by
  have hi := index5 t
  rw [written5]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block5_apply m c t r d).trans ?_
  have e : (((cfg0.win 5).blk t).view.emb (ix2 r d : S512x512.Idx)) = (ix2 (row t r) d : S16384x512.Idx) := by
    funext a
    apply Fin.ext
    match a with
    | ⟨0, _⟩ => show win0_5.index t 0 * 512 + 1 * r.val = 512 * t.val + r.val; omega
    | ⟨1, _⟩ => show win0_5.index t 1 * 512 + 1 * d.val = d.val; omega
  exact (congrArg (result5 m c) e).symm

/-- The thirty-two blocks cover the array of the mixing inputs. -/
theorem cover5 (i : S16384x512.Idx) : ∃ t : Fin cfg0.N, (cfg0.win 5).flush t = true ∧ i ∈ ((cfg0.win 5).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_5 _, ?_⟩
  have hi := index5 ⟨(i 0 : Nat) / 512, ht⟩
  have hx : ∀ t : Fin grid0.N, win0_5.xsize (grid0.coords t) 0 = 512 ∧ win0_5.xsize (grid0.coords t) 1 = 512 := by decide +kernel
  have hx := hx ⟨(i 0 : Nat) / 512, ht⟩
  show i ∈ ((View.whole main_v8_0).slice (win0_5.rect ⟨(i 0 : Nat) / 512, ht⟩)).set
  rw [View.set_slice_whole, Rect.mem_set_unit]
  intro a
  match a with
  | ⟨0, _⟩ =>
    show win0_5.index ⟨(i 0 : Nat) / 512, ht⟩ 0 * 512 ≤ (i 0 : Nat) ∧ (i 0 : Nat) < win0_5.index ⟨(i 0 : Nat) / 512, ht⟩ 0 * 512 + win0_5.xsize (grid0.coords ⟨(i 0 : Nat) / 512, ht⟩) 0
    rw [hi.1, hx.1]
    dsimp only
    omega
  | ⟨1, _⟩ =>
    show win0_5.index ⟨(i 0 : Nat) / 512, ht⟩ 1 * 512 ≤ (i 1 : Nat) ∧ (i 1 : Nat) < win0_5.index ⟨(i 0 : Nat) / 512, ht⟩ 1 * 512 + win0_5.xsize (grid0.coords ⟨(i 0 : Nat) / 512, ht⟩) 1
    rw [hi.2, hx.2]
    omega

/-- After the run window 5's array holds the mixing inputs. -/
theorem final5 (c : Dev nD) : (dats m 0 c).arrAt 5 cfg0.N = result5 m c :=
  (dats m 0 c).arrAt_eq_of_cover 5 (result5 m c) (fun t _ => flushed5_eq m c t) cover5

/-! ## The gates (window 6) -/

/-- The gates as an array of device `c`'s arguments. -/
def result6 (c : Dev nD) : Vec Ideal S16384x512 .f32 :=
  fun i => product m c (i 0) ⟨512 + (i 1 : Fin 512).val, by have h : (i 1 : Fin 512).val < 512 := (i 1 : Fin 512).isLt; omega⟩

/-- A point's block of window 6, element by element. -/
theorem block6_apply (c : Dev nD) (t : Fin cfg0.N) (r d : Fin 512) :
    k0_pay6 (F := Ideal) (iblk m c 0 t : Vec Ideal S512x1024 .f32) (iblk m c 1 t : Vec Ideal S1x1024 .f32) (View.ld (iblk m c 2 t : Vec Ideal S1024x2560 .bf16) (Rect.unit (s := S1024x2560) ![0, 512] S1024x512.size inb_S1024x2560_S1024x512_0_512)) (ix2 r d)
      = product m c (row t r) ⟨512 + d.val, by omega⟩ := by
  rw [pay6_apply]
  unfold product productAt
  simp only [iblk0_apply, iblk1_apply]
  exact Finset.sum_congr rfl fun k _ => congrArg (normed (argX m c (row t r)) (argG m c) k * ·) ((cols512_apply _ k d).trans (iblk2_apply m c t k _))

/-- What point `t` writes back to window 6's array is its block of the gates. -/
theorem flushed6_eq (c : Dev nD) (t : Fin cfg0.N) :
    (dats m 0 c).flushed 6 t = ((cfg0.win 6).blk t).view.read (Elt Ideal) (result6 m c) := by
  have hi := index6 t
  rw [written6]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block6_apply m c t r d).trans ?_
  have e : (((cfg0.win 6).blk t).view.emb (ix2 r d : S512x512.Idx)) = (ix2 (row t r) d : S16384x512.Idx) := by
    funext a
    apply Fin.ext
    match a with
    | ⟨0, _⟩ => show win0_6.index t 0 * 512 + 1 * r.val = 512 * t.val + r.val; omega
    | ⟨1, _⟩ => show win0_6.index t 1 * 512 + 1 * d.val = d.val; omega
  exact (congrArg (result6 m c) e).symm

/-- The thirty-two blocks cover the array of the gates. -/
theorem cover6 (i : S16384x512.Idx) : ∃ t : Fin cfg0.N, (cfg0.win 6).flush t = true ∧ i ∈ ((cfg0.win 6).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_6 _, ?_⟩
  have hi := index6 ⟨(i 0 : Nat) / 512, ht⟩
  have hx : ∀ t : Fin grid0.N, win0_6.xsize (grid0.coords t) 0 = 512 ∧ win0_6.xsize (grid0.coords t) 1 = 512 := by decide +kernel
  have hx := hx ⟨(i 0 : Nat) / 512, ht⟩
  show i ∈ ((View.whole main_v8_1).slice (win0_6.rect ⟨(i 0 : Nat) / 512, ht⟩)).set
  rw [View.set_slice_whole, Rect.mem_set_unit]
  intro a
  match a with
  | ⟨0, _⟩ =>
    show win0_6.index ⟨(i 0 : Nat) / 512, ht⟩ 0 * 512 ≤ (i 0 : Nat) ∧ (i 0 : Nat) < win0_6.index ⟨(i 0 : Nat) / 512, ht⟩ 0 * 512 + win0_6.xsize (grid0.coords ⟨(i 0 : Nat) / 512, ht⟩) 0
    rw [hi.1, hx.1]
    dsimp only
    omega
  | ⟨1, _⟩ =>
    show win0_6.index ⟨(i 0 : Nat) / 512, ht⟩ 1 * 512 ≤ (i 1 : Nat) ∧ (i 1 : Nat) < win0_6.index ⟨(i 0 : Nat) / 512, ht⟩ 1 * 512 + win0_6.xsize (grid0.coords ⟨(i 0 : Nat) / 512, ht⟩) 1
    rw [hi.2, hx.2]
    omega

/-- After the run window 6's array holds the gates. -/
theorem final6 (c : Dev nD) : (dats m 0 c).arrAt 6 cfg0.N = result6 m c :=
  (dats m 0 c).arrAt_eq_of_cover 6 (result6 m c) (fun t _ => flushed6_eq m c t) cover6

/-! ## The scaled queries (window 7) -/

/-- The scaled queries as an array of device `c`'s arguments. -/
def result7 (c : Dev nD) : Vec Ideal S16384x512 .bf16 :=
  fun i => product m c (i 0) ⟨1024 + (i 1 : Fin 512).val, by have h : (i 1 : Fin 512).val < 512 := (i 1 : Fin 512).isLt; omega⟩ * eighth

/-- A point's block of window 7, element by element. -/
theorem block7_apply (c : Dev nD) (t : Fin cfg0.N) (r d : Fin 512) :
    k0_pay7 (F := Ideal) (iblk m c 0 t : Vec Ideal S512x1024 .f32) (iblk m c 1 t : Vec Ideal S1x1024 .f32) (View.ld (iblk m c 2 t : Vec Ideal S1024x2560 .bf16) (Rect.unit (s := S1024x2560) ![0, 1024] S1024x512.size inb_S1024x2560_S1024x512_0_1024)) (ix2 r d)
      = product m c (row t r) ⟨1024 + d.val, by omega⟩ * eighth := by
  rw [pay7_apply]
  unfold product productAt
  simp only [iblk0_apply, iblk1_apply]
  exact congrArg (· * eighth) (Finset.sum_congr rfl fun k _ => congrArg (normed (argX m c (row t r)) (argG m c) k * ·) ((cols1024_apply _ k d).trans (iblk2_apply m c t k _)))

/-- What point `t` writes back to window 7's array is its block of the scaled queries. -/
theorem flushed7_eq (c : Dev nD) (t : Fin cfg0.N) :
    (dats m 0 c).flushed 7 t = ((cfg0.win 7).blk t).view.read (Elt Ideal) (result7 m c) := by
  have hi := index7 t
  rw [written7]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block7_apply m c t r d).trans ?_
  have e : (((cfg0.win 7).blk t).view.emb (ix2 r d : S512x512.Idx)) = (ix2 (row t r) d : S16384x512.Idx) := by
    funext a
    apply Fin.ext
    match a with
    | ⟨0, _⟩ => show win0_7.index t 0 * 512 + 1 * r.val = 512 * t.val + r.val; omega
    | ⟨1, _⟩ => show win0_7.index t 1 * 512 + 1 * d.val = d.val; omega
  exact (congrArg (result7 m c) e).symm

/-- The thirty-two blocks cover the array of the scaled queries. -/
theorem cover7 (i : S16384x512.Idx) : ∃ t : Fin cfg0.N, (cfg0.win 7).flush t = true ∧ i ∈ ((cfg0.win 7).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_7 _, ?_⟩
  have hi := index7 ⟨(i 0 : Nat) / 512, ht⟩
  have hx : ∀ t : Fin grid0.N, win0_7.xsize (grid0.coords t) 0 = 512 ∧ win0_7.xsize (grid0.coords t) 1 = 512 := by decide +kernel
  have hx := hx ⟨(i 0 : Nat) / 512, ht⟩
  show i ∈ ((View.whole main_v8_2).slice (win0_7.rect ⟨(i 0 : Nat) / 512, ht⟩)).set
  rw [View.set_slice_whole, Rect.mem_set_unit]
  intro a
  match a with
  | ⟨0, _⟩ =>
    show win0_7.index ⟨(i 0 : Nat) / 512, ht⟩ 0 * 512 ≤ (i 0 : Nat) ∧ (i 0 : Nat) < win0_7.index ⟨(i 0 : Nat) / 512, ht⟩ 0 * 512 + win0_7.xsize (grid0.coords ⟨(i 0 : Nat) / 512, ht⟩) 0
    rw [hi.1, hx.1]
    dsimp only
    omega
  | ⟨1, _⟩ =>
    show win0_7.index ⟨(i 0 : Nat) / 512, ht⟩ 1 * 512 ≤ (i 1 : Nat) ∧ (i 1 : Nat) < win0_7.index ⟨(i 0 : Nat) / 512, ht⟩ 1 * 512 + win0_7.xsize (grid0.coords ⟨(i 0 : Nat) / 512, ht⟩) 1
    rw [hi.2, hx.2]
    omega

/-- After the run window 7's array holds the scaled queries. -/
theorem final7 (c : Dev nD) : (dats m 0 c).arrAt 7 cfg0.N = result7 m c :=
  (dats m 0 c).arrAt_eq_of_cover 7 (result7 m c) (fun t _ => flushed7_eq m c t) cover7

/-! ## The keys (window 8) -/

/-- The keys as an array of device `c`'s arguments. -/
def result8 (c : Dev nD) : Vec Ideal S16384x512 .f32 :=
  fun i => product m c (i 0) ⟨1536 + (i 1 : Fin 512).val, by have h : (i 1 : Fin 512).val < 512 := (i 1 : Fin 512).isLt; omega⟩

/-- A point's block of window 8, element by element. -/
theorem block8_apply (c : Dev nD) (t : Fin cfg0.N) (r d : Fin 512) :
    k0_pay8 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 1536] S1024x512.size inb_S1024x2560_S1024x512_0_1536)) (ix2 r d)
      = product m c (row t r) ⟨1536 + d.val, by omega⟩ := by
  rw [pay8_apply]
  unfold product productAt
  simp only [pay4_apply, iblk0_apply, iblk1_apply]
  exact Finset.sum_congr rfl fun k _ => congrArg (normed (argX m c (row t r)) (argG m c) k * ·) ((cols1536_apply _ k d).trans (iblk2_apply m c t k _))

/-- What point `t` writes back to window 8's array is its block of the keys. -/
theorem flushed8_eq (c : Dev nD) (t : Fin cfg0.N) :
    (dats m 0 c).flushed 8 t = ((cfg0.win 8).blk t).view.read (Elt Ideal) (result8 m c) := by
  have hi := index8 t
  rw [written8]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block8_apply m c t r d).trans ?_
  have e : (((cfg0.win 8).blk t).view.emb (ix2 r d : S512x512.Idx)) = (ix2 (row t r) d : S16384x512.Idx) := by
    funext a
    apply Fin.ext
    match a with
    | ⟨0, _⟩ => show win0_8.index t 0 * 512 + 1 * r.val = 512 * t.val + r.val; omega
    | ⟨1, _⟩ => show win0_8.index t 1 * 512 + 1 * d.val = d.val; omega
  exact (congrArg (result8 m c) e).symm

/-- The thirty-two blocks cover the array of the keys. -/
theorem cover8 (i : S16384x512.Idx) : ∃ t : Fin cfg0.N, (cfg0.win 8).flush t = true ∧ i ∈ ((cfg0.win 8).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_8 _, ?_⟩
  have hi := index8 ⟨(i 0 : Nat) / 512, ht⟩
  have hx : ∀ t : Fin grid0.N, win0_8.xsize (grid0.coords t) 0 = 512 ∧ win0_8.xsize (grid0.coords t) 1 = 512 := by decide +kernel
  have hx := hx ⟨(i 0 : Nat) / 512, ht⟩
  show i ∈ ((View.whole main_v8_3).slice (win0_8.rect ⟨(i 0 : Nat) / 512, ht⟩)).set
  rw [View.set_slice_whole, Rect.mem_set_unit]
  intro a
  match a with
  | ⟨0, _⟩ =>
    show win0_8.index ⟨(i 0 : Nat) / 512, ht⟩ 0 * 512 ≤ (i 0 : Nat) ∧ (i 0 : Nat) < win0_8.index ⟨(i 0 : Nat) / 512, ht⟩ 0 * 512 + win0_8.xsize (grid0.coords ⟨(i 0 : Nat) / 512, ht⟩) 0
    rw [hi.1, hx.1]
    dsimp only
    omega
  | ⟨1, _⟩ =>
    show win0_8.index ⟨(i 0 : Nat) / 512, ht⟩ 1 * 512 ≤ (i 1 : Nat) ∧ (i 1 : Nat) < win0_8.index ⟨(i 0 : Nat) / 512, ht⟩ 1 * 512 + win0_8.xsize (grid0.coords ⟨(i 0 : Nat) / 512, ht⟩) 1
    rw [hi.2, hx.2]
    omega

/-- After the run window 8's array holds the keys. -/
theorem final8 (c : Dev nD) : (dats m 0 c).arrAt 8 cfg0.N = result8 m c :=
  (dats m 0 c).arrAt_eq_of_cover 8 (result8 m c) (fun t _ => flushed8_eq m c t) cover8

/-! ## The values (window 9) -/

/-- The values as an array of device `c`'s arguments. -/
def result9 (c : Dev nD) : Vec Ideal S16384x512 .f32 :=
  fun i => product m c (i 0) ⟨2048 + (i 1 : Fin 512).val, by have h : (i 1 : Fin 512).val < 512 := (i 1 : Fin 512).isLt; omega⟩

/-- A point's block of window 9, element by element. -/
theorem block9_apply (c : Dev nD) (t : Fin cfg0.N) (r d : Fin 512) :
    k0_pay9 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 2048] S1024x512.size inb_S1024x2560_S1024x512_0_2048)) (ix2 r d)
      = product m c (row t r) ⟨2048 + d.val, by omega⟩ := by
  rw [pay9_apply]
  unfold product productAt
  simp only [pay4_apply, iblk0_apply, iblk1_apply]
  exact Finset.sum_congr rfl fun k _ => congrArg (normed (argX m c (row t r)) (argG m c) k * ·) ((cols2048_apply _ k d).trans (iblk2_apply m c t k _))

/-- What point `t` writes back to window 9's array is its block of the values. -/
theorem flushed9_eq (c : Dev nD) (t : Fin cfg0.N) :
    (dats m 0 c).flushed 9 t = ((cfg0.win 9).blk t).view.read (Elt Ideal) (result9 m c) := by
  have hi := index9 t
  rw [written9]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block9_apply m c t r d).trans ?_
  have e : (((cfg0.win 9).blk t).view.emb (ix2 r d : S512x512.Idx)) = (ix2 (row t r) d : S16384x512.Idx) := by
    funext a
    apply Fin.ext
    match a with
    | ⟨0, _⟩ => show win0_9.index t 0 * 512 + 1 * r.val = 512 * t.val + r.val; omega
    | ⟨1, _⟩ => show win0_9.index t 1 * 512 + 1 * d.val = d.val; omega
  exact (congrArg (result9 m c) e).symm

/-- The thirty-two blocks cover the array of the values. -/
theorem cover9 (i : S16384x512.Idx) : ∃ t : Fin cfg0.N, (cfg0.win 9).flush t = true ∧ i ∈ ((cfg0.win 9).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_9 _, ?_⟩
  have hi := index9 ⟨(i 0 : Nat) / 512, ht⟩
  have hx : ∀ t : Fin grid0.N, win0_9.xsize (grid0.coords t) 0 = 512 ∧ win0_9.xsize (grid0.coords t) 1 = 512 := by decide +kernel
  have hx := hx ⟨(i 0 : Nat) / 512, ht⟩
  show i ∈ ((View.whole main_v8_4).slice (win0_9.rect ⟨(i 0 : Nat) / 512, ht⟩)).set
  rw [View.set_slice_whole, Rect.mem_set_unit]
  intro a
  match a with
  | ⟨0, _⟩ =>
    show win0_9.index ⟨(i 0 : Nat) / 512, ht⟩ 0 * 512 ≤ (i 0 : Nat) ∧ (i 0 : Nat) < win0_9.index ⟨(i 0 : Nat) / 512, ht⟩ 0 * 512 + win0_9.xsize (grid0.coords ⟨(i 0 : Nat) / 512, ht⟩) 0
    rw [hi.1, hx.1]
    dsimp only
    omega
  | ⟨1, _⟩ =>
    show win0_9.index ⟨(i 0 : Nat) / 512, ht⟩ 1 * 512 ≤ (i 1 : Nat) ∧ (i 1 : Nat) < win0_9.index ⟨(i 0 : Nat) / 512, ht⟩ 1 * 512 + win0_9.xsize (grid0.coords ⟨(i 0 : Nat) / 512, ht⟩) 1
    rw [hi.2, hx.2]
    omega

/-- After the run window 9's array holds the values. -/
theorem final9 (c : Dev nD) : (dats m 0 c).arrAt 9 cfg0.N = result9 m c :=
  (dats m 0 c).arrAt_eq_of_cover 9 (result9 m c) (fun t _ => flushed9_eq m c t) cover9

/-! ## The log gates (window 10) -/

/-- The log gates as an array of device `c`'s arguments. -/
def result10 (c : Dev nD) : Vec Ideal S16384x8 .f32 :=
  fun i => logSigmoid (product m c (i 0) ⟨2560 + (i 1 : Fin 8).val, by have h : (i 1 : Fin 8).val < 8 := (i 1 : Fin 8).isLt; omega⟩ + argB m c (i 1))

/-- A point's block of window 10, element by element. -/
theorem block10_apply (c : Dev nD) (t : Fin cfg0.N) (r : Fin 512) (d : Fin 8) :
    k0_pay11 (F := Ideal) (k0_pay4 (iblk m c 0 t : Vec Ideal S512x1024 .f32) (iblk m c 1 t : Vec Ideal S1x1024 .f32)) (iblk m c 3 t : Vec Ideal S1024x128 .bf16) (iblk m c 4 t : Vec Ideal S1x128 .f32) (ix2 r d)
      = logSigmoid (product m c (row t r) ⟨2560 + d.val, by omega⟩ + argB m c d) := by
  rw [pay11_apply]
  unfold product productAt
  simp only [pay4_apply, iblk0_apply, iblk1_apply, iblk4_apply]
  exact congrArg (fun s => logSigmoid (s + argB m c d)) (Finset.sum_congr rfl fun k _ => congrArg (normed (argX m c (row t r)) (argG m c) k * ·) (iblk3_apply m c t k d))

/-- What point `t` writes back to window 10's array is its block of the log gates. -/
theorem flushed10_eq (c : Dev nD) (t : Fin cfg0.N) :
    (dats m 0 c).flushed 10 t = ((cfg0.win 10).blk t).view.read (Elt Ideal) (result10 m c) := by
  have hi := index10 t
  rw [written10]
  funext j
  rw [View.read_apply]
  obtain ⟨r, d, rfl⟩ : ∃ (r : Fin 512) (d : Fin 8), j = (ix2 r d : S512x8.Idx) := ⟨j 0, j 1, eq_ix2 (n0 := 512) (n1 := 8) j⟩
  refine (block10_apply m c t r d).trans ?_
  have e : (((cfg0.win 10).blk t).view.emb (ix2 r d : S512x8.Idx)) = (ix2 (row t r) d : S16384x8.Idx) := by
    funext a
    apply Fin.ext
    match a with
    | ⟨0, _⟩ => show win0_10.index t 0 * 512 + 1 * r.val = 512 * t.val + r.val; omega
    | ⟨1, _⟩ => show win0_10.index t 1 * 8 + 1 * d.val = d.val; omega
  exact (congrArg (result10 m c) e).symm

/-- The thirty-two blocks cover the array of the log gates. -/
theorem cover10 (i : S16384x8.Idx) : ∃ t : Fin cfg0.N, (cfg0.win 10).flush t = true ∧ i ∈ ((cfg0.win 10).blk t).view.set := by
  have h0 : (i 0 : Nat) < 16384 := (i 0).isLt
  have h1 : (i 1 : Nat) < 8 := (i 1).isLt
  have hN : cfg0.N = 32 := N_0
  have ht : (i 0 : Nat) / 512 < cfg0.N := by omega
  refine ⟨⟨(i 0 : Nat) / 512, ht⟩, flush0_10 _, ?_⟩
  have hi := index10 ⟨(i 0 : Nat) / 512, ht⟩
  have hx : ∀ t : Fin grid0.N, win0_10.xsize (grid0.coords t) 0 = 512 ∧ win0_10.xsize (grid0.coords t) 1 = 8 := by decide +kernel
  have hx := hx ⟨(i 0 : Nat) / 512, ht⟩
  show i ∈ ((View.whole main_v8_5).slice (win0_10.rect ⟨(i 0 : Nat) / 512, ht⟩)).set
  rw [View.set_slice_whole, Rect.mem_set_unit]
  intro a
  match a with
  | ⟨0, _⟩ =>
    show win0_10.index ⟨(i 0 : Nat) / 512, ht⟩ 0 * 512 ≤ (i 0 : Nat) ∧ (i 0 : Nat) < win0_10.index ⟨(i 0 : Nat) / 512, ht⟩ 0 * 512 + win0_10.xsize (grid0.coords ⟨(i 0 : Nat) / 512, ht⟩) 0
    rw [hi.1, hx.1]
    dsimp only
    omega
  | ⟨1, _⟩ =>
    show win0_10.index ⟨(i 0 : Nat) / 512, ht⟩ 1 * 8 ≤ (i 1 : Nat) ∧ (i 1 : Nat) < win0_10.index ⟨(i 0 : Nat) / 512, ht⟩ 1 * 8 + win0_10.xsize (grid0.coords ⟨(i 0 : Nat) / 512, ht⟩) 1
    rw [hi.2, hx.2]
    omega

/-- After the run window 10's array holds the log gates. -/
theorem final10 (c : Dev nD) : (dats m 0 c).arrAt 10 cfg0.N = result10 m c :=
  (dats m 0 c).arrAt_eq_of_cover 10 (result10 m c) (fun t _ => flushed10_eq m c t) cover10

/-! ## The narrowed keys (window 11) -/

/-- The narrowed keys as an array of device `c`'s arguments. -/
def result11 (c : Dev nD) : Vec Ideal S16384x512 .bf16 :=
  fun i => product m c (i 0) ⟨1536 + (i 1 : Fin 512).val, by have h : (i 1 : Fin 512).val < 512 := (i 1 : Fin 512).isLt; omega⟩

/-- A point's block of window 11, element by element. -/
theorem block11_apply (c : Dev nD) (t : Fin cfg0.N) (r d : Fin 512) :
    k0_pay12 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 1536] S1024x512.size inb_S1024x2560_S1024x512_0_1536)) (ix2 r d)
      = product m c (row t r) ⟨1536 + d.val, by omega⟩ := by
  rw [pay12_apply]
  unfold product productAt
  simp only [pay4_apply, iblk0_apply, iblk1_apply]
  exact Finset.sum_congr rfl fun k _ => congrArg (normed (argX m c (row t r)) (argG m c) k * ·) ((cols1536_apply _ k d).trans (iblk2_apply m c t k _))

/-- What point `t` writes back to window 11's array is its block of the narrowed keys. -/
theorem flushed11_eq (c : Dev nD) (t : Fin cfg0.N) :
    (dats m 0 c).flushed 11 t = ((cfg0.win 11).blk t).view.read (Elt Ideal) (result11 m c) := by
  have hi := index11 t
  rw [written11]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block11_apply m c t r d).trans ?_
  have e : (((cfg0.win 11).blk t).view.emb (ix2 r d : S512x512.Idx)) = (ix2 (row t r) d : S16384x512.Idx) := by
    funext a
    apply Fin.ext
    match a with
    | ⟨0, _⟩ => show win0_11.index t 0 * 512 + 1 * r.val = 512 * t.val + r.val; omega
    | ⟨1, _⟩ => show win0_11.index t 1 * 512 + 1 * d.val = d.val; omega
  exact (congrArg (result11 m c) e).symm

/-- The thirty-two blocks cover the array of the narrowed keys. -/
theorem cover11 (i : S16384x512.Idx) : ∃ t : Fin cfg0.N, (cfg0.win 11).flush t = true ∧ i ∈ ((cfg0.win 11).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_11 _, ?_⟩
  have hi := index11 ⟨(i 0 : Nat) / 512, ht⟩
  have hx : ∀ t : Fin grid0.N, win0_11.xsize (grid0.coords t) 0 = 512 ∧ win0_11.xsize (grid0.coords t) 1 = 512 := by decide +kernel
  have hx := hx ⟨(i 0 : Nat) / 512, ht⟩
  show i ∈ ((View.whole main_v8_6).slice (win0_11.rect ⟨(i 0 : Nat) / 512, ht⟩)).set
  rw [View.set_slice_whole, Rect.mem_set_unit]
  intro a
  match a with
  | ⟨0, _⟩ =>
    show win0_11.index ⟨(i 0 : Nat) / 512, ht⟩ 0 * 512 ≤ (i 0 : Nat) ∧ (i 0 : Nat) < win0_11.index ⟨(i 0 : Nat) / 512, ht⟩ 0 * 512 + win0_11.xsize (grid0.coords ⟨(i 0 : Nat) / 512, ht⟩) 0
    rw [hi.1, hx.1]
    dsimp only
    omega
  | ⟨1, _⟩ =>
    show win0_11.index ⟨(i 0 : Nat) / 512, ht⟩ 1 * 512 ≤ (i 1 : Nat) ∧ (i 1 : Nat) < win0_11.index ⟨(i 0 : Nat) / 512, ht⟩ 1 * 512 + win0_11.xsize (grid0.coords ⟨(i 0 : Nat) / 512, ht⟩) 1
    rw [hi.2, hx.2]
    omega

/-- After the run window 11's array holds the narrowed keys. -/
theorem final11 (c : Dev nD) : (dats m 0 c).arrAt 11 cfg0.N = result11 m c :=
  (dats m 0 c).arrAt_eq_of_cover 11 (result11 m c) (fun t _ => flushed11_eq m c t) cover11

/-! ## The narrowed values (window 12) -/

/-- The narrowed values as an array of device `c`'s arguments. -/
def result12 (c : Dev nD) : Vec Ideal S16384x512 .bf16 :=
  fun i => product m c (i 0) ⟨2048 + (i 1 : Fin 512).val, by have h : (i 1 : Fin 512).val < 512 := (i 1 : Fin 512).isLt; omega⟩

/-- A point's block of window 12, element by element. -/
theorem block12_apply (c : Dev nD) (t : Fin cfg0.N) (r d : Fin 512) :
    k0_pay13 (F := Ideal) (k0_pay4 (iblk m c 0 t : Vec Ideal S512x1024 .f32) (iblk m c 1 t : Vec Ideal S1x1024 .f32)) (View.ld (iblk m c 2 t : Vec Ideal S1024x2560 .bf16) (Rect.unit (s := S1024x2560) ![0, 2048] S1024x512.size inb_S1024x2560_S1024x512_0_2048)) (ix2 r d)
      = product m c (row t r) ⟨2048 + d.val, by omega⟩ := by
  rw [pay13_apply]
  unfold product productAt
  simp only [pay4_apply, iblk0_apply, iblk1_apply]
  exact Finset.sum_congr rfl fun k _ => congrArg (normed (argX m c (row t r)) (argG m c) k * ·) ((cols2048_apply _ k d).trans (iblk2_apply m c t k _))

/-- What point `t` writes back to window 12's array is its block of the narrowed values. -/
theorem flushed12_eq (c : Dev nD) (t : Fin cfg0.N) :
    (dats m 0 c).flushed 12 t = ((cfg0.win 12).blk t).view.read (Elt Ideal) (result12 m c) := by
  have hi := index12 t
  rw [written12]
  funext j
  rw [View.read_apply]
  obtain ⟨r, d, rfl⟩ : ∃ (r : Fin 512) (d : Fin 512), j = (ix2 r d : S512x512.Idx) := ⟨j 0, j 1, eq_ix2 (n0 := 512) (n1 := 512) j⟩
  refine (block12_apply m c t r d).trans ?_
  have e : (((cfg0.win 12).blk t).view.emb (ix2 r d : S512x512.Idx)) = (ix2 (row t r) d : S16384x512.Idx) := by
    funext a
    apply Fin.ext
    match a with
    | ⟨0, _⟩ => show win0_12.index t 0 * 512 + 1 * r.val = 512 * t.val + r.val; omega
    | ⟨1, _⟩ => show win0_12.index t 1 * 512 + 1 * d.val = d.val; omega
  exact (congrArg (result12 m c) e).symm

/-- The thirty-two blocks cover the array of the narrowed values. -/
theorem cover12 (i : S16384x512.Idx) : ∃ t : Fin cfg0.N, (cfg0.win 12).flush t = true ∧ i ∈ ((cfg0.win 12).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_12 _, ?_⟩
  have hi := index12 ⟨(i 0 : Nat) / 512, ht⟩
  have hx : ∀ t : Fin grid0.N, win0_12.xsize (grid0.coords t) 0 = 512 ∧ win0_12.xsize (grid0.coords t) 1 = 512 := by decide +kernel
  have hx := hx ⟨(i 0 : Nat) / 512, ht⟩
  show i ∈ ((View.whole main_v8_7).slice (win0_12.rect ⟨(i 0 : Nat) / 512, ht⟩)).set
  rw [View.set_slice_whole, Rect.mem_set_unit]
  intro a
  match a with
  | ⟨0, _⟩ =>
    show win0_12.index ⟨(i 0 : Nat) / 512, ht⟩ 0 * 512 ≤ (i 0 : Nat) ∧ (i 0 : Nat) < win0_12.index ⟨(i 0 : Nat) / 512, ht⟩ 0 * 512 + win0_12.xsize (grid0.coords ⟨(i 0 : Nat) / 512, ht⟩) 0
    rw [hi.1, hx.1]
    dsimp only
    omega
  | ⟨1, _⟩ =>
    show win0_12.index ⟨(i 0 : Nat) / 512, ht⟩ 1 * 512 ≤ (i 1 : Nat) ∧ (i 1 : Nat) < win0_12.index ⟨(i 0 : Nat) / 512, ht⟩ 1 * 512 + win0_12.xsize (grid0.coords ⟨(i 0 : Nat) / 512, ht⟩) 1
    rw [hi.2, hx.2]
    omega

/-- After the run window 12's array holds the narrowed values. -/
theorem final12 (c : Dev nD) : (dats m 0 c).arrAt 12 cfg0.N = result12 m c :=
  (dats m 0 c).arrAt_eq_of_cover 12 (result12 m c) (fun t _ => flushed12_eq m c t) cover12

/-! ## The reference -/

/-- The reference's product, element by element. -/
theorem ref_product (x : Vec Ideal Cert.OddRefIdeal.S16384x1024 .f32) (g : Vec Ideal Cert.OddRefIdeal.S1024 .f32) (w : Vec Ideal Cert.OddRefIdeal.S1024x2568 .f32) (r : Fin 16384) (j : Fin 2568) :
    Cert.OddRefIdeal.Read.val_main_v13 (F := Ideal) x g w (ix2 r j)
      = productAt (fun k => x (ix2 r k)) (fun k => g (ix1 k)) (fun k e => w (ix2 k e)) j := by
  have hn : ∀ k : Fin 1024, Cert.OddRefIdeal.Read.val_main_v12 (F := Ideal) x g (ix2 r k) = normed (fun k => x (ix2 r k)) (fun k => g (ix1 k)) k := by
    intro k
    open Cert.OddRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  pointwise [Cert.OddRefIdeal.Read.val_main_v13]
  simp only [hn]
  rfl

/-- The reference's mixing inputs, element by element. -/
theorem ref5_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v14 (F := Ideal) x g w (ix2 r d)
      = productAt (fun k => x (ix2 r k)) (fun k => g (ix1 k)) (fun k e => w (ix2 k e)) ⟨0 + d.val, by omega⟩ := by
  pointwise [Cert.OddRefIdeal.Read.val_main_v14]
  simp only [ref_product]

/-- The reference's gates, element by element. -/
theorem ref6_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v15 (F := Ideal) x g w (ix2 r d)
      = productAt (fun k => x (ix2 r k)) (fun k => g (ix1 k)) (fun k e => w (ix2 k e)) ⟨512 + d.val, by omega⟩ := by
  pointwise [Cert.OddRefIdeal.Read.val_main_v15]
  simp only [ref_product]

/-- The reference's scaled queries, element by element. -/
theorem ref7_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v26 (F := Ideal) x g w (ix2 r d)
      = productAt (fun k => x (ix2 r k)) (fun k => g (ix1 k)) (fun k e => w (ix2 k e)) ⟨1024 + d.val, by omega⟩ * eighth := by
  pointwise [Cert.OddRefIdeal.Read.val_main_v26, Cert.OddRefIdeal.Read.val_main_v25, Cert.OddRefIdeal.Read.val_main_v24, Cert.OddRefIdeal.Read.val_main_v16, Cert.OddRefIdeal.Read.val_main_cst_2]
  simp only [ref_product]

/-- The reference's keys, element by element. -/
theorem ref8_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v17 (F := Ideal) x g w (ix2 r d)
      = productAt (fun k => x (ix2 r k)) (fun k => g (ix1 k)) (fun k e => w (ix2 k e)) ⟨1536 + d.val, by omega⟩ := by
  pointwise [Cert.OddRefIdeal.Read.val_main_v17]
  simp only [ref_product]

/-- The reference's values, element by element. -/
theorem ref9_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v18 (F := Ideal) x g w (ix2 r d)
      = productAt (fun k => x (ix2 r k)) (fun k => g (ix1 k)) (fun k e => w (ix2 k e)) ⟨2048 + d.val, by omega⟩ := by
  pointwise [Cert.OddRefIdeal.Read.val_main_v18]
  simp only [ref_product]

/-- The reference's narrowed keys, element by element. -/
theorem ref11_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v27 (F := Ideal) x g w (ix2 r d)
      = productAt (fun k => x (ix2 r k)) (fun k => g (ix1 k)) (fun k e => w (ix2 k e)) ⟨1536 + d.val, by omega⟩ := by
  pointwise [Cert.OddRefIdeal.Read.val_main_v27, Cert.OddRefIdeal.Read.val_main_v17]
  simp only [ref_product]

/-- The reference's narrowed values, element by element. -/
theorem ref12_apply (x : Vec Ideal Cert.OddRefIdeal.S16384x1024 .f32) (g : Vec Ideal Cert.OddRefIdeal.S1024 .f32) (w : Vec Ideal Cert.OddRefIdeal.S1024x2568 .f32) (r : Fin 16384) (d : Fin 512) :
    Cert.OddRefIdeal.Read.val_main_v28 (F := Ideal) x g w (ix2 r d)
      = productAt (fun k => x (ix2 r k)) (fun k => g (ix1 k)) (fun k e => w (ix2 k e)) ⟨2048 + d.val, by omega⟩ := by
  pointwise [Cert.OddRefIdeal.Read.val_main_v28, Cert.OddRefIdeal.Read.val_main_v18]
  simp only [ref_product]

/-- The reference's gates before the logistic function, element by element. -/
theorem ref_gate (x : Vec Ideal Cert.OddRefIdeal.S16384x1024 .f32) (g : Vec Ideal Cert.OddRefIdeal.S1024 .f32) (w : Vec Ideal Cert.OddRefIdeal.S1024x2568 .f32) (b : Vec Ideal Cert.OddRefIdeal.S8 .f32) (r : Fin 16384) (d : Fin 8) :
    Cert.OddRefIdeal.Read.val_main_v22 (F := Ideal) x g w b (ix2 r d)
      = productAt (fun k => x (ix2 r k)) (fun k => g (ix1 k)) (fun k e => w (ix2 k e)) ⟨2560 + d.val, by omega⟩ + b (ix1 d) := by
  pointwise [Cert.OddRefIdeal.Read.val_main_v22, Cert.OddRefIdeal.Read.val_main_v21, Cert.OddRefIdeal.Read.val_main_v20, Cert.OddRefIdeal.Read.val_main_v19]
  simp only [ref_product]

/-- The reference's log gates, element by element. -/
theorem ref10_apply (x : Vec Ideal Cert.OddRefIdeal.S16384x1024 .f32) (g : Vec Ideal Cert.OddRefIdeal.S1024 .f32) (w : Vec Ideal Cert.OddRefIdeal.S1024x2568 .f32) (b : Vec Ideal Cert.OddRefIdeal.S8 .f32) (r : Fin 16384) (d : Fin 8) :
    Cert.OddRefIdeal.Read.val_main_v23 (F := Ideal) x g w b (ix2 r d)
      = logSigmoid (productAt (fun k => x (ix2 r k)) (fun k => g (ix1 k)) (fun k e => w (ix2 k e)) ⟨2560 + d.val, by omega⟩ + b (ix1 d)) := by
  rw [← ref_gate]
  generalize hz : Cert.OddRefIdeal.Read.val_main_v22 (F := Ideal) x g w b = z
  open Cert.OddRefIdeal.Read in
  pointwise [val_main_v23, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, hz]
  unfold logSigmoid
  simp [abs_eq, max_comm]

end Cert.OddIdeal.Block

end
-- ==== Proof.OddClaims.lean ====
module

public import proofs.«01_k».proof.Defs
public import proofs.«01_k».proof.Proof.Gen.Odd.Frame
public import proofs.«01_k».proof.Proof.OddValue
public import Idealize.ShloMosaic.Lib.Quiescent

@[expose] public section

set_option maxRecDepth 16384

noncomputable section

/-! # The claims about the input projection of the odd layers -/

namespace Cert.Proof.OddClaims

open Idealize.ShloMosaic Idealize.ShloMosaic.TcCoe Idealize.SL.Sem

/-- The kernel, at words, leaves its arguments and its semaphores as it found them. -/
theorem frame_kernel : Cert.quiescent_Odd := fun m ρ _ => Cert.Odd.Gen.frame m ρ

/-- The kernel over the extended reals leaves its arguments and its semaphores as it found them. -/
theorem frame_ideal : Cert.quiescent_OddIdeal := fun m ρ _ => Cert.OddIdeal.Gen.frame m ρ

/-- The reference leaves its arguments as it found them; it has no semaphore. -/
theorem frame_ref : Cert.quiescent_OddRefIdeal := fun m ρ _ =>
  (θ_run Cert.OddRefIdeal.defs _ _).mono (fun r h => ⟨fun c => (h c).2.2.2.2.2.2.2.2, Idealize.ShloMosaic.sem_eq_zero_of_no_sems (by decide) r.2⟩)
    (Cert.OddRefIdeal.Value.run (F := Ideal) m ρ)

/-- The idealized kernel is the kernel's own text. -/
theorem preserves : Cert.preserves_Odd_OddIdeal := trivial

set_option maxHeartbeats 1000000 in
/-- Over the extended reals each of the kernel's first eight result arrays is the reference's. -/
theorem algebraic : Cert.algebraic_OddIdeal_OddRefIdeal := by
  intro m ρ m' ρ' _ hagree
  refine ⟨fun c => (Cert.OddIdeal.Gen.dats m 0 c).arrAt 5 Cert.OddIdeal.cfg0.N, fun c => (Cert.OddIdeal.Gen.dats m 0 c).arrAt 6 Cert.OddIdeal.cfg0.N, fun c => (Cert.OddIdeal.Gen.dats m 0 c).arrAt 7 Cert.OddIdeal.cfg0.N, fun c => (Cert.OddIdeal.Gen.dats m 0 c).arrAt 8 Cert.OddIdeal.cfg0.N, fun c => (Cert.OddIdeal.Gen.dats m 0 c).arrAt 9 Cert.OddIdeal.cfg0.N, fun c => (Cert.OddIdeal.Gen.dats m 0 c).arrAt 10 Cert.OddIdeal.cfg0.N, fun c => (Cert.OddIdeal.Gen.dats m 0 c).arrAt 11 Cert.OddIdeal.cfg0.N, fun c => (Cert.OddIdeal.Gen.dats m 0 c).arrAt 12 Cert.OddIdeal.cfg0.N,
    (θ_run Cert.OddIdeal.defs _ _).mono (fun _ h c => ?_) (Cert.OddIdeal.Value.run_blocks m ρ), ?_⟩
  · obtain ⟨r5, r6, r7, r8, r9, r10, r11, r12, _, hargs⟩ := h c
    exact ⟨r5, r6, r7, r8, r9, r10, r11, r12, hargs⟩
  refine (θ_run Cert.OddRefIdeal.defs _ _).mono (fun _ h c => ?_) (Cert.OddRefIdeal.Value.run (F := Ideal) m' ρ')
  obtain ⟨r5, r6, r7, r8, r9, r10, r11, r12, hargs⟩ := h c
  obtain ⟨h0, h1, h2, h3⟩ := hagree c
  refine ⟨r5.trans ?_, r6.trans ?_, r7.trans ?_, r8.trans ?_, r9.trans ?_, r10.trans ?_, r11.trans ?_, r12.trans ?_, hargs⟩
  · rw [h0, h1, h2]
    refine Eq.trans ?_ (Cert.OddIdeal.Block.final5 m c).symm
    refine (Cert.OddRefIdeal.Read.val_main_v14_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref5_apply _ _ _ r d
  · rw [h0, h1, h2]
    refine Eq.trans ?_ (Cert.OddIdeal.Block.final6 m c).symm
    refine (Cert.OddRefIdeal.Read.val_main_v15_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref6_apply _ _ _ r d
  · rw [h0, h1, h2]
    refine Eq.trans ?_ (Cert.OddIdeal.Block.final7 m c).symm
    refine (Cert.OddRefIdeal.Read.val_main_v26_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref7_apply _ _ _ r d
  · rw [h0, h1, h2]
    refine Eq.trans ?_ (Cert.OddIdeal.Block.final8 m c).symm
    refine (Cert.OddRefIdeal.Read.val_main_v17_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref8_apply _ _ _ r d
  · rw [h0, h1, h2]
    refine Eq.trans ?_ (Cert.OddIdeal.Block.final9 m c).symm
    refine (Cert.OddRefIdeal.Read.val_main_v18_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref9_apply _ _ _ r d
  · refine Eq.trans ?_ (Cert.OddIdeal.Block.final10 m c).symm
    refine (Cert.OddRefIdeal.Read.val_main_v23_eq (F := Ideal) m' c).trans ?_
    rw [h0, h1, h2, h3]
    funext i
    obtain ⟨r, d, rfl⟩ : ∃ (r : Fin 16384) (d : Fin 8), i = (ix2 r d : Cert.OddIdeal.S16384x8.Idx) := ⟨i 0, i 1, eq_ix2 (n0 := 16384) (n1 := 8) i⟩
    exact Cert.OddIdeal.Block.ref10_apply _ _ _ _ r d
  · rw [h0, h1, h2]
    refine Eq.trans ?_ (Cert.OddIdeal.Block.final11 m c).symm
    refine (Cert.OddRefIdeal.Read.val_main_v27_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref11_apply _ _ _ r d
  · rw [h0, h1, h2]
    refine Eq.trans ?_ (Cert.OddIdeal.Block.final12 m c).symm
    refine (Cert.OddRefIdeal.Read.val_main_v28_eq (F := Ideal) _ _ _).trans ?_
    funext i
    obtain ⟨r, d, rfl⟩ : ∃ (r : Fin 16384) (d : Fin 512), i = (ix2 r d : Cert.OddIdeal.S16384x512.Idx) := ⟨i 0, i 1, eq_ix2 (n0 := 16384) (n1 := 512) i⟩
    exact Cert.OddIdeal.Block.ref12_apply _ _ _ r d

end Cert.Proof.OddClaims

end
-- ==== Proof.InSampleValue.lean ====
module

public import proofs.«01_k».proof.Proof.Gen.InSampleIdeal.Value
public import proofs.«01_k».proof.Proof.Gen.InSampleRefIdeal.Read
public import Idealize.ShloMosaic.Lib.Pipeline.Value
public import Idealize.ShloMosaic.Lib.Pointwise
public import Idealize.ShloMosaic.Lib.Pipeline.ValueKit.Tiles

@[expose] public section

set_option maxRecDepth 16384

noncomputable section

/-! # The input projection of the even layers on the sample: the kernel's result arrays and the reference's, element by element -/

namespace Cert.InSampleIdeal.Block

open Cert.InSampleIdeal Cert.InSampleIdeal.Gen Idealize.ShloMosaic Idealize.ShloMosaic.TcCoe Idealize.SL.Sem
open Idealize.ShloMosaic.Pipeline (Dat)

/-- The offsets of a load or a store of a whole two-axis buffer are zero. -/
theorem hz2 : (![0, 0] : Fin 2 → Nat) = fun _ => 0 := funext fun a => by fin_cases a <;> rfl

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The normalized row's product with column `j` of the weights. -/
def productAt (x g : Fin 1024 → EReal) (w : Fin 1024 → Fin 2048 → EReal) (j : Fin 2048) : EReal :=
  ∑ k, normed x g k * w k j

/-- The constant the queries are scaled by. -/
abbrev eighth : EReal := Ideal.ofBits FTy.f32 0x3E000000#32

/-! ## The block -/

/-- The normalized rows, element by element. -/
theorem pay1_apply (x : Vec Ideal S32x1024 .f32) (g : Vec Ideal S1x1024 .f32) (r : Fin 32) (d : Fin 1024) :
    k0_pay1 (F := Ideal) x g (ix2 r d) = normed (fun k => x (ix2 r k)) (fun k => g (ix2 0 k)) d := by
  pointwise [k0_pay1]
  rfl

/-- The mixing inputs of a block, element by element, from the normalized rows. -/
theorem pay2_apply (x : Vec Ideal S32x1024 .f32) (g : Vec Ideal S1x1024 .f32) (w : Vec Ideal S1024x512 .bf16) (r : Fin 32) (d : Fin 512) :
    k0_pay2 (F := Ideal) x g w (ix2 r d) = (∑ k : Fin 1024, normed (fun k => x (ix2 r k)) (fun k => g (ix2 0 k)) k * w (ix2 k d)) := by
  pointwise [k0_pay2]
  simp only [pay1_apply]

/-- The scaled queries of a block, element by element, from the normalized rows. -/
theorem pay3_apply (x : Vec Ideal S32x1024 .f32) (g : Vec Ideal S1x1024 .f32) (w : Vec Ideal S1024x512 .bf16) (r : Fin 32) (d : Fin 512) :
    k0_pay3 (F := Ideal) x g w (ix2 r d) = (∑ k : Fin 1024, normed (fun k => x (ix2 r k)) (fun k => g (ix2 0 k)) k * w (ix2 k d)) * eighth := by
  pointwise [k0_pay3]
  simp only [pay1_apply]

/-- The keys of a block, element by element, from the normalized rows. -/
theorem pay4_apply (x : Vec Ideal S32x1024 .f32) (g : Vec Ideal S1x1024 .f32) (w : Vec Ideal S1024x512 .bf16) (r : Fin 32) (d : Fin 512) :
    k0_pay4 (F := Ideal) x g w (ix2 r d) = (∑ k : Fin 1024, normed (fun k => x (ix2 r k)) (fun k => g (ix2 0 k)) k * w (ix2 k d)) := by
  pointwise [k0_pay4]
  simp only [pay1_apply]

/-- The values of a block, element by element, from the normalized rows. -/
theorem pay5_apply (x : Vec Ideal S32x1024 .f32) (g : Vec Ideal S1x1024 .f32) (w : Vec Ideal S1024x512 .bf16) (r : Fin 32) (d : Fin 512) :
    k0_pay5 (F := Ideal) x g w (ix2 r d) = (∑ k : Fin 1024, normed (fun k => x (ix2 r k)) (fun k => g (ix2 0 k)) k * w (ix2 k d)) := by
  pointwise [k0_pay5]
  simp only [pay1_apply]

/-- The columns from 0 on of the weights, element by element. -/
theorem cols0_apply (w : Vec Ideal S1024x2048 .bf16) (k : Fin 1024) (d : Fin 512) :
    View.ld w r0_2 (ix2 k d) = w (ix2 k ⟨0 + d.val, by omega⟩) := by
  refine View.ld_unit_apply_of _ _ _ _ _ _ fun b => ?_
  match b with
  | ⟨0, _⟩ => exact (Nat.zero_add _).symm
  | ⟨1, _⟩ => rfl

/-- The columns from 512 on of the weights, element by element. -/
theorem cols512_apply (w : Vec Ideal S1024x2048 .bf16) (k : Fin 1024) (d : Fin 512) :
    View.ld w r0_4 (ix2 k d) = w (ix2 k ⟨512 + d.val, by omega⟩) := by
  refine View.ld_unit_apply_of _ _ _ _ _ _ fun b => ?_
  match b with
  | ⟨0, _⟩ => exact (Nat.zero_add _).symm
  | ⟨1, _⟩ => rfl

/-- The columns from 1024 on of the weights, element by element. -/
theorem cols1024_apply (w : Vec Ideal S1024x2048 .bf16) (k : Fin 1024) (d : Fin 512) :
    View.ld w r0_5 (ix2 k d) = w (ix2 k ⟨1024 + d.val, by omega⟩) := by
  refine View.ld_unit_apply_of _ _ _ _ _ _ fun b => ?_
  match b with
  | ⟨0, _⟩ => exact (Nat.zero_add _).symm
  | ⟨1, _⟩ => rfl

/-- The columns from 1536 on of the weights, element by element. -/
theorem cols1536_apply (w : Vec Ideal S1024x2048 .bf16) (k : Fin 1024) (d : Fin 512) :
    View.ld w r0_6 (ix2 k d) = w (ix2 k ⟨1536 + d.val, by omega⟩) := by
  refine View.ld_unit_apply_of _ _ _ _ _ _ fun b => ?_
  match b with
  | ⟨0, _⟩ => exact (Nat.zero_add _).symm
  | ⟨1, _⟩ => rfl

/-! ## The arguments' blocks -/

variable (m : (ℓ : Loc nD τ sig) → Buf (Elt Ideal) ℓ)

/-- The layer's input, the gain and the weights, at an index. -/
abbrev argX (c : Dev nD) (r : Fin 32) (d : Fin 1024) : EReal := m ((c : Thread nD τ).loc main_arg0) (ix2 r d : S32x1024.Idx)
/-- The argument with the norm's scales, element by element. -/
abbrev argG (c : Dev nD) (d : Fin 1024) : EReal := m ((c : Thread nD τ).loc main_arg1) (ix1 d : S1024.Idx)
/-- The argument with the weights, element by element. -/
abbrev argW (c : Dev nD) (k : Fin 1024) (j : Fin 2048) : EReal := m ((c : Thread nD τ).loc main_arg2) (ix2 k j : S1024x2048.Idx)

/-- What the host hands the kernel: the weights, cast. -/
theorem V_v0 (c : Dev nD) : V m c main_v0 =
    truncf (F := Ideal) (s := S1024x2048) (φ := .f32) .bf16 (m ((c : Thread nD τ).loc main_arg2)) bitsLt_bf16_f32 := by
  unfold V hostOps0
  after_results

/-- What the host hands the kernel: the norm's scales as one row. -/
theorem V_v1 (c : Dev nD) : V m c main_v1 =
    shapeCast S1x1024 (m ((c : Thread nD τ).loc main_arg1) : Vec Ideal S1024 .f32) shapeCasts_S1024_S1x1024 := by
  unfold V hostOps0
  after_results
  rfl

/-- The windows' block indices at the one point. -/
theorem index0 : ∀ t : Fin grid0.N, win0_0.index t 0 = t.val ∧ win0_0.index t 1 = 0 := by decide +kernel
/-- Window 1 takes the whole array at each grid point. -/
theorem index1 : ∀ t : Fin grid0.N, win0_1.index t 0 = 0 ∧ win0_1.index t 1 = 0 := by decide +kernel
/-- Window 2 takes the whole array at each grid point. -/
theorem index2 : ∀ t : Fin grid0.N, win0_2.index t 0 = 0 ∧ win0_2.index t 1 = 0 := by decide +kernel
/-- Window 3 takes, at each grid point, the point's own block of rows. -/
theorem index3 : ∀ t : Fin grid0.N, win0_3.index t 0 = t.val ∧ win0_3.index t 1 = 0 := by decide +kernel
/-- Window 4 takes, at each grid point, the point's own block of rows. -/
theorem index4 : ∀ t : Fin grid0.N, win0_4.index t 0 = t.val ∧ win0_4.index t 1 = 0 := by decide +kernel
/-- Window 5 takes, at each grid point, the point's own block of rows. -/
theorem index5 : ∀ t : Fin grid0.N, win0_5.index t 0 = t.val ∧ win0_5.index t 1 = 0 := by decide +kernel
/-- Window 6 takes, at each grid point, the point's own block of rows. -/
theorem index6 : ∀ t : Fin grid0.N, win0_6.index t 0 = t.val ∧ win0_6.index t 1 = 0 := by decide +kernel

/-- The array row that row `r` of point `t`'s block is. -/
def row (t : Fin cfg0.N) (r : Fin 32) : Fin 32 := ⟨32 * t.val + r.val, by have := t.isLt; have h : cfg0.N = 1 := N_0; omega⟩

/-- The block of the rows, element by element, as the argument's. -/
theorem iblk0_apply (c : Dev nD) (t : Fin cfg0.N) (r : Fin 32) (d : Fin 1024) :
    (iblk m c 0 t : Vec Ideal S32x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 32 + 1 * r.val = 32 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v1 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v1) e).trans ?_
  rw [V_v1]
  pointwise

/-- The block of the weights, element by element, as the argument's. -/
theorem iblk2_apply (c : Dev nD) (t : Fin cfg0.N) (k : Fin 1024) (j : Fin 2048) :
    (iblk m c 2 t : Vec Ideal S1024x2048 .bf16) (ix2 k j) = argW m c k j := by
  have hi := index2 t
  unfold iblk
  rw [View.read_apply]
  show V m c main_v0 _ = _
  have e : (((cfg0.win 2).blk t).view.emb (ix2 k j : S1024x2048.Idx)) = (ix2 k j : S1024x2048.Idx) := by
    funext a
    apply Fin.ext
    match a with
    | ⟨0, _⟩ => show win0_2.index t 0 * 1024 + 1 * k.val = k.val; omega
    | ⟨1, _⟩ => show win0_2.index t 1 * 2048 + 1 * j.val = j.val; omega
  refine (congrArg (V m c main_v0) e).trans ?_
  rw [V_v0]
  pointwise

/-- The product of the normalized row `r` of device `c`'s input with column `j` of its weights. -/
def product (c : Dev nD) (r : Fin 32) (j : Fin 2048) : EReal := productAt (argX m c r) (argG m c) (argW m c) j

/-! ## The mixing inputs (window 3) -/

/-- What a point's stores leave in window 3's block. -/
theorem out3_eq (x : Vec Ideal S32x1024 .f32) (g : Vec Ideal S1x1024 .f32) (w : Vec Ideal S1024x2048 .bf16) :
    out0_3 x g w = k0_pay2 x g (View.ld w r0_2) := by
  unfold out0_3
  rw [View.canon_unit_zero (S := S32x512) hz2]
  simp only [View.ld_unit_zero (S := S32x1024) hz2, View.ld_unit_zero (S := S1x1024) hz2]

/-- The mixing inputs as an array of device `c`'s arguments. -/
def result3 (c : Dev nD) : Vec Ideal S32x512 .f32 :=
  fun i => product m c (i 0) ⟨0 + (i 1 : Fin 512).val, by have h : (i 1 : Fin 512).val < 512 := (i 1 : Fin 512).isLt; omega⟩

/-- A point's block of window 3, element by element. -/
theorem block3_apply (c : Dev nD) (t : Fin cfg0.N) (r : Fin 32) (d : Fin 512) :
    out0_3 (iblk m c 0 t : Vec Ideal S32x1024 .f32) (iblk m c 1 t : Vec Ideal S1x1024 .f32) (iblk m c 2 t : Vec Ideal S1024x2048 .bf16) (ix2 r d)
      = product m c (row t r) ⟨0 + d.val, by omega⟩ := by
  rw [out3_eq, pay2_apply]
  unfold product productAt
  simp only [iblk0_apply, iblk1_apply]
  exact Finset.sum_congr rfl fun k _ => congrArg (normed (argX m c (row t r)) (argG m c) k * ·) ((cols0_apply _ k d).trans (iblk2_apply m c t k _))

/-- What point `t` writes back to window 3's array is its block of the mixing inputs. -/
theorem flushed3_eq (c : Dev nD) (t : Fin cfg0.N) :
    (dats m 0 c).flushed 3 t = ((cfg0.win 3).blk t).view.read (Elt Ideal) (result3 m c) := by
  have hi := index3 t
  rw [Value.flushed3]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block3_apply m c t r d).trans ?_
  have e : (((cfg0.win 3).blk t).view.emb (ix2 r d : S32x512.Idx)) = (ix2 (row t r) d : S32x512.Idx) := by
    funext a
    apply Fin.ext
    match a with
    | ⟨0, _⟩ => show win0_3.index t 0 * 32 + 1 * r.val = 32 * t.val + r.val; omega
    | ⟨1, _⟩ => show win0_3.index t 1 * 512 + 1 * d.val = d.val; omega
  exact (congrArg (result3 m c) e).symm

/-- The one block covers the array of the mixing inputs. -/
theorem cover3 (i : S32x512.Idx) : ∃ t : Fin cfg0.N, (cfg0.win 3).flush t = true ∧ i ∈ ((cfg0.win 3).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_3 _, ?_⟩
  have hi := index3 ⟨(i 0 : Nat) / 32, ht⟩
  have hx : ∀ t : Fin grid0.N, win0_3.xsize (grid0.coords t) 0 = 32 ∧ win0_3.xsize (grid0.coords t) 1 = 512 := by decide +kernel
  have hx := hx ⟨(i 0 : Nat) / 32, ht⟩
  show i ∈ ((View.whole main_v2_0).slice (win0_3.rect ⟨(i 0 : Nat) / 32, ht⟩)).set
  rw [View.set_slice_whole, Rect.mem_set_unit]
  intro a
  match a with
  | ⟨0, _⟩ =>
    show win0_3.index ⟨(i 0 : Nat) / 32, ht⟩ 0 * 32 ≤ (i 0 : Nat) ∧ (i 0 : Nat) < win0_3.index ⟨(i 0 : Nat) / 32, ht⟩ 0 * 32 + win0_3.xsize (grid0.coords ⟨(i 0 : Nat) / 32, ht⟩) 0
    rw [hi.1, hx.1]
    dsimp only
    omega
  | ⟨1, _⟩ =>
    show win0_3.index ⟨(i 0 : Nat) / 32, ht⟩ 1 * 512 ≤ (i 1 : Nat) ∧ (i 1 : Nat) < win0_3.index ⟨(i 0 : Nat) / 32, ht⟩ 1 * 512 + win0_3.xsize (grid0.coords ⟨(i 0 : Nat) / 32, ht⟩) 1
    rw [hi.2, hx.2]
    omega

/-- After the run window 3's array holds the mixing inputs. -/
theorem final3 (c : Dev nD) : (dats m 0 c).arrAt 3 cfg0.N = result3 m c :=
  (dats m 0 c).arrAt_eq_of_cover 3 (result3 m c) (fun t _ => flushed3_eq m c t) cover3

/-! ## The scaled queries (window 4) -/

/-- What a point's stores leave in window 4's block. -/
theorem out4_eq (x : Vec Ideal S32x1024 .f32) (g : Vec Ideal S1x1024 .f32) (w : Vec Ideal S1024x2048 .bf16) :
    out0_4 x g w = k0_pay3 x g (View.ld w r0_4) := by
  unfold out0_4
  rw [View.canon_unit_zero (S := S32x512) hz2]
  simp only [View.ld_unit_zero (S := S32x1024) hz2, View.ld_unit_zero (S := S1x1024) hz2]

/-- The scaled queries as an array of device `c`'s arguments. -/
def result4 (c : Dev nD) : Vec Ideal S32x512 .f32 :=
  fun i => product m c (i 0) ⟨512 + (i 1 : Fin 512).val, by have h : (i 1 : Fin 512).val < 512 := (i 1 : Fin 512).isLt; omega⟩ * eighth

/-- A point's block of window 4, element by element. -/
theorem block4_apply (c : Dev nD) (t : Fin cfg0.N) (r : Fin 32) (d : Fin 512) :
    out0_4 (iblk m c 0 t : Vec Ideal S32x1024 .f32) (iblk m c 1 t : Vec Ideal S1x1024 .f32) (iblk m c 2 t : Vec Ideal S1024x2048 .bf16) (ix2 r d)
      = product m c (row t r) ⟨512 + d.val, by omega⟩ * eighth := by
  rw [out4_eq, pay3_apply]
  unfold product productAt
  simp only [iblk0_apply, iblk1_apply]
  exact congrArg (· * eighth) (Finset.sum_congr rfl fun k _ => congrArg (normed (argX m c (row t r)) (argG m c) k * ·) ((cols512_apply _ k d).trans (iblk2_apply m c t k _)))

/-- What point `t` writes back to window 4's array is its block of the scaled queries. -/
theorem flushed4_eq (c : Dev nD) (t : Fin cfg0.N) :
    (dats m 0 c).flushed 4 t = ((cfg0.win 4).blk t).view.read (Elt Ideal) (result4 m c) := by
  have hi := index4 t
  rw [Value.flushed4]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block4_apply m c t r d).trans ?_
  have e : (((cfg0.win 4).blk t).view.emb (ix2 r d : S32x512.Idx)) = (ix2 (row t r) d : S32x512.Idx) := by
    funext a
    apply Fin.ext
    match a with
    | ⟨0, _⟩ => show win0_4.index t 0 * 32 + 1 * r.val = 32 * t.val + r.val; omega
    | ⟨1, _⟩ => show win0_4.index t 1 * 512 + 1 * d.val = d.val; omega
  exact (congrArg (result4 m c) e).symm

/-- The one block covers the array of the scaled queries. -/
theorem cover4 (i : S32x512.Idx) : ∃ t : Fin cfg0.N, (cfg0.win 4).flush t = true ∧ i ∈ ((cfg0.win 4).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_4 _, ?_⟩
  have hi := index4 ⟨(i 0 : Nat) / 32, ht⟩
  have hx : ∀ t : Fin grid0.N, win0_4.xsize (grid0.coords t) 0 = 32 ∧ win0_4.xsize (grid0.coords t) 1 = 512 := by decide +kernel
  have hx := hx ⟨(i 0 : Nat) / 32, ht⟩
  show i ∈ ((View.whole main_v2_1).slice (win0_4.rect ⟨(i 0 : Nat) / 32, ht⟩)).set
  rw [View.set_slice_whole, Rect.mem_set_unit]
  intro a
  match a with
  | ⟨0, _⟩ =>
    show win0_4.index ⟨(i 0 : Nat) / 32, ht⟩ 0 * 32 ≤ (i 0 : Nat) ∧ (i 0 : Nat) < win0_4.index ⟨(i 0 : Nat) / 32, ht⟩ 0 * 32 + win0_4.xsize (grid0.coords ⟨(i 0 : Nat) / 32, ht⟩) 0
    rw [hi.1, hx.1]
    dsimp only
    omega
  | ⟨1, _⟩ =>
    show win0_4.index ⟨(i 0 : Nat) / 32, ht⟩ 1 * 512 ≤ (i 1 : Nat) ∧ (i 1 : Nat) < win0_4.index ⟨(i 0 : Nat) / 32, ht⟩ 1 * 512 + win0_4.xsize (grid0.coords ⟨(i 0 : Nat) / 32, ht⟩) 1
    rw [hi.2, hx.2]
    omega

/-- After the run window 4's array holds the scaled queries. -/
theorem final4 (c : Dev nD) : (dats m 0 c).arrAt 4 cfg0.N = result4 m c :=
  (dats m 0 c).arrAt_eq_of_cover 4 (result4 m c) (fun t _ => flushed4_eq m c t) cover4

/-! ## The keys (window 5) -/

/-- What a point's stores leave in window 5's block. -/
theorem out5_eq (x : Vec Ideal S32x1024 .f32) (g : Vec Ideal S1x1024 .f32) (w : Vec Ideal S1024x2048 .bf16) :
    out0_5 x g w = k0_pay4 x g (View.ld w r0_5) := by
  unfold out0_5
  rw [View.canon_unit_zero (S := S32x512) hz2]
  simp only [View.ld_unit_zero (S := S32x1024) hz2, View.ld_unit_zero (S := S1x1024) hz2]

/-- The keys as an array of device `c`'s arguments. -/
def result5 (c : Dev nD) : Vec Ideal S32x512 .f32 :=
  fun i => product m c (i 0) ⟨1024 + (i 1 : Fin 512).val, by have h : (i 1 : Fin 512).val < 512 := (i 1 : Fin 512).isLt; omega⟩

/-- A point's block of window 5, element by element. -/
theorem block5_apply (c : Dev nD) (t : Fin cfg0.N) (r : Fin 32) (d : Fin 512) :
    out0_5 (iblk m c 0 t : Vec Ideal S32x1024 .f32) (iblk m c 1 t : Vec Ideal S1x1024 .f32) (iblk m c 2 t : Vec Ideal S1024x2048 .bf16) (ix2 r d)
      = product m c (row t r) ⟨1024 + d.val, by omega⟩ := by
  rw [out5_eq, pay4_apply]
  unfold product productAt
  simp only [iblk0_apply, iblk1_apply]
  exact Finset.sum_congr rfl fun k _ => congrArg (normed (argX m c (row t r)) (argG m c) k * ·) ((cols1024_apply _ k d).trans (iblk2_apply m c t k _))

/-- What point `t` writes back to window 5's array is its block of the keys. -/
theorem flushed5_eq (c : Dev nD) (t : Fin cfg0.N) :
    (dats m 0 c).flushed 5 t = ((cfg0.win 5).blk t).view.read (Elt Ideal) (result5 m c) := by
  have hi := index5 t
  rw [Value.flushed5]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block5_apply m c t r d).trans ?_
  have e : (((cfg0.win 5).blk t).view.emb (ix2 r d : S32x512.Idx)) = (ix2 (row t r) d : S32x512.Idx) := by
    funext a
    apply Fin.ext
    match a with
    | ⟨0, _⟩ => show win0_5.index t 0 * 32 + 1 * r.val = 32 * t.val + r.val; omega
    | ⟨1, _⟩ => show win0_5.index t 1 * 512 + 1 * d.val = d.val; omega
  exact (congrArg (result5 m c) e).symm

/-- The one block covers the array of the keys. -/
theorem cover5 (i : S32x512.Idx) : ∃ t : Fin cfg0.N, (cfg0.win 5).flush t = true ∧ i ∈ ((cfg0.win 5).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_5 _, ?_⟩
  have hi := index5 ⟨(i 0 : Nat) / 32, ht⟩
  have hx : ∀ t : Fin grid0.N, win0_5.xsize (grid0.coords t) 0 = 32 ∧ win0_5.xsize (grid0.coords t) 1 = 512 := by decide +kernel
  have hx := hx ⟨(i 0 : Nat) / 32, ht⟩
  show i ∈ ((View.whole main_v2_2).slice (win0_5.rect ⟨(i 0 : Nat) / 32, ht⟩)).set
  rw [View.set_slice_whole, Rect.mem_set_unit]
  intro a
  match a with
  | ⟨0, _⟩ =>
    show win0_5.index ⟨(i 0 : Nat) / 32, ht⟩ 0 * 32 ≤ (i 0 : Nat) ∧ (i 0 : Nat) < win0_5.index ⟨(i 0 : Nat) / 32, ht⟩ 0 * 32 + win0_5.xsize (grid0.coords ⟨(i 0 : Nat) / 32, ht⟩) 0
    rw [hi.1, hx.1]
    dsimp only
    omega
  | ⟨1, _⟩ =>
    show win0_5.index ⟨(i 0 : Nat) / 32, ht⟩ 1 * 512 ≤ (i 1 : Nat) ∧ (i 1 : Nat) < win0_5.index ⟨(i 0 : Nat) / 32, ht⟩ 1 * 512 + win0_5.xsize (grid0.coords ⟨(i 0 : Nat) / 32, ht⟩) 1
    rw [hi.2, hx.2]
    omega

/-- After the run window 5's array holds the keys. -/
theorem final5 (c : Dev nD) : (dats m 0 c).arrAt 5 cfg0.N = result5 m c :=
  (dats m 0 c).arrAt_eq_of_cover 5 (result5 m c) (fun t _ => flushed5_eq m c t) cover5

/-! ## The values (window 6) -/

/-- What a point's stores leave in window 6's block. -/
theorem out6_eq (x : Vec Ideal S32x1024 .f32) (g : Vec Ideal S1x1024 .f32) (w : Vec Ideal S1024x2048 .bf16) :
    out0_6 x g w = k0_pay5 x g (View.ld w r0_6) := by
  unfold out0_6
  rw [View.canon_unit_zero (S := S32x512) hz2]
  simp only [View.ld_unit_zero (S := S32x1024) hz2, View.ld_unit_zero (S := S1x1024) hz2]

/-- The values as an array of device `c`'s arguments. -/
def result6 (c : Dev nD) : Vec Ideal S32x512 .f32 :=
  fun i => product m c (i 0) ⟨1536 + (i 1 : Fin 512).val, by have h : (i 1 : Fin 512).val < 512 := (i 1 : Fin 512).isLt; omega⟩

/-- A point's block of window 6, element by element. -/
theorem block6_apply (c : Dev nD) (t : Fin cfg0.N) (r : Fin 32) (d : Fin 512) :
    out0_6 (iblk m c 0 t : Vec Ideal S32x1024 .f32) (iblk m c 1 t : Vec Ideal S1x1024 .f32) (iblk m c 2 t : Vec Ideal S1024x2048 .bf16) (ix2 r d)
      = product m c (row t r) ⟨1536 + d.val, by omega⟩ := by
  rw [out6_eq, pay5_apply]
  unfold product productAt
  simp only [iblk0_apply, iblk1_apply]
  exact Finset.sum_congr rfl fun k _ => congrArg (normed (argX m c (row t r)) (argG m c) k * ·) ((cols1536_apply _ k d).trans (iblk2_apply m c t k _))

/-- What point `t` writes back to window 6's array is its block of the values. -/
theorem flushed6_eq (c : Dev nD) (t : Fin cfg0.N) :
    (dats m 0 c).flushed 6 t = ((cfg0.win 6).blk t).view.read (Elt Ideal) (result6 m c) := by
  have hi := index6 t
  rw [Value.flushed6]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block6_apply m c t r d).trans ?_
  have e : (((cfg0.win 6).blk t).view.emb (ix2 r d : S32x512.Idx)) = (ix2 (row t r) d : S32x512.Idx) := by
    funext a
    apply Fin.ext
    match a with
    | ⟨0, _⟩ => show win0_6.index t 0 * 32 + 1 * r.val = 32 * t.val + r.val; omega
    | ⟨1, _⟩ => show win0_6.index t 1 * 512 + 1 * d.val = d.val; omega
  exact (congrArg (result6 m c) e).symm

/-- The one block covers the array of the values. -/
theorem cover6 (i : S32x512.Idx) : ∃ t : Fin cfg0.N, (cfg0.win 6).flush t = true ∧ i ∈ ((cfg0.win 6).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_6 _, ?_⟩
  have hi := index6 ⟨(i 0 : Nat) / 32, ht⟩
  have hx : ∀ t : Fin grid0.N, win0_6.xsize (grid0.coords t) 0 = 32 ∧ win0_6.xsize (grid0.coords t) 1 = 512 := by decide +kernel
  have hx := hx ⟨(i 0 : Nat) / 32, ht⟩
  show i ∈ ((View.whole main_v2_3).slice (win0_6.rect ⟨(i 0 : Nat) / 32, ht⟩)).set
  rw [View.set_slice_whole, Rect.mem_set_unit]
  intro a
  match a with
  | ⟨0, _⟩ =>
    show win0_6.index ⟨(i 0 : Nat) / 32, ht⟩ 0 * 32 ≤ (i 0 : Nat) ∧ (i 0 : Nat) < win0_6.index ⟨(i 0 : Nat) / 32, ht⟩ 0 * 32 + win0_6.xsize (grid0.coords ⟨(i 0 : Nat) / 32, ht⟩) 0
    rw [hi.1, hx.1]
    dsimp only
    omega
  | ⟨1, _⟩ =>
    show win0_6.index ⟨(i 0 : Nat) / 32, ht⟩ 1 * 512 ≤ (i 1 : Nat) ∧ (i 1 : Nat) < win0_6.index ⟨(i 0 : Nat) / 32, ht⟩ 1 * 512 + win0_6.xsize (grid0.coords ⟨(i 0 : Nat) / 32, ht⟩) 1
    rw [hi.2, hx.2]
    omega

/-- After the run window 6's array holds the values. -/
theorem final6 (c : Dev nD) : (dats m 0 c).arrAt 6 cfg0.N = result6 m c :=
  (dats m 0 c).arrAt_eq_of_cover 6 (result6 m c) (fun t _ => flushed6_eq m c t) cover6

/-! ## The reference -/

/-- The reference's product, element by element. -/
theorem ref_product (x : Vec Ideal Cert.InSampleRefIdeal.S32x1024 .f32) (g : Vec Ideal Cert.InSampleRefIdeal.S1024 .f32) (w : Vec Ideal Cert.InSampleRefIdeal.S1024x2048 .f32) (r : Fin 32) (j : Fin 2048) :
    Cert.InSampleRefIdeal.Read.val_main_v13 (F := Ideal) x g w (ix2 r j)
      = productAt (fun k => x (ix2 r k)) (fun k => g (ix1 k)) (fun k e => w (ix2 k e)) j := by
  have hn : ∀ k : Fin 1024, Cert.InSampleRefIdeal.Read.val_main_v12 (F := Ideal) x g (ix2 r k) = normed (fun k => x (ix2 r k)) (fun k => g (ix1 k)) k := by
    intro k
    open Cert.InSampleRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  pointwise [Cert.InSampleRefIdeal.Read.val_main_v13]
  simp only [hn]
  rfl

/-- The reference's mixing inputs, element by element. -/
theorem ref3_apply (x : Vec Ideal Cert.InSampleRefIdeal.S32x1024 .f32) (g : Vec Ideal Cert.InSampleRefIdeal.S1024 .f32) (w : Vec Ideal Cert.InSampleRefIdeal.S1024x2048 .f32) (r : Fin 32) (d : Fin 512) :
    Cert.InSampleRefIdeal.Read.val_main_v14 (F := Ideal) x g w (ix2 r d)
      = productAt (fun k => x (ix2 r k)) (fun k => g (ix1 k)) (fun k e => w (ix2 k e)) ⟨0 + d.val, by omega⟩ := by
  pointwise [Cert.InSampleRefIdeal.Read.val_main_v14]
  simp only [ref_product]

/-- The reference's scaled queries, element by element. -/
theorem ref4_apply (x : Vec Ideal Cert.InSampleRefIdeal.S32x1024 .f32) (g : Vec Ideal Cert.InSampleRefIdeal.S1024 .f32) (w : Vec Ideal Cert.InSampleRefIdeal.S1024x2048 .f32) (r : Fin 32) (d : Fin 512) :
    Cert.InSampleRefIdeal.Read.val_main_v19 (F := Ideal) x g w (ix2 r d)
      = productAt (fun k => x (ix2 r k)) (fun k => g (ix1 k)) (fun k e => w (ix2 k e)) ⟨512 + d.val, by omega⟩ * eighth := by
  pointwise [Cert.InSampleRefIdeal.Read.val_main_v19, Cert.InSampleRefIdeal.Read.val_main_v18, Cert.InSampleRefIdeal.Read.val_main_v15, Cert.InSampleRefIdeal.Read.val_main_cst_2]
  simp only [ref_product]

/-- The reference's keys, element by element. -/
theorem ref5_apply (x : Vec Ideal Cert.InSampleRefIdeal.S32x1024 .f32) (g : Vec Ideal Cert.InSampleRefIdeal.S1024 .f32) (w : Vec Ideal Cert.InSampleRefIdeal.S1024x2048 .f32) (r : Fin 32) (d : Fin 512) :
    Cert.InSampleRefIdeal.Read.val_main_v16 (F := Ideal) x g w (ix2 r d)
      = productAt (fun k => x (ix2 r k)) (fun k => g (ix1 k)) (fun k e => w (ix2 k e)) ⟨1024 + d.val, by omega⟩ := by
  pointwise [Cert.InSampleRefIdeal.Read.val_main_v16]
  simp only [ref_product]

/-- The reference's values, element by element. -/
theorem ref6_apply (x : Vec Ideal Cert.InSampleRefIdeal.S32x1024 .f32) (g : Vec Ideal Cert.InSampleRefIdeal.S1024 .f32) (w : Vec Ideal Cert.InSampleRefIdeal.S1024x2048 .f32) (r : Fin 32) (d : Fin 512) :
    Cert.InSampleRefIdeal.Read.val_main_v17 (F := Ideal) x g w (ix2 r d)
      = productAt (fun k => x (ix2 r k)) (fun k => g (ix1 k)) (fun k e => w (ix2 k e)) ⟨1536 + d.val, by omega⟩ := by
  pointwise [Cert.InSampleRefIdeal.Read.val_main_v17]
  simp only [ref_product]

end Cert.InSampleIdeal.Block

end
-- ==== Proof.InSampleClaims.lean ====
module

public import proofs.«01_k».proof.Defs
public import proofs.«01_k».proof.Proof.Gen.InSample.Frame
public import proofs.«01_k».proof.Proof.InSampleValue
public import Idealize.ShloMosaic.Lib.Quiescent

@[expose] public section

set_option maxRecDepth 16384

noncomputable section

/-! # The claims about the input projection on the sample -/

namespace Cert.Proof.InSampleClaims

open Idealize.ShloMosaic Idealize.ShloMosaic.TcCoe Idealize.SL.Sem

/-- The kernel, at words, leaves its arguments and its semaphores as it found them. -/
theorem frame_kernel : Cert.quiescent_InSample := fun m ρ _ => Cert.InSample.Gen.frame m ρ

/-- The kernel over the extended reals leaves its arguments and its semaphores as it found them. -/
theorem frame_ideal : Cert.quiescent_InSampleIdeal := fun m ρ _ => Cert.InSampleIdeal.Gen.frame m ρ

/-- The reference leaves its arguments as it found them; it has no semaphore. -/
theorem frame_ref : Cert.quiescent_InSampleRefIdeal := fun m ρ _ =>
  (θ_run Cert.InSampleRefIdeal.defs _ _).mono (fun r h => ⟨fun c => (h c).2.2.2.2, Idealize.ShloMosaic.sem_eq_zero_of_no_sems (by decide) r.2⟩)
    (Cert.InSampleRefIdeal.Value.run (F := Ideal) m ρ)

/-- The idealized kernel is the kernel's own text. -/
theorem preserves : Cert.preserves_InSample_InSampleIdeal := trivial

/-- Over the extended reals each of the kernel's four result arrays is the reference's. -/
theorem algebraic : Cert.algebraic_InSampleIdeal_InSampleRefIdeal := by
  intro m ρ m' ρ' _ hagree
  refine ⟨fun c => (Cert.InSampleIdeal.Gen.dats m 0 c).arrAt 3 Cert.InSampleIdeal.cfg0.N, fun c => (Cert.InSampleIdeal.Gen.dats m 0 c).arrAt 4 Cert.InSampleIdeal.cfg0.N, fun c => (Cert.InSampleIdeal.Gen.dats m 0 c).arrAt 5 Cert.InSampleIdeal.cfg0.N, fun c => (Cert.InSampleIdeal.Gen.dats m 0 c).arrAt 6 Cert.InSampleIdeal.cfg0.N,
    Cert.InSampleIdeal.Value.run_blocks m ρ, ?_⟩
  refine (θ_run Cert.InSampleRefIdeal.defs _ _).mono (fun _ h c => ?_) (Cert.InSampleRefIdeal.Value.run (F := Ideal) m' ρ')
  obtain ⟨r3, r4, r5, r6, hargs⟩ := h c
  obtain ⟨h0, h1, h2⟩ := hagree c
  refine ⟨r3.trans ?_, r4.trans ?_, r5.trans ?_, r6.trans ?_, hargs⟩
  · rw [h0, h1, h2]
    refine Eq.trans ?_ (Cert.InSampleIdeal.Block.final3 m c).symm
    refine (Cert.InSampleRefIdeal.Read.val_main_v14_eq (F := Ideal) _ _ _).trans ?_
    funext i
    obtain ⟨r, d, rfl⟩ : ∃ (r : Fin 32) (d : Fin 512), i = (ix2 r d : Cert.InSampleIdeal.S32x512.Idx) := ⟨i 0, i 1, eq_ix2 (n0 := 32) (n1 := 512) i⟩
    exact Cert.InSampleIdeal.Block.ref3_apply _ _ _ r d
  · rw [h0, h1, h2]
    refine Eq.trans ?_ (Cert.InSampleIdeal.Block.final4 m c).symm
    refine (Cert.InSampleRefIdeal.Read.val_main_v19_eq (F := Ideal) _ _ _).trans ?_
    funext i
    obtain ⟨r, d, rfl⟩ : ∃ (r : Fin 32) (d : Fin 512), i = (ix2 r d : Cert.InSampleIdeal.S32x512.Idx) := ⟨i 0, i 1, eq_ix2 (n0 := 32) (n1 := 512) i⟩
    exact Cert.InSampleIdeal.Block.ref4_apply _ _ _ r d
  · rw [h0, h1, h2]
    refine Eq.trans ?_ (Cert.InSampleIdeal.Block.final5 m c).symm
    refine (Cert.InSampleRefIdeal.Read.val_main_v16_eq (F := Ideal) _ _ _).trans ?_
    funext i
    obtain ⟨r, d, rfl⟩ : ∃ (r : Fin 32) (d : Fin 512), i = (ix2 r d : Cert.InSampleIdeal.S32x512.Idx) := ⟨i 0, i 1, eq_ix2 (n0 := 32) (n1 := 512) i⟩
    exact Cert.InSampleIdeal.Block.ref5_apply _ _ _ r d
  · rw [h0, h1, h2]
    refine Eq.trans ?_ (Cert.InSampleIdeal.Block.final6 m c).symm
    refine (Cert.InSampleRefIdeal.Read.val_main_v17_eq (F := Ideal) _ _ _).trans ?_
    funext i
    obtain ⟨r, d, rfl⟩ : ∃ (r : Fin 32) (d : Fin 512), i = (ix2 r d : Cert.InSampleIdeal.S32x512.Idx) := ⟨i 0, i 1, eq_ix2 (n0 := 32) (n1 := 512) i⟩
    exact Cert.InSampleIdeal.Block.ref6_apply _ _ _ r d

end Cert.Proof.InSampleClaims

end
-- ==== Proof.OddSampleValue.lean ====
module

public import proofs.«01_k».proof.Proof.Gen.OddSampleIdeal.Value
public import proofs.«01_k».proof.Proof.Gen.OddSampleRefIdeal.Read
public import Idealize.ShloMosaic.Lib.Pipeline.Value
public import Idealize.ShloMosaic.Lib.Pointwise
public import Idealize.ShloMosaic.Lib.KernelVsHost
public import Idealize.ShloMosaic.Lib.Pipeline.ValueKit.Tiles

@[expose] public section

set_option maxRecDepth 16384

noncomputable section

/-! # The input projection of the odd layers on the sample: the kernel's result arrays and the reference's, element by element -/

namespace Cert.OddSampleIdeal.Block

open Cert.OddSampleIdeal Cert.OddSampleIdeal.Gen Idealize.ShloMosaic Idealize.ShloMosaic.TcCoe Idealize.SL.Sem
open Idealize.ShloMosaic.Pipeline (Dat)

/-- The offsets of a load or a store of a whole two-axis buffer are zero. -/
theorem hz2 : (![0, 0] : Fin 2 → Nat) = fun _ => 0 := funext fun a => by fin_cases a <;> rfl

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The normalized row's product with column `j` of the weights. -/
def productAt (x g : Fin 1024 → EReal) (w : Fin 1024 → Fin 2568 → EReal) (j : Fin 2568) : EReal :=
  ∑ k, normed x g k * w k j

/-- The constant the queries are scaled by. -/
abbrev eighth : EReal := Ideal.ofBits FTy.f32 0x3E000000#32

/-- The logarithm of the logistic function, `-(max (-z) 0 + log (1 + exp (-|z|)))`. -/
def logSigmoid (z : EReal) : EReal := -(max (-z) 0 + Ideal.log1p (Ideal.exp (-(max z (-z)))))

/-! ## The block -/

/-- The normalized rows, element by element. -/
theorem pay4_apply (x : Vec Ideal S32x1024 .f32) (g : Vec Ideal S1x1024 .f32) (r : Fin 32) (d : Fin 1024) :
    k0_pay4 (F := Ideal) x g (ix2 r d) = normed (fun k => x (ix2 r k)) (fun k => g (ix2 0 k)) d := by
  pointwise [k0_pay4]
  rfl

/-- The mixing inputs of a block, element by element, from the normalized rows. -/
theorem pay5_apply (x : Vec Ideal S32x1024 .f32) (g : Vec Ideal S1x1024 .f32) (w : Vec Ideal S1024x512 .bf16) (r : Fin 32) (d : Fin 512) :
    k0_pay5 (F := Ideal) x g w (ix2 r d) = (∑ k : Fin 1024, normed (fun k => x (ix2 r k)) (fun k => g (ix2 0 k)) k * w (ix2 k d)) := by
  pointwise [k0_pay5]
  simp only [pay4_apply]

/-- The gates of a block, element by element, from the normalized rows. -/
theorem pay6_apply (x : Vec Ideal S32x1024 .f32) (g : Vec Ideal S1x1024 .f32) (w : Vec Ideal S1024x512 .bf16) (r : Fin 32) (d : Fin 512) :
    k0_pay6 (F := Ideal) x g w (ix2 r d) = (∑ k : Fin 1024, normed (fun k => x (ix2 r k)) (fun k => g (ix2 0 k)) k * w (ix2 k d)) := by
  pointwise [k0_pay6]
  simp only [pay4_apply]

/-- The scaled queries of a block, element by element, from the normalized rows. -/
theorem pay7_apply (x : Vec Ideal S32x1024 .f32) (g : Vec Ideal S1x1024 .f32) (w : Vec Ideal S1024x512 .bf16) (r : Fin 32) (d : Fin 512) :
    k0_pay7 (F := Ideal) x g w (ix2 r d) = (∑ k : Fin 1024, normed (fun k => x (ix2 r k)) (fun k => g (ix2 0 k)) k * w (ix2 k d)) * eighth := by
  pointwise [k0_pay7]
  simp only [pay4_apply]

/-- The keys of a block, element by element, from the normalized rows `v`. -/
theorem pay1_apply (v : FVec Ideal S32x1024 .bf16) (w : Vec Ideal S1024x512 .bf16) (r : Fin 32) (d : Fin 512) :
    k0_pay1 (F := Ideal) v w (ix2 r d) = (∑ k : Fin 1024, v (ix2 r k) * w (ix2 k d)) := by
  pointwise [k0_pay1]

/-- The values of a block, element by element, from the normalized rows `v`. -/
theorem pay2_apply (v : FVec Ideal S32x1024 .bf16) (w : Vec Ideal S1024x512 .bf16) (r : Fin 32) (d : Fin 512) :
    k0_pay2 (F := Ideal) v w (ix2 r d) = (∑ k : Fin 1024, v (ix2 r k) * w (ix2 k d)) := by
  pointwise [k0_pay2]

/-- The absolute value of an extended real is the larger of it and its negation. -/
theorem abs_eq (z : EReal) : FloatOps.absf (F := Ideal) (φ := .f32) z = max z (-z) := rfl

/-- The log gates of a block, element by element, from the normalized rows `v`. -/
theorem pay3_apply (v : FVec Ideal S32x1024 .bf16) (w : Vec Ideal S1024x128 .bf16) (b : Vec Ideal S1x128 .f32) (r : Fin 32) (d : Fin 8) :
    k0_pay3 (F := Ideal) v w b (ix2 r d) = logSigmoid ((∑ k : Fin 1024, v (ix2 r k) * w (ix2 k ⟨d.val, by omega⟩)) + b (ix2 0 ⟨d.val, by omega⟩)) := by
  pointwise [k0_pay3]
  unfold logSigmoid
  simp only [zero_sub, abs_eq]

/-- The columns from 0 on of the weights, element by element. -/
theorem cols0_apply (w : Vec Ideal S1024x2560 .bf16) (k : Fin 1024) (d : Fin 512) :
    View.ld w (Rect.unit (s := S1024x2560) ![0, 0] S1024x512.size inb_S1024x2560_S1024x512_0_0) (ix2 k d) = w (ix2 k ⟨0 + d.val, by omega⟩) := by
  refine View.ld_unit_apply_of _ _ _ _ _ _ fun b => ?_
  match b with
  | ⟨0, _⟩ => exact (Nat.zero_add _).symm
  | ⟨1, _⟩ => rfl

/-- The columns from 512 on of the weights, element by element. -/
theorem cols512_apply (w : Vec Ideal S1024x2560 .bf16) (k : Fin 1024) (d : Fin 512) :
    View.ld w (Rect.unit (s := S1024x2560) ![0, 512] S1024x512.size inb_S1024x2560_S1024x512_0_512) (ix2 k d) = w (ix2 k ⟨512 + d.val, by omega⟩) := by
  refine View.ld_unit_apply_of _ _ _ _ _ _ fun b => ?_
  match b with
  | ⟨0, _⟩ => exact (Nat.zero_add _).symm
  | ⟨1, _⟩ => rfl

/-- The columns from 1024 on of the weights, element by element. -/
theorem cols1024_apply (w : Vec Ideal S1024x2560 .bf16) (k : Fin 1024) (d : Fin 512) :
    View.ld w (Rect.unit (s := S1024x2560) ![0, 1024] S1024x512.size inb_S1024x2560_S1024x512_0_1024) (ix2 k d) = w (ix2 k ⟨1024 + d.val, by omega⟩) := by
  refine View.ld_unit_apply_of _ _ _ _ _ _ fun b => ?_
  match b with
  | ⟨0, _⟩ => exact (Nat.zero_add _).symm
  | ⟨1, _⟩ => rfl

/-- The columns from 1536 on of the weights, element by element. -/
theorem cols1536_apply (w : Vec Ideal S1024x2560 .bf16) (k : Fin 1024) (d : Fin 512) :
    View.ld w (Rect.unit (s := S1024x2560) ![0, 1536] S1024x512.size inb_S1024x2560_S1024x512_0_1536) (ix2 k d) = w (ix2 k ⟨1536 + d.val, by omega⟩) := by
  refine View.ld_unit_apply_of _ _ _ _ _ _ fun b => ?_
  match b with
  | ⟨0, _⟩ => exact (Nat.zero_add _).symm
  | ⟨1, _⟩ => rfl

/-- The columns from 2048 on of the weights, element by element. -/
theorem cols2048_apply (w : Vec Ideal S1024x2560 .bf16) (k : Fin 1024) (d : Fin 512) :
    View.ld w (Rect.unit (s := S1024x2560) ![0, 2048] S1024x512.size inb_S1024x2560_S1024x512_0_2048) (ix2 k d) = w (ix2 k ⟨2048 + d.val, by omega⟩) := by
  refine View.ld_unit_apply_of _ _ _ _ _ _ fun b => ?_
  match b with
  | ⟨0, _⟩ => exact (Nat.zero_add _).symm
  | ⟨1, _⟩ => rfl

/-! ## The host's arrays, element by element -/

/-- The first 2560 columns of the weights, narrowed. -/
theorem host_w (w : Vec Ideal S1024x2568 .f32) (k : Fin 1024) (j : Fin 2560) :
    truncf (F := Ideal) (s := S1024x2560) (φ := .f32) .bf16 (extractStridedSlice S1024x2560 ![0, 0] w slices_S1024x2568_S1024x2560_0_0) bitsLt_bf16_f32 (ix2 k j)
      = w (ix2 k ⟨j.val, by omega⟩) := by
  pointwise

/-- The last 8 columns of the weights, followed by 120 columns of padding and narrowed, at one of the 8. -/
theorem host_wf (w : Vec Ideal S1024x2568 .f32) (z : Vec Ideal S_ .f32) (k : Fin 1024) (d : Fin 8) :
    truncf (F := Ideal) (s := S1024x128) (φ := .f32) .bf16 (pad S1024x128 ![0, 0] ![0, 120] ![0, 0]
        (extractStridedSlice S1024x8 ![0, 2560] w slices_S1024x2568_S1024x8_0_2560) z pads_S1024x8_S1024x128_000_01200 h_S_) bitsLt_bf16_f32 (ix2 k ⟨d.val, by omega⟩)
      = w (ix2 k ⟨2560 + d.val, by omega⟩) := by
  have hp : ∀ y : Vec Ideal S1024x8 .f32, pad S1024x128 ![0, 0] ![0, 120] ![0, 0] y z pads_S1024x8_S1024x128_000_01200 h_S_ (ix2 k (⟨d.val, by omega⟩ : Fin 128)) = y (ix2 k d) := fun y => by
    refine pad_apply_of_inside _ _ _ _ _ _ _ _ (ix2 k d : S1024x8.Idx) fun a => ?_
    match a with
    | ⟨0, _⟩ => show k.val = 0 + k.val * (0 + 1); omega
    | ⟨1, _⟩ => show d.val = 0 + d.val * (0 + 1); omega
  refine (hp (extractStridedSlice S1024x8 ![0, 2560] w slices_S1024x2568_S1024x8_0_2560)).trans ?_
  pointwise

/-- The biases, followed by 120 of padding and read as a row, at one of the 8. -/
theorem host_bf (b : Vec Ideal S8 .f32) (z : Vec Ideal S_ .f32) (d : Fin 8) :
    (shapeCast S1x128 (pad S128 ![0] ![120] ![0] b z pads_S8_S128_01200 h_S_ : Vec Ideal S128 .f32) shapeCasts_S128_S1x128 : Vec Ideal S1x128 .f32) (ix2 0 ⟨d.val, by omega⟩)
      = b (ix1 d) := by
  have hp : pad S128 ![0] ![120] ![0] b z pads_S8_S128_01200 h_S_ (ix1 (⟨d.val, by omega⟩ : Fin 128)) = b (ix1 d) := by
    refine pad_apply_of_inside _ _ _ _ _ _ _ _ (ix1 d : S8.Idx) fun a => ?_
    match a with
    | ⟨0, _⟩ => show d.val = 0 + d.val * (0 + 1); omega
  have hs : ∀ y : Vec Ideal S128 .f32, (shapeCast S1x128 y shapeCasts_S128_S1x128 : Vec Ideal S1x128 .f32) (ix2 0 ⟨d.val, by omega⟩) = y (ix1 ⟨d.val, by omega⟩) := fun y => by
    pointwise
  exact (hs _).trans hp

/-! ## The arguments' blocks -/

variable (m : (ℓ : Loc nD τ sig) → Buf (Elt Ideal) ℓ)

/-- The layer's input, the gain, the weights and the biases, at an index. -/
abbrev argX (c : Dev nD) (r : Fin 32) (d : Fin 1024) : EReal := m ((c : Thread nD τ).loc main_arg0) (ix2 r d : S32x1024.Idx)
/-- The argument with the norm's scales, element by element. -/
abbrev argG (c : Dev nD) (d : Fin 1024) : EReal := m ((c : Thread nD τ).loc main_arg1) (ix1 d : S1024.Idx)
/-- The argument with the weights, element by element. -/
abbrev argW (c : Dev nD) (k : Fin 1024) (j : Fin 2568) : EReal := m ((c : Thread nD τ).loc main_arg2) (ix2 k j : S1024x2568.Idx)
/-- The argument with the biases of the log gates, element by element. -/
abbrev argB (c : Dev nD) (d : Fin 8) : EReal := m ((c : Thread nD τ).loc main_arg3) (ix1 d : S8.Idx)

/-- What the host hands the kernel: the first 2560 columns of the weights, cast. -/
theorem V_v1 (c : Dev nD) : V m c main_v1 =
    truncf (F := Ideal) (s := S1024x2560) (φ := .f32) .bf16 (extractStridedSlice S1024x2560 ![0, 0] (m ((c : Thread nD τ).loc main_arg2) : Vec Ideal S1024x2568 .f32) slices_S1024x2568_S1024x2560_0_0) bitsLt_bf16_f32 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results

/-- What the host hands the kernel: the log gates' columns of the weights, padded to 128 and cast. -/
theorem V_v4 (c : Dev nD) : V m c main_v4 =
    truncf (F := Ideal) (s := S1024x128) (φ := .f32) .bf16 (pad S1024x128 ![0, 0] ![0, 120] ![0, 0]
        (extractStridedSlice S1024x8 ![0, 2560] (m ((c : Thread nD τ).loc main_arg2) : Vec Ideal S1024x2568 .f32) slices_S1024x2568_S1024x8_0_2560)
        (sitofp (F := Ideal) .f32 (constantI S_ 32 0#32)) pads_S1024x8_S1024x128_000_01200 h_S_) bitsLt_bf16_f32 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results

/-- What the host hands the kernel: the log gates' biases, padded to 128, as one row. -/
theorem V_v6 (c : Dev nD) : V m c main_v6 =
    shapeCast S1x128 (pad S128 ![0] ![120] ![0] (m ((c : Thread nD τ).loc main_arg3) : Vec Ideal S8 .f32) (sitofp (F := Ideal) .f32 (constantI S_ 32 0#32)) pads_S8_S128_01200 h_S_ : Vec Ideal S128 .f32) shapeCasts_S128_S1x128 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results
  rfl

/-- What the host hands the kernel: the norm's scales as one row. -/
theorem V_v7 (c : Dev nD) : V m c main_v7 =
    shapeCast S1x1024 (m ((c : Thread nD τ).loc main_arg1) : Vec Ideal S1024 .f32) shapeCasts_S1024_S1x1024 := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]
  after_results
  rfl

/-- The windows' block indices at the one point. -/
theorem index0 : ∀ t : Fin grid0.N, win0_0.index t 0 = t.val ∧ win0_0.index t 1 = 0 := by decide +kernel
/-- Window 1 takes the whole array at each grid point. -/
theorem index1 : ∀ t : Fin grid0.N, win0_1.index t 0 = 0 ∧ win0_1.index t 1 = 0 := by decide +kernel
/-- Window 2 takes the whole array at each grid point. -/
theorem index2 : ∀ t : Fin grid0.N, win0_2.index t 0 = 0 ∧ win0_2.index t 1 = 0 := by decide +kernel
/-- Window 3 takes the whole array at each grid point. -/
theorem index3 : ∀ t : Fin grid0.N, win0_3.index t 0 = 0 ∧ win0_3.index t 1 = 0 := by decide +kernel
/-- Window 4 takes the whole array at each grid point. -/
theorem index4 : ∀ t : Fin grid0.N, win0_4.index t 0 = 0 ∧ win0_4.index t 1 = 0 := by decide +kernel
/-- Window 5 takes, at each grid point, the point's own block of rows. -/
theorem index5 : ∀ t : Fin grid0.N, win0_5.index t 0 = t.val ∧ win0_5.index t 1 = 0 := by decide +kernel
/-- Window 6 takes, at each grid point, the point's own block of rows. -/
theorem index6 : ∀ t : Fin grid0.N, win0_6.index t 0 = t.val ∧ win0_6.index t 1 = 0 := by decide +kernel
/-- Window 7 takes, at each grid point, the point's own block of rows. -/
theorem index7 : ∀ t : Fin grid0.N, win0_7.index t 0 = t.val ∧ win0_7.index t 1 = 0 := by decide +kernel
/-- Window 8 takes, at each grid point, the point's own block of rows. -/
theorem index8 : ∀ t : Fin grid0.N, win0_8.index t 0 = t.val ∧ win0_8.index t 1 = 0 := by decide +kernel
/-- Window 9 takes, at each grid point, the point's own block of rows. -/
theorem index9 : ∀ t : Fin grid0.N, win0_9.index t 0 = t.val ∧ win0_9.index t 1 = 0 := by decide +kernel
/-- Window 10 takes, at each grid point, the point's own block of rows. -/
theorem index10 : ∀ t : Fin grid0.N, win0_10.index t 0 = t.val ∧ win0_10.index t 1 = 0 := by decide +kernel

/-- The array row that row `r` of point `t`'s block is. -/
def row (t : Fin cfg0.N) (r : Fin 32) : Fin 32 := ⟨32 * t.val + r.val, by have := t.isLt; have h : cfg0.N = 1 := N_0; omega⟩

/-- The block of the rows, element by element, as the argument's. -/
theorem iblk0_apply (c : Dev nD) (t : Fin cfg0.N) (r : Fin 32) (d : Fin 1024) :
    (iblk m c 0 t : Vec Ideal S32x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 32 + 1 * r.val = 32 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v7 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v7) e).trans ?_
  rw [V_v7]
  pointwise

/-- The block of the weights of the first 2560 columns, element by element, as the argument's. -/
theorem iblk2_apply (c : Dev nD) (t : Fin cfg0.N) (k : Fin 1024) (j : Fin 2560) :
    (iblk m c 2 t : Vec Ideal S1024x2560 .bf16) (ix2 k j) = argW m c k ⟨j.val, by omega⟩ := by
  have hi := index2 t
  unfold iblk
  rw [View.read_apply]
  show V m c main_v1 _ = _
  have e : (((cfg0.win 2).blk t).view.emb (ix2 k j : S1024x2560.Idx)) = (ix2 k j : S1024x2560.Idx) := by
    funext a
    apply Fin.ext
    match a with
    | ⟨0, _⟩ => show win0_2.index t 0 * 1024 + 1 * k.val = k.val; omega
    | ⟨1, _⟩ => show win0_2.index t 1 * 2560 + 1 * j.val = j.val; omega
  refine (congrArg (V m c main_v1) e).trans ?_
  rw [V_v1]
  exact host_w _ k j

/-- The block of the log gates' weights, element by element, as the argument's. -/
theorem iblk3_apply (c : Dev nD) (t : Fin cfg0.N) (k : Fin 1024) (d : Fin 8) :
    (iblk m c 3 t : Vec Ideal S1024x128 .bf16) (ix2 k (⟨d.val, by omega⟩ : Fin 128)) = argW m c k ⟨2560 + d.val, by omega⟩ := by
  have hi := index3 t
  unfold iblk
  rw [View.read_apply]
  show V m c main_v4 _ = _
  have e : (((cfg0.win 3).blk t).view.emb (ix2 k (⟨d.val, by omega⟩ : Fin 128) : S1024x128.Idx)) = (ix2 k (⟨d.val, by omega⟩ : Fin 128) : S1024x128.Idx) := by
    funext a
    apply Fin.ext
    match a with
    | ⟨0, _⟩ => show win0_3.index t 0 * 1024 + 1 * k.val = k.val; omega
    | ⟨1, _⟩ => show win0_3.index t 1 * 128 + 1 * d.val = d.val; omega
  refine (congrArg (V m c main_v4) e).trans ?_
  rw [V_v4]
  exact host_wf _ _ k d

/-- The block of the log gates' biases, element by element, as the argument's. -/
theorem iblk4_apply (c : Dev nD) (t : Fin cfg0.N) (d : Fin 8) :
    (iblk m c 4 t : Vec Ideal S1x128 .f32) (ix2 0 (⟨d.val, by omega⟩ : Fin 128)) = argB m c d := by
  have hi := index4 t
  unfold iblk
  rw [View.read_apply]
  show V m c main_v6 _ = _
  have e : (((cfg0.win 4).blk t).view.emb (ix2 0 (⟨d.val, by omega⟩ : Fin 128) : S1x128.Idx)) = (ix2 0 (⟨d.val, by omega⟩ : Fin 128) : S1x128.Idx) := by
    funext a
    apply Fin.ext
    match a with
    | ⟨0, _⟩ => show win0_4.index t 0 * 1 + 1 * 0 = 0; omega
    | ⟨1, _⟩ => show win0_4.index t 1 * 128 + 1 * d.val = d.val; omega
  refine (congrArg (V m c main_v6) e).trans ?_
  rw [V_v6]
  exact host_bf _ _ d

/-- The product of the normalized row `r` of device `c`'s input with column `j` of its weights. -/
def product (c : Dev nD) (r : Fin 32) (j : Fin 2568) : EReal := productAt (argX m c r) (argG m c) (argW m c) j

/-! ## The mixing inputs (window 5) -/

/-- What a point's stores leave in window 5's block. -/
theorem out5_eq (x : Vec Ideal S32x1024 .f32) (g : Vec Ideal S1x1024 .f32) (w : Vec Ideal S1024x2560 .bf16) (wf : Vec Ideal S1024x128 .bf16) (b : Vec Ideal S1x128 .f32) :
    out0_5 x g w wf b = k0_pay5 (F := Ideal) x g (View.ld w (Rect.unit (s := S1024x2560) ![0, 0] S1024x512.size inb_S1024x2560_S1024x512_0_0)) := by
  unfold out0_5
  rw [View.canon_unit_zero (S := S32x512) hz2]
  simp only [View.ld_unit_zero (S := S32x1024) hz2, View.ld_unit_zero (S := S1x1024) hz2]

/-- The mixing inputs as an array of device `c`'s arguments. -/
def result5 (c : Dev nD) : Vec Ideal S32x512 .f32 :=
  fun i => product m c (i 0) ⟨0 + (i 1 : Fin 512).val, by have h : (i 1 : Fin 512).val < 512 := (i 1 : Fin 512).isLt; omega⟩

/-- A point's block of window 5, element by element. -/
theorem block5_apply (c : Dev nD) (t : Fin cfg0.N) (r : Fin 32) (d : Fin 512) :
    out0_5 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = product m c (row t r) ⟨0 + d.val, by omega⟩ := by
  rw [out5_eq, pay5_apply]
  unfold product productAt
  simp only [iblk0_apply, iblk1_apply]
  exact Finset.sum_congr rfl fun k _ => congrArg (normed (argX m c (row t r)) (argG m c) k * ·) ((cols0_apply _ k d).trans (iblk2_apply m c t k _))

/-- What point `t` writes back to window 5's array is its block of the mixing inputs. -/
theorem flushed5_eq (c : Dev nD) (t : Fin cfg0.N) :
    (dats m 0 c).flushed 5 t = ((cfg0.win 5).blk t).view.read (Elt Ideal) (result5 m c) := by
  have hi := index5 t
  rw [Value.flushed5]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block5_apply m c t r d).trans ?_
  have e : (((cfg0.win 5).blk t).view.emb (ix2 r d : S32x512.Idx)) = (ix2 (row t r) d : S32x512.Idx) := by
    funext a
    apply Fin.ext
    match a with
    | ⟨0, _⟩ => show win0_5.index t 0 * 32 + 1 * r.val = 32 * t.val + r.val; omega
    | ⟨1, _⟩ => show win0_5.index t 1 * 512 + 1 * d.val = d.val; omega
  exact (congrArg (result5 m c) e).symm

/-- The one block covers the array of the mixing inputs. -/
theorem cover5 (i : S32x512.Idx) : ∃ t : Fin cfg0.N, (cfg0.win 5).flush t = true ∧ i ∈ ((cfg0.win 5).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_5 _, ?_⟩
  have hi := index5 ⟨(i 0 : Nat) / 32, ht⟩
  have hx : ∀ t : Fin grid0.N, win0_5.xsize (grid0.coords t) 0 = 32 ∧ win0_5.xsize (grid0.coords t) 1 = 512 := by decide +kernel
  have hx := hx ⟨(i 0 : Nat) / 32, ht⟩
  show i ∈ ((View.whole main_v8_0).slice (win0_5.rect ⟨(i 0 : Nat) / 32, ht⟩)).set
  rw [View.set_slice_whole, Rect.mem_set_unit]
  intro a
  match a with
  | ⟨0, _⟩ =>
    show win0_5.index ⟨(i 0 : Nat) / 32, ht⟩ 0 * 32 ≤ (i 0 : Nat) ∧ (i 0 : Nat) < win0_5.index ⟨(i 0 : Nat) / 32, ht⟩ 0 * 32 + win0_5.xsize (grid0.coords ⟨(i 0 : Nat) / 32, ht⟩) 0
    rw [hi.1, hx.1]
    dsimp only
    omega
  | ⟨1, _⟩ =>
    show win0_5.index ⟨(i 0 : Nat) / 32, ht⟩ 1 * 512 ≤ (i 1 : Nat) ∧ (i 1 : Nat) < win0_5.index ⟨(i 0 : Nat) / 32, ht⟩ 1 * 512 + win0_5.xsize (grid0.coords ⟨(i 0 : Nat) / 32, ht⟩) 1
    rw [hi.2, hx.2]
    omega

/-- After the run window 5's array holds the mixing inputs. -/
theorem final5 (c : Dev nD) : (dats m 0 c).arrAt 5 cfg0.N = result5 m c :=
  (dats m 0 c).arrAt_eq_of_cover 5 (result5 m c) (fun t _ => flushed5_eq m c t) cover5

/-! ## The gates (window 6) -/

/-- What a point's stores leave in window 6's block. -/
theorem out6_eq (x : Vec Ideal S32x1024 .f32) (g : Vec Ideal S1x1024 .f32) (w : Vec Ideal S1024x2560 .bf16) (wf : Vec Ideal S1024x128 .bf16) (b : Vec Ideal S1x128 .f32) :
    out0_6 x g w wf b = k0_pay6 (F := Ideal) x g (View.ld w (Rect.unit (s := S1024x2560) ![0, 512] S1024x512.size inb_S1024x2560_S1024x512_0_512)) := by
  unfold out0_6
  rw [View.canon_unit_zero (S := S32x512) hz2]
  simp only [View.ld_unit_zero (S := S32x1024) hz2, View.ld_unit_zero (S := S1x1024) hz2]

/-- The gates as an array of device `c`'s arguments. -/
def result6 (c : Dev nD) : Vec Ideal S32x512 .f32 :=
  fun i => product m c (i 0) ⟨512 + (i 1 : Fin 512).val, by have h : (i 1 : Fin 512).val < 512 := (i 1 : Fin 512).isLt; omega⟩

/-- A point's block of window 6, element by element. -/
theorem block6_apply (c : Dev nD) (t : Fin cfg0.N) (r : Fin 32) (d : Fin 512) :
    out0_6 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = product m c (row t r) ⟨512 + d.val, by omega⟩ := by
  rw [out6_eq, pay6_apply]
  unfold product productAt
  simp only [iblk0_apply, iblk1_apply]
  exact Finset.sum_congr rfl fun k _ => congrArg (normed (argX m c (row t r)) (argG m c) k * ·) ((cols512_apply _ k d).trans (iblk2_apply m c t k _))

/-- What point `t` writes back to window 6's array is its block of the gates. -/
theorem flushed6_eq (c : Dev nD) (t : Fin cfg0.N) :
    (dats m 0 c).flushed 6 t = ((cfg0.win 6).blk t).view.read (Elt Ideal) (result6 m c) := by
  have hi := index6 t
  rw [Value.flushed6]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block6_apply m c t r d).trans ?_
  have e : (((cfg0.win 6).blk t).view.emb (ix2 r d : S32x512.Idx)) = (ix2 (row t r) d : S32x512.Idx) := by
    funext a
    apply Fin.ext
    match a with
    | ⟨0, _⟩ => show win0_6.index t 0 * 32 + 1 * r.val = 32 * t.val + r.val; omega
    | ⟨1, _⟩ => show win0_6.index t 1 * 512 + 1 * d.val = d.val; omega
  exact (congrArg (result6 m c) e).symm

/-- The one block covers the array of the gates. -/
theorem cover6 (i : S32x512.Idx) : ∃ t : Fin cfg0.N, (cfg0.win 6).flush t = true ∧ i ∈ ((cfg0.win 6).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_6 _, ?_⟩
  have hi := index6 ⟨(i 0 : Nat) / 32, ht⟩
  have hx : ∀ t : Fin grid0.N, win0_6.xsize (grid0.coords t) 0 = 32 ∧ win0_6.xsize (grid0.coords t) 1 = 512 := by decide +kernel
  have hx := hx ⟨(i 0 : Nat) / 32, ht⟩
  show i ∈ ((View.whole main_v8_1).slice (win0_6.rect ⟨(i 0 : Nat) / 32, ht⟩)).set
  rw [View.set_slice_whole, Rect.mem_set_unit]
  intro a
  match a with
  | ⟨0, _⟩ =>
    show win0_6.index ⟨(i 0 : Nat) / 32, ht⟩ 0 * 32 ≤ (i 0 : Nat) ∧ (i 0 : Nat) < win0_6.index ⟨(i 0 : Nat) / 32, ht⟩ 0 * 32 + win0_6.xsize (grid0.coords ⟨(i 0 : Nat) / 32, ht⟩) 0
    rw [hi.1, hx.1]
    dsimp only
    omega
  | ⟨1, _⟩ =>
    show win0_6.index ⟨(i 0 : Nat) / 32, ht⟩ 1 * 512 ≤ (i 1 : Nat) ∧ (i 1 : Nat) < win0_6.index ⟨(i 0 : Nat) / 32, ht⟩ 1 * 512 + win0_6.xsize (grid0.coords ⟨(i 0 : Nat) / 32, ht⟩) 1
    rw [hi.2, hx.2]
    omega

/-- After the run window 6's array holds the gates. -/
theorem final6 (c : Dev nD) : (dats m 0 c).arrAt 6 cfg0.N = result6 m c :=
  (dats m 0 c).arrAt_eq_of_cover 6 (result6 m c) (fun t _ => flushed6_eq m c t) cover6

/-! ## The scaled queries (window 7) -/

/-- What a point's stores leave in window 7's block. -/
theorem out7_eq (x : Vec Ideal S32x1024 .f32) (g : Vec Ideal S1x1024 .f32) (w : Vec Ideal S1024x2560 .bf16) (wf : Vec Ideal S1024x128 .bf16) (b : Vec Ideal S1x128 .f32) :
    out0_7 x g w wf b = k0_pay7 (F := Ideal) x g (View.ld w (Rect.unit (s := S1024x2560) ![0, 1024] S1024x512.size inb_S1024x2560_S1024x512_0_1024)) := by
  unfold out0_7
  rw [View.canon_unit_zero (S := S32x512) hz2]
  simp only [View.ld_unit_zero (S := S32x1024) hz2, View.ld_unit_zero (S := S1x1024) hz2]

/-- The scaled queries as an array of device `c`'s arguments. -/
def result7 (c : Dev nD) : Vec Ideal S32x512 .f32 :=
  fun i => product m c (i 0) ⟨1024 + (i 1 : Fin 512).val, by have h : (i 1 : Fin 512).val < 512 := (i 1 : Fin 512).isLt; omega⟩ * eighth

/-- A point's block of window 7, element by element. -/
theorem block7_apply (c : Dev nD) (t : Fin cfg0.N) (r : Fin 32) (d : Fin 512) :
    out0_7 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = product m c (row t r) ⟨1024 + d.val, by omega⟩ * eighth := by
  rw [out7_eq, pay7_apply]
  unfold product productAt
  simp only [iblk0_apply, iblk1_apply]
  exact congrArg (· * eighth) (Finset.sum_congr rfl fun k _ => congrArg (normed (argX m c (row t r)) (argG m c) k * ·) ((cols1024_apply _ k d).trans (iblk2_apply m c t k _)))

/-- What point `t` writes back to window 7's array is its block of the scaled queries. -/
theorem flushed7_eq (c : Dev nD) (t : Fin cfg0.N) :
    (dats m 0 c).flushed 7 t = ((cfg0.win 7).blk t).view.read (Elt Ideal) (result7 m c) := by
  have hi := index7 t
  rw [Value.flushed7]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block7_apply m c t r d).trans ?_
  have e : (((cfg0.win 7).blk t).view.emb (ix2 r d : S32x512.Idx)) = (ix2 (row t r) d : S32x512.Idx) := by
    funext a
    apply Fin.ext
    match a with
    | ⟨0, _⟩ => show win0_7.index t 0 * 32 + 1 * r.val = 32 * t.val + r.val; omega
    | ⟨1, _⟩ => show win0_7.index t 1 * 512 + 1 * d.val = d.val; omega
  exact (congrArg (result7 m c) e).symm

/-- The one block covers the array of the scaled queries. -/
theorem cover7 (i : S32x512.Idx) : ∃ t : Fin cfg0.N, (cfg0.win 7).flush t = true ∧ i ∈ ((cfg0.win 7).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_7 _, ?_⟩
  have hi := index7 ⟨(i 0 : Nat) / 32, ht⟩
  have hx : ∀ t : Fin grid0.N, win0_7.xsize (grid0.coords t) 0 = 32 ∧ win0_7.xsize (grid0.coords t) 1 = 512 := by decide +kernel
  have hx := hx ⟨(i 0 : Nat) / 32, ht⟩
  show i ∈ ((View.whole main_v8_2).slice (win0_7.rect ⟨(i 0 : Nat) / 32, ht⟩)).set
  rw [View.set_slice_whole, Rect.mem_set_unit]
  intro a
  match a with
  | ⟨0, _⟩ =>
    show win0_7.index ⟨(i 0 : Nat) / 32, ht⟩ 0 * 32 ≤ (i 0 : Nat) ∧ (i 0 : Nat) < win0_7.index ⟨(i 0 : Nat) / 32, ht⟩ 0 * 32 + win0_7.xsize (grid0.coords ⟨(i 0 : Nat) / 32, ht⟩) 0
    rw [hi.1, hx.1]
    dsimp only
    omega
  | ⟨1, _⟩ =>
    show win0_7.index ⟨(i 0 : Nat) / 32, ht⟩ 1 * 512 ≤ (i 1 : Nat) ∧ (i 1 : Nat) < win0_7.index ⟨(i 0 : Nat) / 32, ht⟩ 1 * 512 + win0_7.xsize (grid0.coords ⟨(i 0 : Nat) / 32, ht⟩) 1
    rw [hi.2, hx.2]
    omega

/-- After the run window 7's array holds the scaled queries. -/
theorem final7 (c : Dev nD) : (dats m 0 c).arrAt 7 cfg0.N = result7 m c :=
  (dats m 0 c).arrAt_eq_of_cover 7 (result7 m c) (fun t _ => flushed7_eq m c t) cover7

/-! ## The keys (window 8) -/

/-- What a point's stores leave in window 8's block. -/
theorem out8_eq (x : Vec Ideal S32x1024 .f32) (g : Vec Ideal S1x1024 .f32) (w : Vec Ideal S1024x2560 .bf16) (wf : Vec Ideal S1024x128 .bf16) (b : Vec Ideal S1x128 .f32) :
    out0_8 x g w wf b = k0_pay1 (F := Ideal) (k0_pay4 x g) (View.ld w (Rect.unit (s := S1024x2560) ![0, 1536] S1024x512.size inb_S1024x2560_S1024x512_0_1536)) := by
  unfold out0_8 k0_pay8
  rw [View.canon_unit_zero (S := S32x512) hz2]
  simp only [View.ld_unit_zero (S := S32x1024) hz2, View.ld_unit_zero (S := S1x1024) hz2]

/-- The keys as an array of device `c`'s arguments. -/
def result8 (c : Dev nD) : Vec Ideal S32x512 .f32 :=
  fun i => product m c (i 0) ⟨1536 + (i 1 : Fin 512).val, by have h : (i 1 : Fin 512).val < 512 := (i 1 : Fin 512).isLt; omega⟩

/-- A point's block of window 8, element by element. -/
theorem block8_apply (c : Dev nD) (t : Fin cfg0.N) (r : Fin 32) (d : Fin 512) :
    out0_8 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = product m c (row t r) ⟨1536 + d.val, by omega⟩ := by
  rw [out8_eq, pay1_apply]
  unfold product productAt
  simp only [pay4_apply, iblk0_apply, iblk1_apply]
  exact Finset.sum_congr rfl fun k _ => congrArg (normed (argX m c (row t r)) (argG m c) k * ·) ((cols1536_apply _ k d).trans (iblk2_apply m c t k _))

/-- What point `t` writes back to window 8's array is its block of the keys. -/
theorem flushed8_eq (c : Dev nD) (t : Fin cfg0.N) :
    (dats m 0 c).flushed 8 t = ((cfg0.win 8).blk t).view.read (Elt Ideal) (result8 m c) := by
  have hi := index8 t
  rw [Value.flushed8]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block8_apply m c t r d).trans ?_
  have e : (((cfg0.win 8).blk t).view.emb (ix2 r d : S32x512.Idx)) = (ix2 (row t r) d : S32x512.Idx) := by
    funext a
    apply Fin.ext
    match a with
    | ⟨0, _⟩ => show win0_8.index t 0 * 32 + 1 * r.val = 32 * t.val + r.val; omega
    | ⟨1, _⟩ => show win0_8.index t 1 * 512 + 1 * d.val = d.val; omega
  exact (congrArg (result8 m c) e).symm

/-- The one block covers the array of the keys. -/
theorem cover8 (i : S32x512.Idx) : ∃ t : Fin cfg0.N, (cfg0.win 8).flush t = true ∧ i ∈ ((cfg0.win 8).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_8 _, ?_⟩
  have hi := index8 ⟨(i 0 : Nat) / 32, ht⟩
  have hx : ∀ t : Fin grid0.N, win0_8.xsize (grid0.coords t) 0 = 32 ∧ win0_8.xsize (grid0.coords t) 1 = 512 := by decide +kernel
  have hx := hx ⟨(i 0 : Nat) / 32, ht⟩
  show i ∈ ((View.whole main_v8_3).slice (win0_8.rect ⟨(i 0 : Nat) / 32, ht⟩)).set
  rw [View.set_slice_whole, Rect.mem_set_unit]
  intro a
  match a with
  | ⟨0, _⟩ =>
    show win0_8.index ⟨(i 0 : Nat) / 32, ht⟩ 0 * 32 ≤ (i 0 : Nat) ∧ (i 0 : Nat) < win0_8.index ⟨(i 0 : Nat) / 32, ht⟩ 0 * 32 + win0_8.xsize (grid0.coords ⟨(i 0 : Nat) / 32, ht⟩) 0
    rw [hi.1, hx.1]
    dsimp only
    omega
  | ⟨1, _⟩ =>
    show win0_8.index ⟨(i 0 : Nat) / 32, ht⟩ 1 * 512 ≤ (i 1 : Nat) ∧ (i 1 : Nat) < win0_8.index ⟨(i 0 : Nat) / 32, ht⟩ 1 * 512 + win0_8.xsize (grid0.coords ⟨(i 0 : Nat) / 32, ht⟩) 1
    rw [hi.2, hx.2]
    omega

/-- After the run window 8's array holds the keys. -/
theorem final8 (c : Dev nD) : (dats m 0 c).arrAt 8 cfg0.N = result8 m c :=
  (dats m 0 c).arrAt_eq_of_cover 8 (result8 m c) (fun t _ => flushed8_eq m c t) cover8

/-! ## The values (window 9) -/

/-- What a point's stores leave in window 9's block. -/
theorem out9_eq (x : Vec Ideal S32x1024 .f32) (g : Vec Ideal S1x1024 .f32) (w : Vec Ideal S1024x2560 .bf16) (wf : Vec Ideal S1024x128 .bf16) (b : Vec Ideal S1x128 .f32) :
    out0_9 x g w wf b = k0_pay2 (F := Ideal) (k0_pay4 x g) (View.ld w (Rect.unit (s := S1024x2560) ![0, 2048] S1024x512.size inb_S1024x2560_S1024x512_0_2048)) := by
  unfold out0_9 k0_pay8
  rw [View.canon_unit_zero (S := S32x512) hz2]
  simp only [View.ld_unit_zero (S := S32x1024) hz2, View.ld_unit_zero (S := S1x1024) hz2]

/-- The values as an array of device `c`'s arguments. -/
def result9 (c : Dev nD) : Vec Ideal S32x512 .f32 :=
  fun i => product m c (i 0) ⟨2048 + (i 1 : Fin 512).val, by have h : (i 1 : Fin 512).val < 512 := (i 1 : Fin 512).isLt; omega⟩

/-- A point's block of window 9, element by element. -/
theorem block9_apply (c : Dev nD) (t : Fin cfg0.N) (r : Fin 32) (d : Fin 512) :
    out0_9 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = product m c (row t r) ⟨2048 + d.val, by omega⟩ := by
  rw [out9_eq, pay2_apply]
  unfold product productAt
  simp only [pay4_apply, iblk0_apply, iblk1_apply]
  exact Finset.sum_congr rfl fun k _ => congrArg (normed (argX m c (row t r)) (argG m c) k * ·) ((cols2048_apply _ k d).trans (iblk2_apply m c t k _))

/-- What point `t` writes back to window 9's array is its block of the values. -/
theorem flushed9_eq (c : Dev nD) (t : Fin cfg0.N) :
    (dats m 0 c).flushed 9 t = ((cfg0.win 9).blk t).view.read (Elt Ideal) (result9 m c) := by
  have hi := index9 t
  rw [Value.flushed9]
  funext j
  rw [View.read_apply]
  obtain ⟨r, d, rfl⟩ : ∃ (r : Fin 32) (d : Fin 512), j = (ix2 r d : S32x512.Idx) := ⟨j 0, j 1, eq_ix2 (n0 := 32) (n1 := 512) j⟩
  refine (block9_apply m c t r d).trans ?_
  have e : (((cfg0.win 9).blk t).view.emb (ix2 r d : S32x512.Idx)) = (ix2 (row t r) d : S32x512.Idx) := by
    funext a
    apply Fin.ext
    match a with
    | ⟨0, _⟩ => show win0_9.index t 0 * 32 + 1 * r.val = 32 * t.val + r.val; omega
    | ⟨1, _⟩ => show win0_9.index t 1 * 512 + 1 * d.val = d.val; omega
  exact (congrArg (result9 m c) e).symm

/-- The one block covers the array of the values. -/
theorem cover9 (i : S32x512.Idx) : ∃ t : Fin cfg0.N, (cfg0.win 9).flush t = true ∧ i ∈ ((cfg0.win 9).blk t).view.set := by
  have h0 : (i 0 : Nat) < 32 := (i 0).isLt
  have h1 : (i 1 : Nat) < 512 := (i 1).isLt
  have hN : cfg0.N = 1 := N_0
  have ht : (i 0 : Nat) / 32 < cfg0.N := by omega
  refine ⟨⟨(i 0 : Nat) / 32, ht⟩, flush0_9 _, ?_⟩
  have hi := index9 ⟨(i 0 : Nat) / 32, ht⟩
  have hx : ∀ t : Fin grid0.N, win0_9.xsize (grid0.coords t) 0 = 32 ∧ win0_9.xsize (grid0.coords t) 1 = 512 := by decide +kernel
  have hx := hx ⟨(i 0 : Nat) / 32, ht⟩
  show i ∈ ((View.whole main_v8_4).slice (win0_9.rect ⟨(i 0 : Nat) / 32, ht⟩)).set
  rw [View.set_slice_whole, Rect.mem_set_unit]
  intro a
  match a with
  | ⟨0, _⟩ =>
    show win0_9.index ⟨(i 0 : Nat) / 32, ht⟩ 0 * 32 ≤ (i 0 : Nat) ∧ (i 0 : Nat) < win0_9.index ⟨(i 0 : Nat) / 32, ht⟩ 0 * 32 + win0_9.xsize (grid0.coords ⟨(i 0 : Nat) / 32, ht⟩) 0
    rw [hi.1, hx.1]
    dsimp only
    omega
  | ⟨1, _⟩ =>
    show win0_9.index ⟨(i 0 : Nat) / 32, ht⟩ 1 * 512 ≤ (i 1 : Nat) ∧ (i 1 : Nat) < win0_9.index ⟨(i 0 : Nat) / 32, ht⟩ 1 * 512 + win0_9.xsize (grid0.coords ⟨(i 0 : Nat) / 32, ht⟩) 1
    rw [hi.2, hx.2]
    omega

/-- After the run window 9's array holds the values. -/
theorem final9 (c : Dev nD) : (dats m 0 c).arrAt 9 cfg0.N = result9 m c :=
  (dats m 0 c).arrAt_eq_of_cover 9 (result9 m c) (fun t _ => flushed9_eq m c t) cover9

/-! ## The log gates (window 10) -/

/-- What a point's stores leave in window 10's block. -/
theorem out10_eq (x : Vec Ideal S32x1024 .f32) (g : Vec Ideal S1x1024 .f32) (w : Vec Ideal S1024x2560 .bf16) (wf : Vec Ideal S1024x128 .bf16) (b : Vec Ideal S1x128 .f32) :
    out0_10 x g w wf b = k0_pay3 (F := Ideal) (k0_pay4 x g) wf b := by
  unfold out0_10 k0_pay8
  rw [View.canon_unit_zero (S := S32x8) hz2]
  simp only [View.ld_unit_zero (S := S32x1024) hz2, View.ld_unit_zero (S := S1x1024) hz2, View.ld_unit_zero (S := S1024x128) hz2, View.ld_unit_zero (S := S1x128) hz2]

/-- The log gates as an array of device `c`'s arguments. -/
def result10 (c : Dev nD) : Vec Ideal S32x8 .f32 :=
  fun i => logSigmoid (product m c (i 0) ⟨2560 + (i 1 : Fin 8).val, by have h : (i 1 : Fin 8).val < 8 := (i 1 : Fin 8).isLt; omega⟩ + argB m c (i 1))

/-- A point's block of window 10, element by element. -/
theorem block10_apply (c : Dev nD) (t : Fin cfg0.N) (r : Fin 32) (d : Fin 8) :
    out0_10 (iblk m c 0 t : Vec Ideal S32x1024 .f32) (iblk m c 1 t : Vec Ideal S1x1024 .f32) (iblk m c 2 t : Vec Ideal S1024x2560 .bf16) (iblk m c 3 t : Vec Ideal S1024x128 .bf16) (iblk m c 4 t : Vec Ideal S1x128 .f32) (ix2 r d)
      = logSigmoid (product m c (row t r) ⟨2560 + d.val, by omega⟩ + argB m c d) := by
  rw [out10_eq, pay3_apply]
  unfold product productAt
  simp only [pay4_apply, iblk0_apply, iblk1_apply, iblk4_apply]
  exact congrArg (fun s => logSigmoid (s + argB m c d)) (Finset.sum_congr rfl fun k _ => congrArg (normed (argX m c (row t r)) (argG m c) k * ·) (iblk3_apply m c t k d))

/-- What point `t` writes back to window 10's array is its block of the log gates. -/
theorem flushed10_eq (c : Dev nD) (t : Fin cfg0.N) :
    (dats m 0 c).flushed 10 t = ((cfg0.win 10).blk t).view.read (Elt Ideal) (result10 m c) := by
  have hi := index10 t
  rw [Value.flushed10]
  funext j
  rw [View.read_apply]
  obtain ⟨r, d, rfl⟩ : ∃ (r : Fin 32) (d : Fin 8), j = (ix2 r d : S32x8.Idx) := ⟨j 0, j 1, eq_ix2 (n0 := 32) (n1 := 8) j⟩
  refine (block10_apply m c t r d).trans ?_
  have e : (((cfg0.win 10).blk t).view.emb (ix2 r d : S32x8.Idx)) = (ix2 (row t r) d : S32x8.Idx) := by
    funext a
    apply Fin.ext
    match a with
    | ⟨0, _⟩ => show win0_10.index t 0 * 32 + 1 * r.val = 32 * t.val + r.val; omega
    | ⟨1, _⟩ => show win0_10.index t 1 * 8 + 1 * d.val = d.val; omega
  exact (congrArg (result10 m c) e).symm

/-- The one block covers the array of the log gates. -/
theorem cover10 (i : S32x8.Idx) : ∃ t : Fin cfg0.N, (cfg0.win 10).flush t = true ∧ i ∈ ((cfg0.win 10).blk t).view.set := by
  have h0 : (i 0 : Nat) < 32 := (i 0).isLt
  have h1 : (i 1 : Nat) < 8 := (i 1).isLt
  have hN : cfg0.N = 1 := N_0
  have ht : (i 0 : Nat) / 32 < cfg0.N := by omega
  refine ⟨⟨(i 0 : Nat) / 32, ht⟩, flush0_10 _, ?_⟩
  have hi := index10 ⟨(i 0 : Nat) / 32, ht⟩
  have hx : ∀ t : Fin grid0.N, win0_10.xsize (grid0.coords t) 0 = 32 ∧ win0_10.xsize (grid0.coords t) 1 = 8 := by decide +kernel
  have hx := hx ⟨(i 0 : Nat) / 32, ht⟩
  show i ∈ ((View.whole main_v8_5).slice (win0_10.rect ⟨(i 0 : Nat) / 32, ht⟩)).set
  rw [View.set_slice_whole, Rect.mem_set_unit]
  intro a
  match a with
  | ⟨0, _⟩ =>
    show win0_10.index ⟨(i 0 : Nat) / 32, ht⟩ 0 * 32 ≤ (i 0 : Nat) ∧ (i 0 : Nat) < win0_10.index ⟨(i 0 : Nat) / 32, ht⟩ 0 * 32 + win0_10.xsize (grid0.coords ⟨(i 0 : Nat) / 32, ht⟩) 0
    rw [hi.1, hx.1]
    dsimp only
    omega
  | ⟨1, _⟩ =>
    show win0_10.index ⟨(i 0 : Nat) / 32, ht⟩ 1 * 8 ≤ (i 1 : Nat) ∧ (i 1 : Nat) < win0_10.index ⟨(i 0 : Nat) / 32, ht⟩ 1 * 8 + win0_10.xsize (grid0.coords ⟨(i 0 : Nat) / 32, ht⟩) 1
    rw [hi.2, hx.2]
    omega

/-- After the run window 10's array holds the log gates. -/
theorem final10 (c : Dev nD) : (dats m 0 c).arrAt 10 cfg0.N = result10 m c :=
  (dats m 0 c).arrAt_eq_of_cover 10 (result10 m c) (fun t _ => flushed10_eq m c t) cover10

/-! ## The reference -/

/-- The reference's product, element by element. -/
theorem ref_product (x : Vec Ideal Cert.OddSampleRefIdeal.S32x1024 .f32) (g : Vec Ideal Cert.OddSampleRefIdeal.S1024 .f32) (w : Vec Ideal Cert.OddSampleRefIdeal.S1024x2568 .f32) (r : Fin 32) (j : Fin 2568) :
    Cert.OddSampleRefIdeal.Read.val_main_v13 (F := Ideal) x g w (ix2 r j)
      = productAt (fun k => x (ix2 r k)) (fun k => g (ix1 k)) (fun k e => w (ix2 k e)) j := by
  have hn : ∀ k : Fin 1024, Cert.OddSampleRefIdeal.Read.val_main_v12 (F := Ideal) x g (ix2 r k) = normed (fun k => x (ix2 r k)) (fun k => g (ix1 k)) k := by
    intro k
    open Cert.OddSampleRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  pointwise [Cert.OddSampleRefIdeal.Read.val_main_v13]
  simp only [hn]
  rfl

/-- The reference's mixing inputs, element by element. -/
theorem ref5_apply (x : Vec Ideal Cert.OddSampleRefIdeal.S32x1024 .f32) (g : Vec Ideal Cert.OddSampleRefIdeal.S1024 .f32) (w : Vec Ideal Cert.OddSampleRefIdeal.S1024x2568 .f32) (r : Fin 32) (d : Fin 512) :
    Cert.OddSampleRefIdeal.Read.val_main_v14 (F := Ideal) x g w (ix2 r d)
      = productAt (fun k => x (ix2 r k)) (fun k => g (ix1 k)) (fun k e => w (ix2 k e)) ⟨0 + d.val, by omega⟩ := by
  pointwise [Cert.OddSampleRefIdeal.Read.val_main_v14]
  simp only [ref_product]

/-- The reference's gates, element by element. -/
theorem ref6_apply (x : Vec Ideal Cert.OddSampleRefIdeal.S32x1024 .f32) (g : Vec Ideal Cert.OddSampleRefIdeal.S1024 .f32) (w : Vec Ideal Cert.OddSampleRefIdeal.S1024x2568 .f32) (r : Fin 32) (d : Fin 512) :
    Cert.OddSampleRefIdeal.Read.val_main_v15 (F := Ideal) x g w (ix2 r d)
      = productAt (fun k => x (ix2 r k)) (fun k => g (ix1 k)) (fun k e => w (ix2 k e)) ⟨512 + d.val, by omega⟩ := by
  pointwise [Cert.OddSampleRefIdeal.Read.val_main_v15]
  simp only [ref_product]

/-- The reference's scaled queries, element by element. -/
theorem ref7_apply (x : Vec Ideal Cert.OddSampleRefIdeal.S32x1024 .f32) (g : Vec Ideal Cert.OddSampleRefIdeal.S1024 .f32) (w : Vec Ideal Cert.OddSampleRefIdeal.S1024x2568 .f32) (r : Fin 32) (d : Fin 512) :
    Cert.OddSampleRefIdeal.Read.val_main_v21 (F := Ideal) x g w (ix2 r d)
      = productAt (fun k => x (ix2 r k)) (fun k => g (ix1 k)) (fun k e => w (ix2 k e)) ⟨1024 + d.val, by omega⟩ * eighth := by
  pointwise [Cert.OddSampleRefIdeal.Read.val_main_v21, Cert.OddSampleRefIdeal.Read.val_main_v20, Cert.OddSampleRefIdeal.Read.val_main_v16, Cert.OddSampleRefIdeal.Read.val_main_cst_2]
  simp only [ref_product]

/-- The reference's keys, element by element. -/
theorem ref8_apply (x : Vec Ideal Cert.OddSampleRefIdeal.S32x1024 .f32) (g : Vec Ideal Cert.OddSampleRefIdeal.S1024 .f32) (w : Vec Ideal Cert.OddSampleRefIdeal.S1024x2568 .f32) (r : Fin 32) (d : Fin 512) :
    Cert.OddSampleRefIdeal.Read.val_main_v17 (F := Ideal) x g w (ix2 r d)
      = productAt (fun k => x (ix2 r k)) (fun k => g (ix1 k)) (fun k e => w (ix2 k e)) ⟨1536 + d.val, by omega⟩ := by
  pointwise [Cert.OddSampleRefIdeal.Read.val_main_v17]
  simp only [ref_product]

/-- The reference's values, element by element. -/
theorem ref9_apply (x : Vec Ideal Cert.OddSampleRefIdeal.S32x1024 .f32) (g : Vec Ideal Cert.OddSampleRefIdeal.S1024 .f32) (w : Vec Ideal Cert.OddSampleRefIdeal.S1024x2568 .f32) (r : Fin 32) (d : Fin 512) :
    Cert.OddSampleRefIdeal.Read.val_main_v18 (F := Ideal) x g w (ix2 r d)
      = productAt (fun k => x (ix2 r k)) (fun k => g (ix1 k)) (fun k e => w (ix2 k e)) ⟨2048 + d.val, by omega⟩ := by
  pointwise [Cert.OddSampleRefIdeal.Read.val_main_v18]
  simp only [ref_product]

/-- The reference's gates before the logistic function, element by element. -/
theorem ref_gate (x : Vec Ideal Cert.OddSampleRefIdeal.S32x1024 .f32) (g : Vec Ideal Cert.OddSampleRefIdeal.S1024 .f32) (w : Vec Ideal Cert.OddSampleRefIdeal.S1024x2568 .f32) (b : Vec Ideal Cert.OddSampleRefIdeal.S8 .f32) (r : Fin 32) (d : Fin 8) :
    Cert.OddSampleRefIdeal.Read.val_main_v24 (F := Ideal) x g w b (ix2 r d)
      = productAt (fun k => x (ix2 r k)) (fun k => g (ix1 k)) (fun k e => w (ix2 k e)) ⟨2560 + d.val, by omega⟩ + b (ix1 d) := by
  pointwise [Cert.OddSampleRefIdeal.Read.val_main_v24, Cert.OddSampleRefIdeal.Read.val_main_v23, Cert.OddSampleRefIdeal.Read.val_main_v22, Cert.OddSampleRefIdeal.Read.val_main_v19]
  simp only [ref_product]

/-- The reference's log gates, element by element. -/
theorem ref10_apply (x : Vec Ideal Cert.OddSampleRefIdeal.S32x1024 .f32) (g : Vec Ideal Cert.OddSampleRefIdeal.S1024 .f32) (w : Vec Ideal Cert.OddSampleRefIdeal.S1024x2568 .f32) (b : Vec Ideal Cert.OddSampleRefIdeal.S8 .f32) (r : Fin 32) (d : Fin 8) :
    Cert.OddSampleRefIdeal.Read.val_main_v25 (F := Ideal) x g w b (ix2 r d)
      = logSigmoid (productAt (fun k => x (ix2 r k)) (fun k => g (ix1 k)) (fun k e => w (ix2 k e)) ⟨2560 + d.val, by omega⟩ + b (ix1 d)) := by
  rw [← ref_gate]
  generalize hz : Cert.OddSampleRefIdeal.Read.val_main_v24 (F := Ideal) x g w b = z
  open Cert.OddSampleRefIdeal.Read in
  pointwise [val_main_v25, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, hz]
  unfold logSigmoid
  simp [abs_eq, max_comm]

end Cert.OddSampleIdeal.Block

end
-- ==== Proof.OddSampleClaims.lean ====
module

public import proofs.«01_k».proof.Defs
public import proofs.«01_k».proof.Proof.Gen.OddSample.Frame
public import proofs.«01_k».proof.Proof.OddSampleValue
public import Idealize.ShloMosaic.Lib.Quiescent

@[expose] public section

set_option maxRecDepth 16384

noncomputable section

/-! # The claims about the input projection of the odd layers on the sample -/

namespace Cert.Proof.OddSampleClaims

open Idealize.ShloMosaic Idealize.ShloMosaic.TcCoe Idealize.SL.Sem

/-- The kernel, at words, leaves its arguments and its semaphores as it found them. -/
theorem frame_kernel : Cert.quiescent_OddSample := fun m ρ _ => Cert.OddSample.Gen.frame m ρ

/-- The kernel over the extended reals leaves its arguments and its semaphores as it found them. -/
theorem frame_ideal : Cert.quiescent_OddSampleIdeal := fun m ρ _ => Cert.OddSampleIdeal.Gen.frame m ρ

/-- The reference leaves its arguments as it found them; it has no semaphore. -/
theorem frame_ref : Cert.quiescent_OddSampleRefIdeal := fun m ρ _ =>
  (θ_run Cert.OddSampleRefIdeal.defs _ _).mono (fun r h => ⟨fun c => (h c).2.2.2.2.2.2, Idealize.ShloMosaic.sem_eq_zero_of_no_sems (by decide) r.2⟩)
    (Cert.OddSampleRefIdeal.Value.run (F := Ideal) m ρ)

/-- The idealized kernel is the kernel's own text. -/
theorem preserves : Cert.preserves_OddSample_OddSampleIdeal := trivial

set_option maxHeartbeats 1000000 in
/-- Over the extended reals each of the kernel's six result arrays is the reference's. -/
theorem algebraic : Cert.algebraic_OddSampleIdeal_OddSampleRefIdeal := by
  intro m ρ m' ρ' _ hagree
  refine ⟨fun c => (Cert.OddSampleIdeal.Gen.dats m 0 c).arrAt 5 Cert.OddSampleIdeal.cfg0.N, fun c => (Cert.OddSampleIdeal.Gen.dats m 0 c).arrAt 6 Cert.OddSampleIdeal.cfg0.N, fun c => (Cert.OddSampleIdeal.Gen.dats m 0 c).arrAt 7 Cert.OddSampleIdeal.cfg0.N, fun c => (Cert.OddSampleIdeal.Gen.dats m 0 c).arrAt 8 Cert.OddSampleIdeal.cfg0.N, fun c => (Cert.OddSampleIdeal.Gen.dats m 0 c).arrAt 9 Cert.OddSampleIdeal.cfg0.N, fun c => (Cert.OddSampleIdeal.Gen.dats m 0 c).arrAt 10 Cert.OddSampleIdeal.cfg0.N,
    Cert.OddSampleIdeal.Value.run_blocks m ρ, ?_⟩
  refine (θ_run Cert.OddSampleRefIdeal.defs _ _).mono (fun _ h c => ?_) (Cert.OddSampleRefIdeal.Value.run (F := Ideal) m' ρ')
  obtain ⟨r5, r6, r7, r8, r9, r10, hargs⟩ := h c
  obtain ⟨h0, h1, h2, h3⟩ := hagree c
  refine ⟨r5.trans ?_, r6.trans ?_, r7.trans ?_, r8.trans ?_, r9.trans ?_, r10.trans ?_, hargs⟩
  · rw [h0, h1, h2]
    refine Eq.trans ?_ (Cert.OddSampleIdeal.Block.final5 m c).symm
    refine (Cert.OddSampleRefIdeal.Read.val_main_v14_eq (F := Ideal) _ _ _).trans ?_
    funext i
    obtain ⟨r, d, rfl⟩ : ∃ (r : Fin 32) (d : Fin 512), i = (ix2 r d : Cert.OddSampleIdeal.S32x512.Idx) := ⟨i 0, i 1, eq_ix2 (n0 := 32) (n1 := 512) i⟩
    exact Cert.OddSampleIdeal.Block.ref5_apply _ _ _ r d
  · rw [h0, h1, h2]
    refine Eq.trans ?_ (Cert.OddSampleIdeal.Block.final6 m c).symm
    refine (Cert.OddSampleRefIdeal.Read.val_main_v15_eq (F := Ideal) _ _ _).trans ?_
    funext i
    obtain ⟨r, d, rfl⟩ : ∃ (r : Fin 32) (d : Fin 512), i = (ix2 r d : Cert.OddSampleIdeal.S32x512.Idx) := ⟨i 0, i 1, eq_ix2 (n0 := 32) (n1 := 512) i⟩
    exact Cert.OddSampleIdeal.Block.ref6_apply _ _ _ r d
  · rw [h0, h1, h2]
    refine Eq.trans ?_ (Cert.OddSampleIdeal.Block.final7 m c).symm
    refine (Cert.OddSampleRefIdeal.Read.val_main_v21_eq (F := Ideal) _ _ _).trans ?_
    funext i
    obtain ⟨r, d, rfl⟩ : ∃ (r : Fin 32) (d : Fin 512), i = (ix2 r d : Cert.OddSampleIdeal.S32x512.Idx) := ⟨i 0, i 1, eq_ix2 (n0 := 32) (n1 := 512) i⟩
    exact Cert.OddSampleIdeal.Block.ref7_apply _ _ _ r d
  · rw [h0, h1, h2]
    refine Eq.trans ?_ (Cert.OddSampleIdeal.Block.final8 m c).symm
    refine (Cert.OddSampleRefIdeal.Read.val_main_v17_eq (F := Ideal) _ _ _).trans ?_
    funext i
    obtain ⟨r, d, rfl⟩ : ∃ (r : Fin 32) (d : Fin 512), i = (ix2 r d : Cert.OddSampleIdeal.S32x512.Idx) := ⟨i 0, i 1, eq_ix2 (n0 := 32) (n1 := 512) i⟩
    exact Cert.OddSampleIdeal.Block.ref8_apply _ _ _ r d
  · rw [h0, h1, h2]
    refine Eq.trans ?_ (Cert.OddSampleIdeal.Block.final9 m c).symm
    refine (Cert.OddSampleRefIdeal.Read.val_main_v18_eq (F := Ideal) _ _ _).trans ?_
    funext i
    obtain ⟨r, d, rfl⟩ : ∃ (r : Fin 32) (d : Fin 512), i = (ix2 r d : Cert.OddSampleIdeal.S32x512.Idx) := ⟨i 0, i 1, eq_ix2 (n0 := 32) (n1 := 512) i⟩
    exact Cert.OddSampleIdeal.Block.ref9_apply _ _ _ r d
  · refine Eq.trans ?_ (Cert.OddSampleIdeal.Block.final10 m c).symm
    refine (Cert.OddSampleRefIdeal.Read.val_main_v25_eq (F := Ideal) m' c).trans ?_
    rw [h0, h1, h2, h3]
    funext i
    obtain ⟨r, d, rfl⟩ : ∃ (r : Fin 32) (d : Fin 8), i = (ix2 r d : Cert.OddSampleIdeal.S32x8.Idx) := ⟨i 0, i 1, eq_ix2 (n0 := 32) (n1 := 8) i⟩
    exact Cert.OddSampleIdeal.Block.ref10_apply _ _ _ _ r d

end Cert.Proof.OddSampleClaims

end
-- ==== Proof.LastSampleBlock.lean ====
module

public import proofs.«01_k».proof.Proof.Gen.LastSampleIdeal.Value
public import Idealize.ShloMosaic.Lib.Pipeline.Value
public import Idealize.ShloMosaic.Lib.Tactic

@[expose] public section

set_option maxRecDepth 16384

noncomputable section

/-! # The last feed-forward kernel on the sample: what the one grid point leaves in its output block -/

namespace Cert.LastSampleIdeal.Block

open Cert.LastSampleIdeal Cert.LastSampleIdeal.Gen Idealize.ShloMosaic Idealize.ShloMosaic.TcCoe Idealize.SL.Sem
open Idealize.ShloMosaic.Pipeline (Dat)

variable {F : FTy → Type} [FloatOps F]

/-- The offsets of a load or a store of a whole two-axis buffer are zero. -/
theorem hz2 : (![0, 0] : Fin 2 → Nat) = fun _ => 0 := funext fun a => by fin_cases a <;> rfl

/-- The loop makes eleven trips. -/
theorem trips_eq : k0_t1_loop.trips = 11 := by decide +kernel

/-- Chunk `k` of the gate or up weights (eleven chunks of 256 columns). -/
def wcol (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weights (eleven chunks of 256 rows). -/
def wrow (w : Vec F S11x256x1024 .bf16) (k : Fin k0_t1_loop.trips) : Vec F S1x256x1024 .bf16 :=
  View.ld w (Rect.unit (s := S11x256x1024) (k0_off2 k) S1x256x1024.size (k0_off2_inb k))

/-- The output block before trip `k`: the input block, then what each earlier trip adds to it. -/
def acc (x0 : Vec F S32x1024 .f32) (hn : Vec F S32x1024 .bf16) (x2 x3 : Vec F S11x1024x256 .bf16)
    (x4 : Vec F S11x256x1024 .bf16) : ℕ → Vec F S32x1024 .f32
  | 0 => x0
  | k + 1 => if h : k < k0_t1_loop.trips then
      k0_pay3 hn (wcol x2 ⟨k, h⟩) (wcol x3 ⟨k, h⟩) (acc x0 hn x2 x3 x4 k) (wrow x4 ⟨k, h⟩)
    else acc x0 hn x2 x3 x4 k

/-- One trip stores one piece: the whole output block, at what was there plus the chunk's share. -/
theorem trip_val (𝒱 : Variants) (c : Dev nD) (bd : Option 𝒱.V) (i : grid0.Coords) (arg1 : Memref sig .tc .vmem S32x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) (f : BufTy.Contents (Elt F) arg7.view.ty) :
    (trip_k0_t1 (F := F) 𝒱 c bd i arg1 harg1 arg2 harg2 arg3 harg3 arg4 harg4 arg5 harg5 arg6 harg6 arg7 harg7 arg8 harg8 X_arg3 X_arg4 X_arg5 X_arg8 k).1 f
      = [⟨Rect.unit (s := S32x1024) ![0, 0] S32x1024.size inb_S32x1024_S32x1024_0_0,
          k0_pay3 (arg8.view.read (Elt F) X_arg8) (wcol (arg3.view.read (Elt F) X_arg3) k)
            (wcol (arg4.view.read (Elt F) X_arg4) k) (arg7.view.read (Elt F) f) (wrow (arg5.view.read (Elt F) X_arg5) k)⟩] := by
  unfold trip_k0_t1
  dsimp only
  sl_unfold_words
  simp only [View.readAt_eq_ld, View.ld_unit_zero (S := S32x1024) hz2]
  rfl

/-- A store of the whole block covers every index. -/
theorem cover_whole (w : Vec F S32x1024 .f32) (L : List (View.Piece (Elt F) S32x1024 .f32)) (y : S32x1024.Idx) :
    ∃ pc ∈ (⟨Rect.unit (s := S32x1024) ![0, 0] S32x1024.size inb_S32x1024_S32x1024_0_0, w⟩ : View.Piece (Elt F) S32x1024 .f32) :: L, y ∈ pc.1.set :=
  ⟨_, List.mem_cons_self, by
    rw [Rect.mem_set_unit]
    intro a
    match a with
    | ⟨0, _⟩ => exact ⟨Nat.zero_le _, by have := (y 0).isLt; show (y 0).val < 0 + 32; exact (Nat.zero_add _).symm ▸ this⟩
    | ⟨1, _⟩ => exact ⟨Nat.zero_le _, by have := (y 1).isLt; show (y 1).val < 0 + 1024; exact (Nat.zero_add _).symm ▸ this⟩⟩

/-- The pieces stored before trip `k` leave `acc k`, whatever view they are written through. -/
theorem read_pieces (𝒱 : Variants) (c : Dev nD) (bd : Option 𝒱.V) (i : grid0.Coords) (arg1 : Memref sig .tc .vmem S32x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .bf16) (harg8 : arg8.IsWhole) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (x0 : Vec F S32x1024 .f32) :
    ∀ (k : ℕ), k ≤ k0_t1_loop.trips → ∀ {sg : RefSig} {κ : Kind} {sp : Space} (v : View sg κ sp S32x1024 .f32) (g : v.ty.Contents (Elt F)),
    v.read (Elt F) (v.writes (Elt F) g
      (pb_k0_t1 (F := F) 𝒱 c bd i arg1 harg1 arg2 harg2 arg3 harg3 arg4 harg4 arg5 harg5 arg6 harg6 arg7 harg7 arg8 harg8 X_arg3 X_arg4 X_arg5 X_arg8
          (arg7.view.writes (Elt F) arg7.view.junk [⟨Rect.unit (s := S32x1024) ![0, 0] S32x1024.size inb_S32x1024_S32x1024_0_0, x0⟩]) k
        ++ [⟨Rect.unit (s := S32x1024) ![0, 0] S32x1024.size inb_S32x1024_S32x1024_0_0, x0⟩]))
      = acc x0 (arg8.view.read (Elt F) X_arg8) (arg3.view.read (Elt F) X_arg3) (arg4.view.read (Elt F) X_arg4) (arg5.view.read (Elt F) X_arg5) k
  | 0, _, sg, κ, sp, v, g => by
    rw [pb_k0_t1.eq_1, List.nil_append, View.read_writes_eq_canon _ _ _ (cover_whole x0 []), View.canon_unit_zero hz2]
    rfl
  | k + 1, hk, sg, κ, sp, v, g => by
    have hk' : k < k0_t1_loop.trips := hk
    have e := pb_k0_t1_succ (F := F) 𝒱 c bd i arg1 harg1 arg2 harg2 arg3 harg3 arg4 harg4 arg5 harg5 arg6 harg6 arg7 harg7 arg8 harg8 X_arg3 X_arg4 X_arg5 X_arg8
      (arg7.view.writes (Elt F) arg7.view.junk [⟨Rect.unit (s := S32x1024) ![0, 0] S32x1024.size inb_S32x1024_S32x1024_0_0, x0⟩]) ⟨k, hk'⟩
    unfold tripL_k0_t1 at e
    rw [trip_val, ← View.writes_append] at e
    dsimp only at e
    rw [e, List.append_assoc, List.singleton_append, View.read_writes_eq_canon _ _ _ (cover_whole _ _), View.canon_cons_unit_zero hz2,
      read_pieces 𝒱 c bd i arg1 harg1 arg2 harg2 arg3 harg3 arg4 harg4 arg5 harg5 arg6 harg6 arg7 harg7 arg8 harg8 X_arg3 X_arg4 X_arg5 X_arg8 x0 k hk'.le, acc, dif_pos hk']

/-- The rows the last normalization leaves of the block. -/
def last (o : Vec F S32x1024 .f32) (x5 : Vec F S1x1024 .f32) : Vec F S32x1024 .f32 :=
  k0_pay1 (k0_pay4 o) (k0_pay5 x5) (k0_pay6 o)

/-- What the grid point leaves in its output block: the block after all eleven trips, normalized. -/
theorem out_A (c : Dev nD) (i : grid0.Coords) (arg1 : Memref sig .tc .vmem S32x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .bf16) (harg8 : arg8.IsWhole)
    (x0 : Vec F S32x1024 .f32) (x1 : Vec F S1x1024 .f32) (x2 : Vec F S11x1024x256 .bf16) (x3 : Vec F S11x1024x256 .bf16) (x4 : Vec F S11x256x1024 .bf16) (x5 : Vec F S1x1024 .f32) :
    out0_A_6 c i arg1 harg1 arg2 harg2 arg3 harg3 arg4 harg4 arg5 harg5 arg6 harg6 arg7 harg7 arg8 harg8 x0 x1 x2 x3 x4 x5 = last (acc x0 (k0_pay2 x0 x1) x2 x3 x4 11) x5 := by
  have h11 : Scf.trips (0#32) (Scalar.addi 0#32 11#32) 1#32 = 11 := by decide +kernel
  unfold out0_A_6
  unfold kernelRun0_A
  dsimp only
  sl_unfold_words
  simp only [View.readAt_eq_ld, View.ld_unit_zero (S := S32x1024) hz2, View.ld_unit_zero (S := S1x1024) hz2, harg1.read_unread, harg2.read_unread, harg6.read_unread, h11]
  rw [View.read_writes_eq_canon _ _ _ (cover_whole _ _), View.canon_cons_unit_zero hz2]
  have hn : ∀ w : Vec F S32x1024 .bf16, arg8.view.read (Elt F) (arg8.view.writes (Elt F) arg8.view.junk
      [⟨Rect.unit (s := S32x1024) ![0, 0] S32x1024.size inb_S32x1024_S32x1024_0_0, w⟩]) = w := fun w => by
    rw [View.read_writes_junk_eq_canon, View.canon_unit_zero hz2]
  have e := read_pieces (F := F) Variants.none c none i arg1 harg1 arg2 harg2 arg3 harg3 arg4 harg4 arg5 harg5 arg6 harg6 arg7 harg7 arg8 harg8
    (harg3.unread x2) (harg4.unread x3) (harg5.unread x4) (arg8.view.writes (Elt F) arg8.view.junk
      [⟨Rect.unit (s := S32x1024) ![0, 0] S32x1024.size inb_S32x1024_S32x1024_0_0, k0_pay2 x0 x1⟩]) x0 11 trips_eq.ge arg7.view arg7.view.junk
  rw [hn, harg3.read_unread, harg4.read_unread, harg5.read_unread] at e
  rw [View.read_writes_junk_eq_canon] at e
  rw [View.readCov_eq_canon', e]
  have z : (fun j : S32x1024.Idx => acc x0 (k0_pay2 x0 x1) x2 x3 x4 11
      ((Rect.unit (s := S32x1024) ![0, 0] S32x1024.size inb_S32x1024_S32x1024_0_0).toLoadRect.idx j)) = acc x0 (k0_pay2 x0 x1) x2 x3 x4 11 :=
    View.ld_unit_zero (S := S32x1024) hz2 _ (acc x0 (k0_pay2 x0 x1) x2 x3 x4 11)
  unfold last
  exact congrArg (fun o => k0_pay1 (k0_pay4 o) (k0_pay5 x5) (k0_pay6 o)) z

end Cert.LastSampleIdeal.Block

end
-- ==== Proof.LastSampleValue.lean ====
module

public import proofs.«01_k».proof.Proof.LastSampleBlock
public import proofs.«01_k».proof.Proof.Gen.LastSampleRefIdeal.Read
public import Idealize.ShloMosaic.Lib.Pointwise
public import Idealize.ShloMosaic.Lib.Pipeline.ValueKit.Tiles

@[expose] public section

set_option maxRecDepth 16384

noncomputable section

/-! # The last feed-forward layer and the model's final normalization, on the sample: the kernel's result array and the reference's, element by element -/

namespace Cert.LastSampleIdeal.Block

open Cert.LastSampleIdeal Cert.LastSampleIdeal.Gen Idealize.ShloMosaic Idealize.ShloMosaic.TcCoe Idealize.SL.Sem
open Idealize.ShloMosaic.Pipeline (Dat)

/-! ## The mathematics -/

/-- Element `d` of a row, divided by the row's root mean square and scaled by the gain. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

/-- A gated hidden unit: `silu a * u`, `a` and `u` the row's products with one column of the gate and of the up weights. -/
def gated (h wg wu : Fin 1024 → EReal) : EReal :=
  (∑ k, h k * wg k) * Ideal.logistic (∑ k, h k * wg k) * ∑ k, h k * wu k

/-- The constant the layer's contribution is scaled by. -/
abbrev half : EReal := Ideal.ofBits FTy.f32 0x3F000000#32

/-- The constant 0.5 is one half. -/
theorem half_eq : half = (((1 / 2 : ℝ)) : EReal) := by
  unfold half
  simp [Ideal.ofBits, Ideal.ieee, -EReal.coe_mul]; norm_num

/-- One half is not negative. -/
theorem half_nonneg : (0 : EReal) ≤ half := by
  rw [half_eq]; exact_mod_cast (by norm_num : (0 : ℝ) ≤ 1 / 2)

/-- One half is not infinite. -/
theorem half_ne_top : half ≠ ⊤ := by
  rw [half_eq]; exact EReal.coe_ne_top _

/-- A nonnegative finite factor distributes over a finite sum of extended reals. -/
theorem mul_sum_of_nonneg {ι : Type*} (c : EReal) (h0 : 0 ≤ c) (h1 : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- A sum over 2816 positions, cut into eleven chunks of 256. -/
theorem sum_chunks (f : Fin 2816 → EReal) :
    ∑ i, f i = ∑ j : Fin 11, ∑ e : Fin 256, f ⟨256 * j.val + e.val, by omega⟩ := by
  rw [← Fintype.sum_prod_type' (f := fun (j : Fin 11) (e : Fin 256) => f ⟨256 * j.val + e.val, by omega⟩),
    ← (finProdFinEquiv (m := 11) (n := 256)).sum_comp]
  refine Finset.sum_congr rfl fun p _ => congrArg f (Fin.ext ?_)
  show p.2.val + 256 * p.1.val = 256 * p.1.val + p.2.val
  omega

/-! ## The block -/

/-- The normalized rows, element by element. -/
theorem pay2_apply (v0 : Vec Ideal S32x1024 .f32) (v1 : Vec Ideal S1x1024 .f32) (r : Fin 32) (d : Fin 1024) :
    k0_pay2 (F := Ideal) v0 v1 (ix2 r d) = normed (fun k => v0 (ix2 r k)) (fun k => v1 (ix2 0 k)) d := by
  pointwise [k0_pay2]
  rfl

/-- One chunk's contribution, element by element. -/
theorem pay3_apply (hn : Vec Ideal S32x1024 .bf16) (w1 w2 : Vec Ideal S1x1024x256 .bf16) (o : Vec Ideal S32x1024 .f32)
    (w3 : Vec Ideal S1x256x1024 .bf16) (r : Fin 32) (d : Fin 1024) :
    k0_pay3 (F := Ideal) hn w1 w2 o w3 (ix2 r d)
      = o (ix2 r d) + half * ∑ e : Fin 256, gated (fun k => hn (ix2 r k)) (fun k => w1 (ix3 0 k e)) (fun k => w2 (ix3 0 k e)) * w3 (ix3 0 e d) := by
  pointwise [k0_pay3]
  rfl

/-- The final normalization of a block's rows, element by element. -/
theorem last_apply (o : Vec Ideal S32x1024 .f32) (x5 : Vec Ideal S1x1024 .f32) (r : Fin 32) (d : Fin 1024) :
    last (F := Ideal) o x5 (ix2 r d) = normed (fun k => o (ix2 r k)) (fun k => x5 (ix2 0 k)) d := by
  pointwise [last, k0_pay1, k0_pay4, k0_pay5, k0_pay6]
  rfl

/-- Chunk `k` of the gate or up weights, element by element. -/
theorem wcol_apply (w : Vec Ideal S11x1024x256 .bf16) (k : Fin k0_t1_loop.trips) (a : Fin 1024) (e : Fin 256) :
    wcol w k (ix3 0 a e) = w (ix3 ⟨k.val, trips_eq ▸ k.isLt⟩ a e) := by
  refine View.ld_unit_apply_of _ _ _ _ _ _ fun b => ?_
  have h := congrFun (k0_off1_eq k) b
  rw [h]
  match b with
  | ⟨0, _⟩ => rfl
  | ⟨1, _⟩ => exact (Nat.zero_add _).symm
  | ⟨2, _⟩ => exact (Nat.zero_add _).symm

/-- Chunk `k` of the down weights, element by element. -/
theorem wrow_apply (w : Vec Ideal S11x256x1024 .bf16) (k : Fin k0_t1_loop.trips) (e : Fin 256) (d : Fin 1024) :
    wrow w k (ix3 0 e d) = w (ix3 ⟨k.val, trips_eq ▸ k.isLt⟩ e d) := by
  refine View.ld_unit_apply_of _ _ _ _ _ _ fun b => ?_
  have h := congrFun (k0_off2_eq k) b
  rw [h]
  match b with
  | ⟨0, _⟩ => rfl
  | ⟨1, _⟩ => exact (Nat.zero_add _).symm
  | ⟨2, _⟩ => exact (Nat.zero_add _).symm

/-- What chunk `j` contributes to element `(r, d)`, before the scaling by one half. -/
def chunk (hn : Vec Ideal S32x1024 .bf16) (x2 x3 : Vec Ideal S11x1024x256 .bf16) (x4 : Vec Ideal S11x256x1024 .bf16)
    (r : Fin 32) (d : Fin 1024) (j : Fin 11) : EReal :=
  ∑ e : Fin 256, gated (fun k => hn (ix2 r k)) (fun k => x2 (ix3 j k e)) (fun k => x3 (ix3 j k e)) * x4 (ix3 j e d)

/-- The output block before trip `k`: the input, plus half of the sum of the earlier chunks' contributions. -/
theorem acc_apply (x0 : Vec Ideal S32x1024 .f32) (hn : Vec Ideal S32x1024 .bf16) (x2 x3 : Vec Ideal S11x1024x256 .bf16)
    (x4 : Vec Ideal S11x256x1024 .bf16) (r : Fin 32) (d : Fin 1024) : ∀ (n : ℕ) (hn' : n ≤ 11),
    acc x0 hn x2 x3 x4 n (ix2 r d) = x0 (ix2 r d) + half * ∑ j : Fin n, chunk hn x2 x3 x4 r d ⟨j.val, by omega⟩
  | 0, _ => by simp [acc]
  | n + 1, h => by
    have hk : n < k0_t1_loop.trips := by rw [trips_eq]; omega
    rw [acc, dif_pos hk, pay3_apply, acc_apply x0 hn x2 x3 x4 r d n (by omega), Fin.sum_univ_castSucc (n := n),
      EReal.left_distrib_of_nonneg_of_ne_top half_nonneg half_ne_top, add_assoc]
    simp only [wcol_apply, wrow_apply]
    rfl

/-! ## The arguments' blocks -/

variable (m : (ℓ : Loc nD τ sig) → Buf (Elt Ideal) ℓ)

/-- The layer's input, the gain, the three weight arrays and the final gain, at an index. -/
abbrev argX (c : Dev nD) (r : Fin 32) (d : Fin 1024) : EReal := m ((c : Thread nD τ).loc main_arg0) (ix2 r d : S32x1024.Idx)
/-- The argument with the norm's scales, element by element. -/
abbrev argG (c : Dev nD) (d : Fin 1024) : EReal := m ((c : Thread nD τ).loc main_arg1) (ix1 d : S1024.Idx)
/-- The argument with the gate weights, element by element. -/
abbrev argWg (c : Dev nD) (k : Fin 1024) (f : Fin 2816) : EReal := m ((c : Thread nD τ).loc main_arg2) (ix2 k f : S1024x2816.Idx)
/-- The argument with the up weights, element by element. -/
abbrev argWu (c : Dev nD) (k : Fin 1024) (f : Fin 2816) : EReal := m ((c : Thread nD τ).loc main_arg3) (ix2 k f : S1024x2816.Idx)
/-- The argument with the down weights, element by element. -/
abbrev argWd (c : Dev nD) (f : Fin 2816) (d : Fin 1024) : EReal := m ((c : Thread nD τ).loc main_arg4) (ix2 f d : S2816x1024.Idx)
/-- The argument with the final norm's scales, element by element. -/
abbrev argF (c : Dev nD) (d : Fin 1024) : EReal := m ((c : Thread nD τ).loc main_arg5) (ix1 d : S1024.Idx)

/-- What the host hands the kernel: the gate weights, cast and cut into chunks of columns. -/
theorem V_v2 (c : Dev nD) : V m c main_v2 = transpose S11x1024x256 [1, 0, 2]
    (shapeCast S1024x11x256 (truncf (F := Ideal) (s := S1024x2816) (φ := .f32) .bf16 (m ((c : Thread nD τ).loc main_arg2)) bitsLt_bf16_f32) shapeCasts_S1024x2816_S1024x11x256)
    transposes_S1024x11x256_S11x1024x256_1_0_2 := by
  unfold V hostOps0
  after_results
  rfl

/-- What the host hands the kernel: the up weights, cast and cut into chunks of columns. -/
theorem V_v5 (c : Dev nD) : V m c main_v5 = transpose S11x1024x256 [1, 0, 2]
    (shapeCast S1024x11x256 (truncf (F := Ideal) (s := S1024x2816) (φ := .f32) .bf16 (m ((c : Thread nD τ).loc main_arg3)) bitsLt_bf16_f32) shapeCasts_S1024x2816_S1024x11x256)
    transposes_S1024x11x256_S11x1024x256_1_0_2 := by
  unfold V hostOps0
  after_results
  rfl

/-- What the host hands the kernel: the down weights, cast and cut into chunks of rows. -/
theorem V_v7 (c : Dev nD) : V m c main_v7 =
    shapeCast S11x256x1024 (truncf (F := Ideal) (s := S2816x1024) (φ := .f32) .bf16 (m ((c : Thread nD τ).loc main_arg4)) bitsLt_bf16_f32) shapeCasts_S2816x1024_S11x256x1024 := by
  unfold V hostOps0
  after_results
  rfl

/-- What the host hands the kernel: the norm's scales as one row. -/
theorem V_v8 (c : Dev nD) : V m c main_v8 =
    shapeCast S1x1024 (m ((c : Thread nD τ).loc main_arg1) : Vec Ideal S1024 .f32) shapeCasts_S1024_S1x1024 := by
  unfold V hostOps0
  after_results
  rfl

/-- What the host hands the kernel: the final norm's scales as one row. -/
theorem V_v9 (c : Dev nD) : V m c main_v9 =
    shapeCast S1x1024 (m ((c : Thread nD τ).loc main_arg5) : Vec Ideal S1024 .f32) shapeCasts_S1024_S1x1024 := by
  unfold V hostOps0
  after_results
  rfl

/-- The windows' block indices at the one point. -/
theorem index0 : ∀ t : Fin grid0.N, win0_0.index t 0 = t.val ∧ win0_0.index t 1 = 0 := by decide +kernel
/-- Window 6 takes, at each grid point, the point's own block of rows. -/
theorem index6 : ∀ t : Fin grid0.N, win0_6.index t 0 = t.val ∧ win0_6.index t 1 = 0 := by decide +kernel
/-- Window 1 takes the whole array at each grid point. -/
theorem index1 : ∀ t : Fin grid0.N, win0_1.index t 0 = 0 ∧ win0_1.index t 1 = 0 := by decide +kernel
/-- Window 5 takes the whole array at each grid point. -/
theorem index5 : ∀ t : Fin grid0.N, win0_5.index t 0 = 0 ∧ win0_5.index t 1 = 0 := by decide +kernel
/-- Window 2 takes the whole array at each grid point. -/
theorem index2 : ∀ t : Fin grid0.N, win0_2.index t 0 = 0 ∧ win0_2.index t 1 = 0 ∧ win0_2.index t 2 = 0 := by decide +kernel
/-- Window 3 takes the whole array at each grid point. -/
theorem index3 : ∀ t : Fin grid0.N, win0_3.index t 0 = 0 ∧ win0_3.index t 1 = 0 ∧ win0_3.index t 2 = 0 := by decide +kernel
/-- Window 4 takes the whole array at each grid point. -/
theorem index4 : ∀ t : Fin grid0.N, win0_4.index t 0 = 0 ∧ win0_4.index t 1 = 0 ∧ win0_4.index t 2 = 0 := by decide +kernel

/-- The array row that row `r` of point `t`'s block is. -/
def row (t : Fin cfg0.N) (r : Fin 32) : Fin 32 := ⟨32 * t.val + r.val, by have := t.isLt; have h : cfg0.N = 1 := N_0; omega⟩

/-- The block of the rows, element by element, as the argument's. -/
theorem iblk0_apply (c : Dev nD) (t : Fin cfg0.N) (r : Fin 32) (d : Fin 1024) :
    (iblk m c 0 t : Vec Ideal S32x1024 .f32) (ix2 r d) = argX m c (row t r) d := by
  have hi := index0 t
  unfold iblk
  rw [View.read_apply]
  show V m c main_arg0 _ = _
  rw [V_main_arg0]
  show m _ _ = m _ _
  congr 1
  funext a
  apply Fin.ext
  match a with
  | ⟨0, _⟩ => show win0_0.index t 0 * 32 + 1 * r.val = 32 * t.val + r.val; omega
  | ⟨1, _⟩ => show win0_0.index t 1 * 1024 + 1 * d.val = d.val; omega

/-- The block of the norm's scales, element by element, as the argument's. -/
theorem iblk1_apply (c : Dev nD) (t : Fin cfg0.N) (d : Fin 1024) :
    (iblk m c 1 t : Vec Ideal S1x1024 .f32) (ix2 0 d) = argG m c d := by
  have hi := index1 t
  unfold iblk
  rw [View.read_apply]
  show V m c main_v8 _ = _
  have e : (((cfg0.win 1).blk t).view.emb (ix2 0 d : S1x1024.Idx)) = (ix2 0 d : S1x1024.Idx) := by
    funext a
    apply Fin.ext
    match a with
    | ⟨0, _⟩ => show win0_1.index t 0 * 1 + 1 * 0 = 0; omega
    | ⟨1, _⟩ => show win0_1.index t 1 * 1024 + 1 * d.val = d.val; omega
  refine (congrArg (V m c main_v8) e).trans ?_
  rw [V_v8]
  pointwise

/-- The block of the gate weights, element by element, as the argument's. -/
theorem iblk2_apply (c : Dev nD) (t : Fin cfg0.N) (j : Fin 11) (k : Fin 1024) (e : Fin 256) :
    (iblk m c 2 t : Vec Ideal S11x1024x256 .bf16) (ix3 j k e) = argWg m c k ⟨256 * j.val + e.val, by omega⟩ := by
  have hi := index2 t
  unfold iblk
  rw [View.read_apply]
  show V m c main_v2 _ = _
  have e : (((cfg0.win 2).blk t).view.emb (ix3 j k e : S11x1024x256.Idx)) = (ix3 j k e : S11x1024x256.Idx) := by
    funext a
    apply Fin.ext
    match a with
    | ⟨0, _⟩ => show win0_2.index t 0 * 11 + 1 * j.val = j.val; omega
    | ⟨1, _⟩ => show win0_2.index t 1 * 1024 + 1 * k.val = k.val; omega
    | ⟨2, _⟩ => show win0_2.index t 2 * 256 + 1 * e.val = e.val; omega
  refine (congrArg (V m c main_v2) e).trans ?_
  rw [V_v2]
  pointwise
  exact congrArg (m ((c : Thread nD τ).loc main_arg2)) (congrArg (ix2 k) (Fin.ext (by show j.val * 256 + _ = 256 * j.val + _; omega)))

/-- The block of the up weights, element by element, as the argument's. -/
theorem iblk3_apply (c : Dev nD) (t : Fin cfg0.N) (j : Fin 11) (k : Fin 1024) (e : Fin 256) :
    (iblk m c 3 t : Vec Ideal S11x1024x256 .bf16) (ix3 j k e) = argWu m c k ⟨256 * j.val + e.val, by omega⟩ := by
  have hi := index3 t
  unfold iblk
  rw [View.read_apply]
  show V m c main_v5 _ = _
  have e : (((cfg0.win 3).blk t).view.emb (ix3 j k e : S11x1024x256.Idx)) = (ix3 j k e : S11x1024x256.Idx) := by
    funext a
    apply Fin.ext
    match a with
    | ⟨0, _⟩ => show win0_3.index t 0 * 11 + 1 * j.val = j.val; omega
    | ⟨1, _⟩ => show win0_3.index t 1 * 1024 + 1 * k.val = k.val; omega
    | ⟨2, _⟩ => show win0_3.index t 2 * 256 + 1 * e.val = e.val; omega
  refine (congrArg (V m c main_v5) e).trans ?_
  rw [V_v5]
  pointwise
  exact congrArg (m ((c : Thread nD τ).loc main_arg3)) (congrArg (ix2 k) (Fin.ext (by show j.val * 256 + _ = 256 * j.val + _; omega)))

/-- The block of the down weights, element by element, as the argument's. -/
theorem iblk4_apply (c : Dev nD) (t : Fin cfg0.N) (j : Fin 11) (e : Fin 256) (d : Fin 1024) :
    (iblk m c 4 t : Vec Ideal S11x256x1024 .bf16) (ix3 j e d) = argWd m c ⟨256 * j.val + e.val, by omega⟩ d := by
  have hi := index4 t
  unfold iblk
  rw [View.read_apply]
  show V m c main_v7 _ = _
  have e : (((cfg0.win 4).blk t).view.emb (ix3 j e d : S11x256x1024.Idx)) = (ix3 j e d : S11x256x1024.Idx) := by
    funext a
    apply Fin.ext
    match a with
    | ⟨0, _⟩ => show win0_4.index t 0 * 11 + 1 * j.val = j.val; omega
    | ⟨1, _⟩ => show win0_4.index t 1 * 256 + 1 * e.val = e.val; omega
    | ⟨2, _⟩ => show win0_4.index t 2 * 1024 + 1 * d.val = d.val; omega
  refine (congrArg (V m c main_v7) e).trans ?_
  rw [V_v7]
  pointwise
  exact congrArg (m ((c : Thread nD τ).loc main_arg4)) (congrArg (fun q => ix2 q d) (Fin.ext (by show j.val * 256 + _ = 256 * j.val + _; omega)))

/-- The block of the final norm's scales, element by element, as the argument's. -/
theorem iblk5_apply (c : Dev nD) (t : Fin cfg0.N) (d : Fin 1024) :
    (iblk m c 5 t : Vec Ideal S1x1024 .f32) (ix2 0 d) = argF m c d := by
  have hi := index5 t
  unfold iblk
  rw [View.read_apply]
  show V m c main_v9 _ = _
  have e : (((cfg0.win 5).blk t).view.emb (ix2 0 d : S1x1024.Idx)) = (ix2 0 d : S1x1024.Idx) := by
    funext a
    apply Fin.ext
    match a with
    | ⟨0, _⟩ => show win0_5.index t 0 * 1 + 1 * 0 = 0; omega
    | ⟨1, _⟩ => show win0_5.index t 1 * 1024 + 1 * d.val = d.val; omega
  refine (congrArg (V m c main_v9) e).trans ?_
  rw [V_v9]
  pointwise

/-! ## The result array -/

/-- The layer at row `r`, column `d`, of any arrays: the row plus half of the gated network's output on the normalized row. -/
def layerAt (x g : Fin 1024 → EReal) (wg wu : Fin 1024 → Fin 2816 → EReal) (wd : Fin 2816 → Fin 1024 → EReal) (d : Fin 1024) : EReal :=
  x d + half * ∑ f : Fin 2816, gated (normed x g) (fun k => wg k f) (fun k => wu k f) * wd f d

/-- The layer's row, normalized once more, at column `d`. -/
def resultAt (x g fg : Fin 1024 → EReal) (wg wu : Fin 1024 → Fin 2816 → EReal) (wd : Fin 2816 → Fin 1024 → EReal) (d : Fin 1024) : EReal :=
  normed (layerAt x g wg wu wd) fg d

/-- The result as an array of device `c`'s arguments. -/
def layer (c : Dev nD) : Vec Ideal S32x1024 .f32 :=
  fun i => resultAt (argX m c (i 0)) (argG m c) (argF m c) (argWg m c) (argWu m c) (argWd m c) (i 1)

/-- A whole output block after the eleven trips, element by element. -/
theorem block_apply (c : Dev nD) (t : Fin cfg0.N) (r : Fin 32) (d : Fin 1024) :
    acc (iblk m c 0 t : Vec Ideal S32x1024 .f32) (k0_pay2 (iblk m c 0 t : Vec Ideal S32x1024 .f32) (iblk m c 1 t : Vec Ideal S1x1024 .f32))
      (iblk m c 2 t : Vec Ideal S11x1024x256 .bf16) (iblk m c 3 t : Vec Ideal S11x1024x256 .bf16) (iblk m c 4 t : Vec Ideal S11x256x1024 .bf16) 11 (ix2 r d)
      = layerAt (argX m c (row t r)) (argG m c) (argWg m c) (argWu m c) (argWd m c) d := by
  rw [acc_apply _ _ _ _ _ _ _ 11 le_rfl]
  unfold layerAt chunk
  rw [sum_chunks]
  simp only [pay2_apply, iblk0_apply, iblk1_apply, iblk2_apply, iblk3_apply, iblk4_apply]

/-- What a point leaves in its output block, element by element. -/
theorem result_apply (c : Dev nD) (t : Fin cfg0.N) (r : Fin 32) (d : Fin 1024) :
    last (acc (iblk m c 0 t : Vec Ideal S32x1024 .f32) (k0_pay2 (iblk m c 0 t : Vec Ideal S32x1024 .f32) (iblk m c 1 t : Vec Ideal S1x1024 .f32))
      (iblk m c 2 t : Vec Ideal S11x1024x256 .bf16) (iblk m c 3 t : Vec Ideal S11x1024x256 .bf16) (iblk m c 4 t : Vec Ideal S11x256x1024 .bf16) 11)
      (iblk m c 5 t : Vec Ideal S1x1024 .f32) (ix2 r d)
      = resultAt (argX m c (row t r)) (argG m c) (argF m c) (argWg m c) (argWu m c) (argWd m c) d := by
  rw [last_apply]
  unfold resultAt
  simp only [block_apply, iblk5_apply]

/-- What point `t` writes back is its block of the layer. -/
theorem flushed_eq (c : Dev nD) (t : Fin cfg0.N) :
    (dats m 0 c).flushed 6 t = ((cfg0.win 6).blk t).view.read (Elt Ideal) (layer m c) := by
  have hi := index6 t
  rw [Value.flushed6_A, out_A]
  funext j
  rw [View.read_apply]
  obtain ⟨r, d, rfl⟩ : ∃ (r : Fin 32) (d : Fin 1024), j = (ix2 r d : S32x1024.Idx) := ⟨j 0, j 1, eq_ix2 (n0 := 32) (n1 := 1024) j⟩
  refine (result_apply m c t r d).trans ?_
  have e : (((cfg0.win 6).blk t).view.emb (ix2 r d : S32x1024.Idx)) = (ix2 (row t r) d : S32x1024.Idx) := by
    funext a
    apply Fin.ext
    match a with
    | ⟨0, _⟩ => show win0_6.index t 0 * 32 + 1 * r.val = 32 * t.val + r.val; omega
    | ⟨1, _⟩ => show win0_6.index t 1 * 1024 + 1 * d.val = d.val; omega
  exact (congrArg (layer m c) e).symm

/-- The one block covers the result. -/
theorem cover (i : S32x1024.Idx) : ∃ t : Fin cfg0.N, (cfg0.win 6).flush t = true ∧ i ∈ ((cfg0.win 6).blk t).view.set := by
  have h0 : (i 0 : Nat) < 32 := (i 0).isLt
  have h1 : (i 1 : Nat) < 1024 := (i 1).isLt
  have hN : cfg0.N = 1 := N_0
  have ht : (i 0 : Nat) / 32 < cfg0.N := by omega
  refine ⟨⟨(i 0 : Nat) / 32, ht⟩, flush0_6 _, ?_⟩
  have hi := index6 ⟨(i 0 : Nat) / 32, ht⟩
  have hx : ∀ t : Fin grid0.N, win0_6.xsize (grid0.coords t) 0 = 32 ∧ win0_6.xsize (grid0.coords t) 1 = 1024 := by decide +kernel
  have hx := hx ⟨(i 0 : Nat) / 32, ht⟩
  show i ∈ ((View.whole main_v10).slice (win0_6.rect ⟨(i 0 : Nat) / 32, ht⟩)).set
  rw [View.set_slice_whole, Rect.mem_set_unit]
  intro a
  match a with
  | ⟨0, _⟩ =>
    show win0_6.index ⟨(i 0 : Nat) / 32, ht⟩ 0 * 32 ≤ (i 0 : Nat) ∧ (i 0 : Nat) < win0_6.index ⟨(i 0 : Nat) / 32, ht⟩ 0 * 32 + win0_6.xsize (grid0.coords ⟨(i 0 : Nat) / 32, ht⟩) 0
    rw [hi.1, hx.1]
    dsimp only
    omega
  | ⟨1, _⟩ =>
    show win0_6.index ⟨(i 0 : Nat) / 32, ht⟩ 1 * 1024 ≤ (i 1 : Nat) ∧ (i 1 : Nat) < win0_6.index ⟨(i 0 : Nat) / 32, ht⟩ 1 * 1024 + win0_6.xsize (grid0.coords ⟨(i 0 : Nat) / 32, ht⟩) 1
    rw [hi.2, hx.2]
    omega

/-- After the run the result array holds the layer. -/
theorem final (c : Dev nD) : (dats m 0 c).arrAt 6 cfg0.N = layer m c :=
  (dats m 0 c).arrAt_eq_of_cover 6 (layer m c) (fun t _ => flushed_eq m c t) cover

/-! ## The reference -/

/-- The reference's rows before the final normalization, element by element: the same layer. -/
theorem ref_rows (x : Vec Ideal Cert.LastSampleRefIdeal.S32x1024 .f32) (g : Vec Ideal Cert.LastSampleRefIdeal.S1024 .f32)
    (w1 w2 : Vec Ideal Cert.LastSampleRefIdeal.S1024x2816 .f32) (w3 : Vec Ideal Cert.LastSampleRefIdeal.S2816x1024 .f32) (r : Fin 32) (d : Fin 1024) :
    Cert.LastSampleRefIdeal.Read.val_main_v20 (F := Ideal) x g w1 w2 w3 (ix2 r d)
      = layerAt (fun k => x (ix2 r k)) (fun k => g (ix1 k)) (fun k f => w1 (ix2 k f)) (fun k f => w2 (ix2 k f)) (fun f k => w3 (ix2 f k)) d := by
  have hn : ∀ k : Fin 1024, Cert.LastSampleRefIdeal.Read.val_main_v12 (F := Ideal) x g (ix2 r k) = normed (fun k => x (ix2 r k)) (fun k => g (ix1 k)) k := by
    intro k
    open Cert.LastSampleRefIdeal.Read in
    pointwise [val_main_v12, val_main_v11, val_main_v10, val_main_v9, val_main_v8, val_main_v7, val_main_v6, val_main_v5, val_main_v4, val_main_v3, val_main_v2, val_main_v1, val_main_v0, val_main_cst, val_main_cst_0, val_main_cst_1]
    rfl
  open Cert.LastSampleRefIdeal.Read in
  pointwise [val_main_v20, val_main_v19, val_main_v18, val_main_v17, val_main_v16, val_main_v15, val_main_v14, val_main_v13, val_main_call0_v5, val_main_call0_v4, val_main_call0_v3, val_main_call0_v2, val_main_call0_v1, val_main_call0_v0, val_main_call0_cst, val_main_call0_cst_0, val_main_cst_2]
  simp only [hn]
  rfl

/-- The reference's result, element by element: the same normalized rows. -/
theorem ref_apply (x : Vec Ideal Cert.LastSampleRefIdeal.S32x1024 .f32) (g fg : Vec Ideal Cert.LastSampleRefIdeal.S1024 .f32)
    (w1 w2 : Vec Ideal Cert.LastSampleRefIdeal.S1024x2816 .f32) (w3 : Vec Ideal Cert.LastSampleRefIdeal.S2816x1024 .f32) (r : Fin 32) (d : Fin 1024) :
    Cert.LastSampleRefIdeal.Read.val_main_v33 (F := Ideal) x g w1 w2 w3 fg (ix2 r d)
      = resultAt (fun k => x (ix2 r k)) (fun k => g (ix1 k)) (fun k => fg (ix1 k)) (fun k f => w1 (ix2 k f)) (fun k f => w2 (ix2 k f)) (fun f k => w3 (ix2 f k)) d := by
  open Cert.LastSampleRefIdeal.Read in
  pointwise [val_main_v33, val_main_v32, val_main_v31, val_main_v30, val_main_v29, val_main_v28, val_main_v27, val_main_v26, val_main_v25, val_main_v24, val_main_v23, val_main_v22, val_main_v21, val_main_cst_3, val_main_cst_4, val_main_cst_5]
  simp only [ref_rows]
  rfl

end Cert.LastSampleIdeal.Block

end
-- ==== Proof.LastSampleClaims.lean ====
module

public import proofs.«01_k».proof.Defs
public import proofs.«01_k».proof.Proof.Gen.LastSample.Frame
public import proofs.«01_k».proof.Proof.LastSampleValue
public import Idealize.ShloMosaic.Lib.Quiescent

@[expose] public section

set_option maxRecDepth 16384

noncomputable section

/-! # The claims about the last feed-forward layer on the sample -/

namespace Cert.Proof.LastSampleClaims

open Idealize.ShloMosaic Idealize.ShloMosaic.TcCoe Idealize.SL.Sem

/-- The kernel, at words, leaves its arguments and its semaphores as it found them. -/
theorem frame_kernel : Cert.quiescent_LastSample := fun m ρ _ => Cert.LastSample.Gen.frame m ρ

/-- The kernel over the extended reals leaves its arguments and its semaphores as it found them. -/
theorem frame_ideal : Cert.quiescent_LastSampleIdeal := fun m ρ _ => Cert.LastSampleIdeal.Gen.frame m ρ

/-- The reference leaves its arguments as it found them; it has no semaphore. -/
theorem frame_ref : Cert.quiescent_LastSampleRefIdeal := fun m ρ _ =>
  (θ_run Cert.LastSampleRefIdeal.defs _ _).mono (fun r h => ⟨fun c => (h c).2, Idealize.ShloMosaic.sem_eq_zero_of_no_sems (by decide) r.2⟩)
    (Cert.LastSampleRefIdeal.Value.run (F := Ideal) m ρ)

/-- The idealized kernel is the kernel's own text. -/
theorem preserves : Cert.preserves_LastSample_LastSampleIdeal := trivial

/-- Over the extended reals the kernel's result array is the reference's. -/
theorem algebraic : Cert.algebraic_LastSampleIdeal_LastSampleRefIdeal := by
  intro m ρ m' ρ' _ hagree
  refine ⟨fun c => (Cert.LastSampleIdeal.Gen.dats m 0 c).arrAt 6 Cert.LastSampleIdeal.cfg0.N, Cert.LastSampleIdeal.Value.run_blocks m ρ, ?_⟩
  refine (θ_run Cert.LastSampleRefIdeal.defs _ _).mono (fun _ h c => ?_) (Cert.LastSampleRefIdeal.Value.run (F := Ideal) m' ρ')
  refine ⟨(h c).1.trans ?_, (h c).2⟩
  obtain ⟨h0, h1, h2, h3, h4, h5⟩ := hagree c
  refine Eq.trans ?_ (Cert.LastSampleIdeal.Block.final m c).symm
  refine (Cert.LastSampleRefIdeal.Read.val_main_v33_eq (F := Ideal) m' c).trans ?_
  rw [h0, h1, h2, h3, h4, h5]
  funext i
  obtain ⟨r, d, rfl⟩ : ∃ (r : Fin 32) (d : Fin 1024), i = (ix2 r d : Cert.LastSampleIdeal.S32x1024.Idx) := ⟨i 0, i 1, eq_ix2 (n0 := 32) (n1 := 1024) i⟩
  exact Cert.LastSampleIdeal.Block.ref_apply _ _ _ _ _ _ r d

end Cert.Proof.LastSampleClaims

end
-- ==== Proof.lean ====
module

public import proofs.«01_k».proof.Defs
public import proofs.«01_k».proof.Proof.FoxClaims
public import proofs.«01_k».proof.Proof.FfnClaims
public import proofs.«01_k».proof.Proof.LastClaims
public import proofs.«01_k».proof.Proof.InClaims
public import proofs.«01_k».proof.Proof.OutClaims
public import proofs.«01_k».proof.Proof.OddClaims
public import proofs.«01_k».proof.Proof.InSampleClaims
public import proofs.«01_k».proof.Proof.OddSampleClaims
public import proofs.«01_k».proof.Proof.LastSampleClaims

@[expose] public section

noncomputable section

namespace Cert.Proof

open Idealize.ShloMosaic Idealize.SL.Sem

/-- Everything the certificate claims. -/
theorem claim : Cert.Claim :=
  ⟨Cert.Fox.Gen.facts, Cert.FoxIdeal.Gen.facts, Cert.FoxRefIdeal.Gen.facts, Cert.Ffn.Gen.facts, Cert.FfnIdeal.Gen.facts, Cert.FfnRefIdeal.Gen.facts,
    Cert.Last.Gen.facts, Cert.LastIdeal.Gen.facts, Cert.LastRefIdeal.Gen.facts, Cert.In.Gen.facts, Cert.InIdeal.Gen.facts, Cert.InRefIdeal.Gen.facts,
    Cert.Out.Gen.facts, Cert.OutIdeal.Gen.facts, Cert.OutRefIdeal.Gen.facts, Cert.Odd.Gen.facts, Cert.OddIdeal.Gen.facts, Cert.OddRefIdeal.Gen.facts,
    Cert.InSample.Gen.facts, Cert.InSampleIdeal.Gen.facts, Cert.InSampleRefIdeal.Gen.facts,
    Cert.OddSample.Gen.facts, Cert.OddSampleIdeal.Gen.facts, Cert.OddSampleRefIdeal.Gen.facts,
    Cert.LastSample.Gen.facts, Cert.LastSampleIdeal.Gen.facts, Cert.LastSampleRefIdeal.Gen.facts,
    Cert.Pre_finite.Decode.facts,
    FoxClaims.frame_kernel, FoxClaims.frame_ideal, FoxClaims.frame_ideal_finite, FoxClaims.frame_ref, FoxClaims.frame_ref_finite,
    FfnClaims.frame_kernel, FfnClaims.frame_ideal, FfnClaims.frame_ref,
    LastClaims.frame_kernel, LastClaims.frame_ideal, LastClaims.frame_ref,
    InClaims.frame_kernel, InClaims.frame_ideal, InClaims.frame_ref,
    OutClaims.frame_kernel, OutClaims.frame_ideal, OutClaims.frame_ref,
    OddClaims.frame_kernel, OddClaims.frame_ideal, OddClaims.frame_ref,
    InSampleClaims.frame_kernel, InSampleClaims.frame_ideal, InSampleClaims.frame_ref,
    OddSampleClaims.frame_kernel, OddSampleClaims.frame_ideal, OddSampleClaims.frame_ref,
    LastSampleClaims.frame_kernel, LastSampleClaims.frame_ideal, LastSampleClaims.frame_ref,
    FoxClaims.preserves, FoxClaims.algebraic, FfnClaims.preserves, FfnClaims.algebraic,
    LastClaims.preserves, LastClaims.algebraic, InClaims.preserves, InClaims.algebraic,
    OutClaims.preserves, OutClaims.algebraic, OddClaims.preserves, OddClaims.algebraic,
    InSampleClaims.preserves, InSampleClaims.algebraic,
    OddSampleClaims.preserves, OddSampleClaims.algebraic,
    LastSampleClaims.preserves, LastSampleClaims.algebraic⟩

end Cert.Proof

end
